-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_GdnInS (m : (ℓ : Loc Cert.GdnInS.nD Cert.GdnInS.τ Cert.GdnInS.sig) → Buf (Elt Bits) ℓ) : Prop :=
  True

def Pre_GdnInSIdeal (m : (ℓ : Loc Cert.GdnInSIdeal.nD Cert.GdnInSIdeal.τ Cert.GdnInSIdeal.sig) → Buf (Elt Ideal) ℓ) : Prop :=
  True

def Pre_GdnInSRefIdeal (m : (ℓ : Loc Cert.GdnInSRefIdeal.nD Cert.GdnInSRefIdeal.τ Cert.GdnInSRefIdeal.sig) → Buf (Elt Ideal) ℓ) : Prop :=
  True

def Pre_NsaQ (m : (ℓ : Loc Cert.NsaQ.nD Cert.NsaQ.τ Cert.NsaQ.sig) → Buf (Elt Bits) ℓ) : Prop :=
  True

def Pre_NsaQIdeal (m : (ℓ : Loc Cert.NsaQIdeal.nD Cert.NsaQIdeal.τ Cert.NsaQIdeal.sig) → Buf (Elt Ideal) ℓ) : Prop :=
  True

def Pre_NsaQRefIdeal (m : (ℓ : Loc Cert.NsaQRefIdeal.nD Cert.NsaQRefIdeal.τ Cert.NsaQRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownN (m : (ℓ : Loc Cert.FfnDownN.nD Cert.FfnDownN.τ Cert.FfnDownN.sig) → Buf (Elt Bits) ℓ) : Prop :=
  True

def Pre_FfnDownNIdeal (m : (ℓ : Loc Cert.FfnDownNIdeal.nD Cert.FfnDownNIdeal.τ Cert.FfnDownNIdeal.sig) → Buf (Elt Ideal) ℓ) : Prop :=
  True

def Pre_FfnDownNRefIdeal (m : (ℓ : Loc Cert.FfnDownNRefIdeal.nD Cert.FfnDownNRefIdeal.τ Cert.FfnDownNRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUpS (m : (ℓ : Loc Cert.FfnUpS.nD Cert.FfnUpS.τ Cert.FfnUpS.sig) → Buf (Elt Bits) ℓ) : Prop :=
  True

def Pre_FfnUpSIdeal (m : (ℓ : Loc Cert.FfnUpSIdeal.nD Cert.FfnUpSIdeal.τ Cert.FfnUpSIdeal.sig) → Buf (Elt Ideal) ℓ) : Prop :=
  True

def Pre_FfnUpSRefIdeal (m : (ℓ : Loc Cert.FfnUpSRefIdeal.nD Cert.FfnUpSRefIdeal.τ Cert.FfnUpSRefIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsRefIdeal (m : (ℓ : Loc Cert.KvRowsRefIdeal.nD Cert.KvRowsRefIdeal.τ Cert.KvRowsRefIdeal.sig) → Buf (Elt Ideal) ℓ) : Prop :=
  True

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2))
      ∧ r.2.sem = fun _ => 0)

def quiescent_GdnInS [hGdnInS : Cert.GdnInS.Facts] : Prop :=
  ∀ (m : (ℓ : Loc Cert.GdnInS.nD Cert.GdnInS.τ Cert.GdnInS.sig) → Buf (Elt Bits) ℓ) (g : Dev Cert.GdnInS.nD → PrngReg), Pre_GdnInS m →
    θ_run (Cert.GdnInS.defs (F := Bits)) (onTc (τ := Cert.GdnInS.τ) (Cert.GdnInS.main (F := Bits))) ⟨m, fun _ => 0, g⟩ (fun r => (∀ c : Dev Cert.GdnInS.nD,
      r.2.mem ((c.tc : Thread Cert.GdnInS.nD Cert.GdnInS.τ).loc Cert.GdnInS.main_arg0) = m ((c.tc : Thread Cert.GdnInS.nD Cert.GdnInS.τ).loc Cert.GdnInS.main_arg0)
      ∧ r.2.mem ((c.tc : Thread Cert.GdnInS.nD Cert.GdnInS.τ).loc Cert.GdnInS.main_arg1) = m ((c.tc : Thread Cert.GdnInS.nD Cert.GdnInS.τ).loc Cert.GdnInS.main_arg1)
      ∧ r.2.mem ((c.tc : Thread Cert.GdnInS.nD Cert.GdnInS.τ).loc Cert.GdnInS.main_arg2) = m ((c.tc : Thread Cert.GdnInS.nD Cert.GdnInS.τ).loc Cert.GdnInS.main_arg2)
      ∧ r.2.mem ((c.tc : Thread Cert.GdnInS.nD Cert.GdnInS.τ).loc Cert.GdnInS.main_arg3) = m ((c.tc : Thread Cert.GdnInS.nD Cert.GdnInS.τ).loc Cert.GdnInS.main_arg3))
      ∧ r.2.sem = fun _ => 0)

def quiescent_GdnInSIdeal [hGdnInSIdeal : Cert.GdnInSIdeal.Facts] : Prop :=
  ∀ (m : (ℓ : Loc Cert.GdnInSIdeal.nD Cert.GdnInSIdeal.τ Cert.GdnInSIdeal.sig) → Buf (Elt Ideal) ℓ) (g : Dev Cert.GdnInSIdeal.nD → PrngReg), Pre_GdnInSIdeal m →
    θ_run (Cert.GdnInSIdeal.defs (F := Ideal)) (onTc (τ := Cert.GdnInSIdeal.τ) (Cert.GdnInSIdeal.main (F := Ideal))) ⟨m, fun _ => 0, g⟩ (fun r => (∀ c : Dev Cert.GdnInSIdeal.nD,
      r.2.mem ((c.tc : Thread Cert.GdnInSIdeal.nD Cert.GdnInSIdeal.τ).loc Cert.GdnInSIdeal.main_arg0) = m ((c.tc : Thread Cert.GdnInSIdeal.nD Cert.GdnInSIdeal.τ).loc Cert.GdnInSIdeal.main_arg0)
      ∧ r.2.mem ((c.tc : Thread Cert.GdnInSIdeal.nD Cert.GdnInSIdeal.τ).loc Cert.GdnInSIdeal.main_arg1) = m ((c.tc : Thread Cert.GdnInSIdeal.nD Cert.GdnInSIdeal.τ).loc Cert.GdnInSIdeal.main_arg1)
      ∧ r.2.mem ((c.tc : Thread Cert.GdnInSIdeal.nD Cert.GdnInSIdeal.τ).loc Cert.GdnInSIdeal.main_arg2) = m ((c.tc : Thread Cert.GdnInSIdeal.nD Cert.GdnInSIdeal.τ).loc Cert.GdnInSIdeal.main_arg2)
      ∧ r.2.mem ((c.tc : Thread Cert.GdnInSIdeal.nD Cert.GdnInSIdeal.τ).loc Cert.GdnInSIdeal.main_arg3) = m ((c.tc : Thread Cert.GdnInSIdeal.nD Cert.GdnInSIdeal.τ).loc Cert.GdnInSIdeal.main_arg3))
      ∧ r.2.sem = fun _ => 0)

def quiescent_GdnInSRefIdeal [hGdnInSRefIdeal : Cert.GdnInSRefIdeal.Facts] : Prop :=
  ∀ (m : (ℓ : Loc Cert.GdnInSRefIdeal.nD Cert.GdnInSRefIdeal.τ Cert.GdnInSRefIdeal.sig) → Buf (Elt Ideal) ℓ) (g : Dev Cert.GdnInSRefIdeal.nD → PrngReg), Pre_GdnInSRefIdeal m →
    θ_run (Cert.GdnInSRefIdeal.defs (F := Ideal)) (onTc (τ := Cert.GdnInSRefIdeal.τ) (Cert.GdnInSRefIdeal.main (F := Ideal))) ⟨m, fun _ => 0, g⟩ (fun r => (∀ c : Dev Cert.GdnInSRefIdeal.nD,
      r.2.mem ((c.tc : Thread Cert.GdnInSRefIdeal.nD Cert.GdnInSRefIdeal.τ).loc Cert.GdnInSRefIdeal.main_arg0) = m ((c.tc : Thread Cert.GdnInSRefIdeal.nD Cert.GdnInSRefIdeal.τ).loc Cert.GdnInSRefIdeal.main_arg0)
      ∧ r.2.mem ((c.tc : Thread Cert.GdnInSRefIdeal.nD Cert.GdnInSRefIdeal.τ).loc Cert.GdnInSRefIdeal.main_arg1) = m ((c.tc : Thread Cert.GdnInSRefIdeal.nD Cert.GdnInSRefIdeal.τ).loc Cert.GdnInSRefIdeal.main_arg1)
      ∧ r.2.mem ((c.tc : Thread Cert.GdnInSRefIdeal.nD Cert.GdnInSRefIdeal.τ).loc Cert.GdnInSRefIdeal.main_arg2) = m ((c.tc : Thread Cert.GdnInSRefIdeal.nD Cert.GdnInSRefIdeal.τ).loc Cert.GdnInSRefIdeal.main_arg2)
      ∧ r.2.mem ((c.tc : Thread Cert.GdnInSRefIdeal.nD Cert.GdnInSRefIdeal.τ).loc Cert.GdnInSRefIdeal.main_arg3) = m ((c.tc : Thread Cert.GdnInSRefIdeal.nD Cert.GdnInSRefIdeal.τ).loc Cert.GdnInSRefIdeal.main_arg3))
      ∧ r.2.sem = fun _ => 0)

def quiescent_NsaQ [hNsaQ : Cert.NsaQ.Facts] : Prop :=
  ∀ (m : (ℓ : Loc Cert.NsaQ.nD Cert.NsaQ.τ Cert.NsaQ.sig) → Buf (Elt Bits) ℓ) (g : Dev Cert.NsaQ.nD → PrngReg), Pre_NsaQ m →
    θ_run (Cert.NsaQ.defs (F := Bits)) (onTc (τ := Cert.NsaQ.τ) (Cert.NsaQ.main (F := Bits))) ⟨m, fun _ => 0, g⟩ (fun r => (∀ c : Dev Cert.NsaQ.nD,
      r.2.mem ((c.tc : Thread Cert.NsaQ.nD Cert.NsaQ.τ).loc Cert.NsaQ.main_arg0) = m ((c.tc : Thread Cert.NsaQ.nD Cert.NsaQ.τ).loc Cert.NsaQ.main_arg0)
      ∧ r.2.mem ((c.tc : Thread Cert.NsaQ.nD Cert.NsaQ.τ).loc Cert.NsaQ.main_arg1) = m ((c.tc : Thread Cert.NsaQ.nD Cert.NsaQ.τ).loc Cert.NsaQ.main_arg1)
      ∧ r.2.mem ((c.tc : Thread Cert.NsaQ.nD Cert.NsaQ.τ).loc Cert.NsaQ.main_arg2) = m ((c.tc : Thread Cert.NsaQ.nD Cert.NsaQ.τ).loc Cert.NsaQ.main_arg2))
      ∧ r.2.sem = fun _ => 0)

def quiescent_NsaQIdeal [hNsaQIdeal : Cert.NsaQIdeal.Facts] : Prop :=
  ∀ (m : (ℓ : Loc Cert.NsaQIdeal.nD Cert.NsaQIdeal.τ Cert.NsaQIdeal.sig) → Buf (Elt Ideal) ℓ) (g : Dev Cert.NsaQIdeal.nD → PrngReg), Pre_NsaQIdeal m →
    θ_run (Cert.NsaQIdeal.defs (F := Ideal)) (onTc (τ := Cert.NsaQIdeal.τ) (Cert.NsaQIdeal.main (F := Ideal))) ⟨m, fun _ => 0, g⟩ (fun r => (∀ c : Dev Cert.NsaQIdeal.nD,
      r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
      ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1)
      ∧ r.2.mem ((c.tc : Thread Cert.NsaQIdeal.nD Cert.NsaQIdeal.τ).loc Cert.NsaQIdeal.main_arg2) = m ((c.tc : Thread Cert.NsaQIdeal.nD Cert.NsaQIdeal.τ).loc Cert.NsaQIdeal.main_arg2))
      ∧ r.2.sem = fun _ => 0)

def quiescent_NsaQRefIdeal [hNsaQRefIdeal : Cert.NsaQRefIdeal.Facts] : Prop :=
  ∀ (m : (ℓ : Loc Cert.NsaQRefIdeal.nD Cert.NsaQRefIdeal.τ Cert.NsaQRefIdeal.sig) → Buf (Elt Ideal) ℓ) (g : Dev Cert.NsaQRefIdeal.nD → PrngReg), Pre_NsaQRefIdeal m →
    θ_run (Cert.NsaQRefIdeal.defs (F := Ideal)) (onTc (τ := Cert.NsaQRefIdeal.τ) (Cert.NsaQRefIdeal.main (F := Ideal))) ⟨m, fun _ => 0, g⟩ (fun r => (∀ c : Dev Cert.NsaQRefIdeal.nD,
      r.2.mem ((c.tc : Thread Cert.NsaQRefIdeal.nD Cert.NsaQRefIdeal.τ).loc Cert.NsaQRefIdeal.main_arg0) = m ((c.tc : Thread Cert.NsaQRefIdeal.nD Cert.NsaQRefIdeal.τ).loc Cert.NsaQRefIdeal.main_arg0)
      ∧ r.2.mem ((c.tc : Thread Cert.NsaQRefIdeal.nD Cert.NsaQRefIdeal.τ).loc Cert.NsaQRefIdeal.main_arg1) = m ((c.tc : Thread Cert.NsaQRefIdeal.nD Cert.NsaQRefIdeal.τ).loc Cert.NsaQRefIdeal.main_arg1)
      ∧ r.2.mem ((c.tc : Thread Cert.NsaQRefIdeal.nD Cert.NsaQRefIdeal.τ).loc Cert.NsaQRefIdeal.main_arg2) = m ((c.tc : Thread Cert.NsaQRefIdeal.nD Cert.NsaQRefIdeal.τ).loc Cert.NsaQRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDownN [hFfnDownN : Cert.FfnDownN.Facts] : Prop :=
  ∀ (m : (ℓ : Loc Cert.FfnDownN.nD Cert.FfnDownN.τ Cert.FfnDownN.sig) → Buf (Elt Bits) ℓ) (g : Dev Cert.FfnDownN.nD → PrngReg), Pre_FfnDownN m →
    θ_run (Cert.FfnDownN.defs (F := Bits)) (onTc (τ := Cert.FfnDownN.τ) (Cert.FfnDownN.main (F := Bits))) ⟨m, fun _ => 0, g⟩ (fun r => (∀ c : Dev Cert.FfnDownN.nD,
      r.2.mem ((c.tc : Thread Cert.FfnDownN.nD Cert.FfnDownN.τ).loc Cert.FfnDownN.main_arg0) = m ((c.tc : Thread Cert.FfnDownN.nD Cert.FfnDownN.τ).loc Cert.FfnDownN.main_arg0)
      ∧ r.2.mem ((c.tc : Thread Cert.FfnDownN.nD Cert.FfnDownN.τ).loc Cert.FfnDownN.main_arg1) = m ((c.tc : Thread Cert.FfnDownN.nD Cert.FfnDownN.τ).loc Cert.FfnDownN.main_arg1)
      ∧ r.2.mem ((c.tc : Thread Cert.FfnDownN.nD Cert.FfnDownN.τ).loc Cert.FfnDownN.main_arg2) = m ((c.tc : Thread Cert.FfnDownN.nD Cert.FfnDownN.τ).loc Cert.FfnDownN.main_arg2)
      ∧ r.2.mem ((c.tc : Thread Cert.FfnDownN.nD Cert.FfnDownN.τ).loc Cert.FfnDownN.main_arg3) = m ((c.tc : Thread Cert.FfnDownN.nD Cert.FfnDownN.τ).loc Cert.FfnDownN.main_arg3))
      ∧ r.2.sem = fun _ => 0)

def quiescent_FfnDownNIdeal [hFfnDownNIdeal : Cert.FfnDownNIdeal.Facts] : Prop :=
  ∀ (m : (ℓ : Loc Cert.FfnDownNIdeal.nD Cert.FfnDownNIdeal.τ Cert.FfnDownNIdeal.sig) → Buf (Elt Ideal) ℓ) (g : Dev Cert.FfnDownNIdeal.nD → PrngReg), Pre_FfnDownNIdeal m →
    θ_run (Cert.FfnDownNIdeal.defs (F := Ideal)) (onTc (τ := Cert.FfnDownNIdeal.τ) (Cert.FfnDownNIdeal.main (F := Ideal))) ⟨m, fun _ => 0, g⟩ (fun r => (∀ c : Dev Cert.FfnDownNIdeal.nD,
      r.2.mem ((c.tc : Thread Cert.FfnDownNIdeal.nD Cert.FfnDownNIdeal.τ).loc Cert.FfnDownNIdeal.main_arg0) = m ((c.tc : Thread Cert.FfnDownNIdeal.nD Cert.FfnDownNIdeal.τ).loc Cert.FfnDownNIdeal.main_arg0)
      ∧ r.2.mem ((c.tc : Thread Cert.FfnDownNIdeal.nD Cert.FfnDownNIdeal.τ).loc Cert.FfnDownNIdeal.main_arg1) = m ((c.tc : Thread Cert.FfnDownNIdeal.nD Cert.FfnDownNIdeal.τ).loc Cert.FfnDownNIdeal.main_arg1)
      ∧ r.2.mem ((c.tc : Thread Cert.FfnDownNIdeal.nD Cert.FfnDownNIdeal.τ).loc Cert.FfnDownNIdeal.main_arg2) = m ((c.tc : Thread Cert.FfnDownNIdeal.nD Cert.FfnDownNIdeal.τ).loc Cert.FfnDownNIdeal.main_arg2)
      ∧ r.2.mem ((c.tc : Thread Cert.FfnDownNIdeal.nD Cert.FfnDownNIdeal.τ).loc Cert.FfnDownNIdeal.main_arg3) = m ((c.tc : Thread Cert.FfnDownNIdeal.nD Cert.FfnDownNIdeal.τ).loc Cert.FfnDownNIdeal.main_arg3))
      ∧ r.2.sem = fun _ => 0)

def quiescent_FfnDownNRefIdeal [hFfnDownNRefIdeal : Cert.FfnDownNRefIdeal.Facts] : Prop :=
  ∀ (m : (ℓ : Loc Cert.FfnDownNRefIdeal.nD Cert.FfnDownNRefIdeal.τ Cert.FfnDownNRefIdeal.sig) → Buf (Elt Ideal) ℓ) (g : Dev Cert.FfnDownNRefIdeal.nD → PrngReg), Pre_FfnDownNRefIdeal m →
    θ_run (Cert.FfnDownNRefIdeal.defs (F := Ideal)) (onTc (τ := Cert.FfnDownNRefIdeal.τ) (Cert.FfnDownNRefIdeal.main (F := Ideal))) ⟨m, fun _ => 0, g⟩ (fun r => (∀ c : Dev Cert.FfnDownNRefIdeal.nD,
      r.2.mem ((c.tc : Thread Cert.FfnDownNRefIdeal.nD Cert.FfnDownNRefIdeal.τ).loc Cert.FfnDownNRefIdeal.main_arg0) = m ((c.tc : Thread Cert.FfnDownNRefIdeal.nD Cert.FfnDownNRefIdeal.τ).loc Cert.FfnDownNRefIdeal.main_arg0)
      ∧ r.2.mem ((c.tc : Thread Cert.FfnDownNRefIdeal.nD Cert.FfnDownNRefIdeal.τ).loc Cert.FfnDownNRefIdeal.main_arg1) = m ((c.tc : Thread Cert.FfnDownNRefIdeal.nD Cert.FfnDownNRefIdeal.τ).loc Cert.FfnDownNRefIdeal.main_arg1)
      ∧ r.2.mem ((c.tc : Thread Cert.FfnDownNRefIdeal.nD Cert.FfnDownNRefIdeal.τ).loc Cert.FfnDownNRefIdeal.main_arg2) = m ((c.tc : Thread Cert.FfnDownNRefIdeal.nD Cert.FfnDownNRefIdeal.τ).loc Cert.FfnDownNRefIdeal.main_arg2)
      ∧ r.2.mem ((c.tc : Thread Cert.FfnDownNRefIdeal.nD Cert.FfnDownNRefIdeal.τ).loc Cert.FfnDownNRefIdeal.main_arg3) = m ((c.tc : Thread Cert.FfnDownNRefIdeal.nD Cert.FfnDownNRefIdeal.τ).loc Cert.FfnDownNRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_FfnUpS [hFfnUpS : Cert.FfnUpS.Facts] : Prop :=
  ∀ (m : (ℓ : Loc Cert.FfnUpS.nD Cert.FfnUpS.τ Cert.FfnUpS.sig) → Buf (Elt Bits) ℓ) (g : Dev Cert.FfnUpS.nD → PrngReg), Pre_FfnUpS m →
    θ_run (Cert.FfnUpS.defs (F := Bits)) (onTc (τ := Cert.FfnUpS.τ) (Cert.FfnUpS.main (F := Bits))) ⟨m, fun _ => 0, g⟩ (fun r => (∀ c : Dev Cert.FfnUpS.nD,
      r.2.mem ((c.tc : Thread Cert.FfnUpS.nD Cert.FfnUpS.τ).loc Cert.FfnUpS.main_arg0) = m ((c.tc : Thread Cert.FfnUpS.nD Cert.FfnUpS.τ).loc Cert.FfnUpS.main_arg0)
      ∧ r.2.mem ((c.tc : Thread Cert.FfnUpS.nD Cert.FfnUpS.τ).loc Cert.FfnUpS.main_arg1) = m ((c.tc : Thread Cert.FfnUpS.nD Cert.FfnUpS.τ).loc Cert.FfnUpS.main_arg1)
      ∧ r.2.mem ((c.tc : Thread Cert.FfnUpS.nD Cert.FfnUpS.τ).loc Cert.FfnUpS.main_arg2) = m ((c.tc : Thread Cert.FfnUpS.nD Cert.FfnUpS.τ).loc Cert.FfnUpS.main_arg2)
      ∧ r.2.mem ((c.tc : Thread Cert.FfnUpS.nD Cert.FfnUpS.τ).loc Cert.FfnUpS.main_arg3) = m ((c.tc : Thread Cert.FfnUpS.nD Cert.FfnUpS.τ).loc Cert.FfnUpS.main_arg3)
      ∧ r.2.mem ((c.tc : Thread Cert.FfnUpS.nD Cert.FfnUpS.τ).loc Cert.FfnUpS.main_arg4) = m ((c.tc : Thread Cert.FfnUpS.nD Cert.FfnUpS.τ).loc Cert.FfnUpS.main_arg4)
      ∧ r.2.mem ((c.tc : Thread Cert.FfnUpS.nD Cert.FfnUpS.τ).loc Cert.FfnUpS.main_arg5) = m ((c.tc : Thread Cert.FfnUpS.nD Cert.FfnUpS.τ).loc Cert.FfnUpS.main_arg5)
      ∧ r.2.mem ((c.tc : Thread Cert.FfnUpS.nD Cert.FfnUpS.τ).loc Cert.FfnUpS.main_arg6) = m ((c.tc : Thread Cert.FfnUpS.nD Cert.FfnUpS.τ).loc Cert.FfnUpS.main_arg6))
      ∧ r.2.sem = fun _ => 0)

def quiescent_FfnUpSIdeal [hFfnUpSIdeal : Cert.FfnUpSIdeal.Facts] : Prop :=
  ∀ (m : (ℓ : Loc Cert.FfnUpSIdeal.nD Cert.FfnUpSIdeal.τ Cert.FfnUpSIdeal.sig) → Buf (Elt Ideal) ℓ) (g : Dev Cert.FfnUpSIdeal.nD → PrngReg), Pre_FfnUpSIdeal m →
    θ_run (Cert.FfnUpSIdeal.defs (F := Ideal)) (onTc (τ := Cert.FfnUpSIdeal.τ) (Cert.FfnUpSIdeal.main (F := Ideal))) ⟨m, fun _ => 0, g⟩ (fun r => (∀ c : Dev Cert.FfnUpSIdeal.nD,
      r.2.mem ((c.tc : Thread Cert.FfnUpSIdeal.nD Cert.FfnUpSIdeal.τ).loc Cert.FfnUpSIdeal.main_arg0) = m ((c.tc : Thread Cert.FfnUpSIdeal.nD Cert.FfnUpSIdeal.τ).loc Cert.FfnUpSIdeal.main_arg0)
      ∧ r.2.mem ((c.tc : Thread Cert.FfnUpSIdeal.nD Cert.FfnUpSIdeal.τ).loc Cert.FfnUpSIdeal.main_arg1) = m ((c.tc : Thread Cert.FfnUpSIdeal.nD Cert.FfnUpSIdeal.τ).loc Cert.FfnUpSIdeal.main_arg1)
      ∧ r.2.mem ((c.tc : Thread Cert.FfnUpSIdeal.nD Cert.FfnUpSIdeal.τ).loc Cert.FfnUpSIdeal.main_arg2) = m ((c.tc : Thread Cert.FfnUpSIdeal.nD Cert.FfnUpSIdeal.τ).loc Cert.FfnUpSIdeal.main_arg2)
      ∧ r.2.mem ((c.tc : Thread Cert.FfnUpSIdeal.nD Cert.FfnUpSIdeal.τ).loc Cert.FfnUpSIdeal.main_arg3) = m ((c.tc : Thread Cert.FfnUpSIdeal.nD Cert.FfnUpSIdeal.τ).loc Cert.FfnUpSIdeal.main_arg3)
      ∧ r.2.mem ((c.tc : Thread Cert.FfnUpSIdeal.nD Cert.FfnUpSIdeal.τ).loc Cert.FfnUpSIdeal.main_arg4) = m ((c.tc : Thread Cert.FfnUpSIdeal.nD Cert.FfnUpSIdeal.τ).loc Cert.FfnUpSIdeal.main_arg4)
      ∧ r.2.mem ((c.tc : Thread Cert.FfnUpSIdeal.nD Cert.FfnUpSIdeal.τ).loc Cert.FfnUpSIdeal.main_arg5) = m ((c.tc : Thread Cert.FfnUpSIdeal.nD Cert.FfnUpSIdeal.τ).loc Cert.FfnUpSIdeal.main_arg5)
      ∧ r.2.mem ((c.tc : Thread Cert.FfnUpSIdeal.nD Cert.FfnUpSIdeal.τ).loc Cert.FfnUpSIdeal.main_arg6) = m ((c.tc : Thread Cert.FfnUpSIdeal.nD Cert.FfnUpSIdeal.τ).loc Cert.FfnUpSIdeal.main_arg6))
      ∧ r.2.sem = fun _ => 0)

def quiescent_FfnUpSRefIdeal [hFfnUpSRefIdeal : Cert.FfnUpSRefIdeal.Facts] : Prop :=
  ∀ (m : (ℓ : Loc Cert.FfnUpSRefIdeal.nD Cert.FfnUpSRefIdeal.τ Cert.FfnUpSRefIdeal.sig) → Buf (Elt Ideal) ℓ) (g : Dev Cert.FfnUpSRefIdeal.nD → PrngReg), Pre_FfnUpSRefIdeal m →
    θ_run (Cert.FfnUpSRefIdeal.defs (F := Ideal)) (onTc (τ := Cert.FfnUpSRefIdeal.τ) (Cert.FfnUpSRefIdeal.main (F := Ideal))) ⟨m, fun _ => 0, g⟩ (fun r => (∀ c : Dev Cert.FfnUpSRefIdeal.nD,
      r.2.mem ((c.tc : Thread Cert.FfnUpSRefIdeal.nD Cert.FfnUpSRefIdeal.τ).loc Cert.FfnUpSRefIdeal.main_arg0) = m ((c.tc : Thread Cert.FfnUpSRefIdeal.nD Cert.FfnUpSRefIdeal.τ).loc Cert.FfnUpSRefIdeal.main_arg0)
      ∧ r.2.mem ((c.tc : Thread Cert.FfnUpSRefIdeal.nD Cert.FfnUpSRefIdeal.τ).loc Cert.FfnUpSRefIdeal.main_arg1) = m ((c.tc : Thread Cert.FfnUpSRefIdeal.nD Cert.FfnUpSRefIdeal.τ).loc Cert.FfnUpSRefIdeal.main_arg1)
      ∧ r.2.mem ((c.tc : Thread Cert.FfnUpSRefIdeal.nD Cert.FfnUpSRefIdeal.τ).loc Cert.FfnUpSRefIdeal.main_arg2) = m ((c.tc : Thread Cert.FfnUpSRefIdeal.nD Cert.FfnUpSRefIdeal.τ).loc Cert.FfnUpSRefIdeal.main_arg2)
      ∧ r.2.mem ((c.tc : Thread Cert.FfnUpSRefIdeal.nD Cert.FfnUpSRefIdeal.τ).loc Cert.FfnUpSRefIdeal.main_arg3) = m ((c.tc : Thread Cert.FfnUpSRefIdeal.nD Cert.FfnUpSRefIdeal.τ).loc Cert.FfnUpSRefIdeal.main_arg3)
      ∧ r.2.mem ((c.tc : Thread Cert.FfnUpSRefIdeal.nD Cert.FfnUpSRefIdeal.τ).loc Cert.FfnUpSRefIdeal.main_arg4) = m ((c.tc : Thread Cert.FfnUpSRefIdeal.nD Cert.FfnUpSRefIdeal.τ).loc Cert.FfnUpSRefIdeal.main_arg4)
      ∧ r.2.mem ((c.tc : Thread Cert.FfnUpSRefIdeal.nD Cert.FfnUpSRefIdeal.τ).loc Cert.FfnUpSRefIdeal.main_arg5) = m ((c.tc : Thread Cert.FfnUpSRefIdeal.nD Cert.FfnUpSRefIdeal.τ).loc Cert.FfnUpSRefIdeal.main_arg5)
      ∧ r.2.mem ((c.tc : Thread Cert.FfnUpSRefIdeal.nD Cert.FfnUpSRefIdeal.τ).loc Cert.FfnUpSRefIdeal.main_arg6) = m ((c.tc : Thread Cert.FfnUpSRefIdeal.nD Cert.FfnUpSRefIdeal.τ).loc Cert.FfnUpSRefIdeal.main_arg6))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1)
      ∧ r.2.mem ((c.tc : Thread Cert.KvRows.nD Cert.KvRows.τ).loc Cert.KvRows.main_arg2) = m ((c.tc : Thread Cert.KvRows.nD Cert.KvRows.τ).loc Cert.KvRows.main_arg2)
      ∧ r.2.mem ((c.tc : Thread Cert.KvRows.nD Cert.KvRows.τ).loc Cert.KvRows.main_arg3) = m ((c.tc : Thread Cert.KvRows.nD Cert.KvRows.τ).loc Cert.KvRows.main_arg3)
      ∧ r.2.mem ((c.tc : Thread Cert.KvRows.nD Cert.KvRows.τ).loc Cert.KvRows.main_arg4) = m ((c.tc : Thread Cert.KvRows.nD Cert.KvRows.τ).loc Cert.KvRows.main_arg4))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
      ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
      ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
      ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ r.2.sem = fun _ => 0)

def quiescent_KvRowsRefIdeal [hKvRowsRefIdeal : Cert.KvRowsRefIdeal.Facts] : Prop :=
  ∀ (m : (ℓ : Loc Cert.KvRowsRefIdeal.nD Cert.KvRowsRefIdeal.τ Cert.KvRowsRefIdeal.sig) → Buf (Elt Ideal) ℓ) (g : Dev Cert.KvRowsRefIdeal.nD → PrngReg), Pre_KvRowsRefIdeal m →
    θ_run (Cert.KvRowsRefIdeal.defs (F := Ideal)) (onTc (τ := Cert.KvRowsRefIdeal.τ) (Cert.KvRowsRefIdeal.main (F := Ideal))) ⟨m, fun _ => 0, g⟩ (fun r => (∀ c : Dev Cert.KvRowsRefIdeal.nD,
      r.2.mem ((c.tc : Thread Cert.KvRowsRefIdeal.nD Cert.KvRowsRefIdeal.τ).loc Cert.KvRowsRefIdeal.main_arg0) = m ((c.tc : Thread Cert.KvRowsRefIdeal.nD Cert.KvRowsRefIdeal.τ).loc Cert.KvRowsRefIdeal.main_arg0)
      ∧ r.2.mem ((c.tc : Thread Cert.KvRowsRefIdeal.nD Cert.KvRowsRefIdeal.τ).loc Cert.KvRowsRefIdeal.main_arg1) = m ((c.tc : Thread Cert.KvRowsRefIdeal.nD Cert.KvRowsRefIdeal.τ).loc Cert.KvRowsRefIdeal.main_arg1)
      ∧ r.2.mem ((c.tc : Thread Cert.KvRowsRefIdeal.nD Cert.KvRowsRefIdeal.τ).loc Cert.KvRowsRefIdeal.main_arg2) = m ((c.tc : Thread Cert.KvRowsRefIdeal.nD Cert.KvRowsRefIdeal.τ).loc Cert.KvRowsRefIdeal.main_arg2)
      ∧ r.2.mem ((c.tc : Thread Cert.KvRowsRefIdeal.nD Cert.KvRowsRefIdeal.τ).loc Cert.KvRowsRefIdeal.main_arg3) = m ((c.tc : Thread Cert.KvRowsRefIdeal.nD Cert.KvRowsRefIdeal.τ).loc Cert.KvRowsRefIdeal.main_arg3)
      ∧ r.2.mem ((c.tc : Thread Cert.KvRowsRefIdeal.nD Cert.KvRowsRefIdeal.τ).loc Cert.KvRowsRefIdeal.main_arg4) = m ((c.tc : Thread Cert.KvRowsRefIdeal.nD Cert.KvRowsRefIdeal.τ).loc Cert.KvRowsRefIdeal.main_arg4))
      ∧ r.2.sem = fun _ => 0)

def preserves_Win_WinIdeal : Prop :=
  IdealRules.named_const.Statement Cert.WinIdeal.κ "mask" .f32 0xF149F2CA#32 ⊥

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v68) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)) →
    ∃ (v0 : (c : Dev Cert.GdnInIdeal.nD) → Buf (Elt Ideal) ((c.tc : Thread Cert.GdnInIdeal.nD Cert.GdnInIdeal.τ).loc Cert.GdnInIdeal.main_v5)) (v1 : (c : Dev Cert.GdnInIdeal.nD) → Buf (Elt Ideal) ((c.tc : Thread Cert.GdnInIdeal.nD Cert.GdnInIdeal.τ).loc Cert.GdnInIdeal.main_v7)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v5) = v0 c
          ∧ r.2.mem ((c.tc : Thread Cert.GdnInIdeal.nD Cert.GdnInIdeal.τ).loc Cert.GdnInIdeal.main_v7) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v18) = v0 c
          ∧ r.2.mem ((c.tc : Thread Cert.GdnInRefIdeal.nD Cert.GdnInRefIdeal.τ).loc Cert.GdnInRefIdeal.main_v20) = v1 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2))

def preserves_GdnInS_GdnInSIdeal : Prop :=
  True

def algebraic_GdnInSIdeal_GdnInSRefIdeal [hGdnInSIdeal : Cert.GdnInSIdeal.Facts] [hGdnInSRefIdeal : Cert.GdnInSRefIdeal.Facts] : Prop :=
  ∀ (m : (ℓ : Loc Cert.GdnInSIdeal.nD Cert.GdnInSIdeal.τ Cert.GdnInSIdeal.sig) → Buf (Elt Ideal) ℓ) (g : Dev Cert.GdnInSIdeal.nD → PrngReg)
    (m' : (ℓ : Loc Cert.GdnInSRefIdeal.nD Cert.GdnInSRefIdeal.τ Cert.GdnInSRefIdeal.sig) → Buf (Elt Ideal) ℓ) (g' : Dev Cert.GdnInSRefIdeal.nD → PrngReg), Pre_GdnInSIdeal m →
    (∀ c : Dev Cert.GdnInSIdeal.nD,
      m' ((c.tc : Thread Cert.GdnInSRefIdeal.nD Cert.GdnInSRefIdeal.τ).loc Cert.GdnInSRefIdeal.main_arg0) = m ((c.tc : Thread Cert.GdnInSIdeal.nD Cert.GdnInSIdeal.τ).loc Cert.GdnInSIdeal.main_arg0)
      ∧ m' ((c.tc : Thread Cert.GdnInSRefIdeal.nD Cert.GdnInSRefIdeal.τ).loc Cert.GdnInSRefIdeal.main_arg1) = m ((c.tc : Thread Cert.GdnInSIdeal.nD Cert.GdnInSIdeal.τ).loc Cert.GdnInSIdeal.main_arg1)
      ∧ m' ((c.tc : Thread Cert.GdnInSRefIdeal.nD Cert.GdnInSRefIdeal.τ).loc Cert.GdnInSRefIdeal.main_arg2) = m ((c.tc : Thread Cert.GdnInSIdeal.nD Cert.GdnInSIdeal.τ).loc Cert.GdnInSIdeal.main_arg2)
      ∧ m' ((c.tc : Thread Cert.GdnInSRefIdeal.nD Cert.GdnInSRefIdeal.τ).loc Cert.GdnInSRefIdeal.main_arg3) = m ((c.tc : Thread Cert.GdnInSIdeal.nD Cert.GdnInSIdeal.τ).loc Cert.GdnInSIdeal.main_arg3)) →
    ∃ (v0 : (c : Dev Cert.GdnInSIdeal.nD) → Buf (Elt Ideal) ((c.tc : Thread Cert.GdnInSIdeal.nD Cert.GdnInSIdeal.τ).loc Cert.GdnInSIdeal.main_v5)) (v1 : (c : Dev Cert.GdnInSIdeal.nD) → Buf (Elt Ideal) ((c.tc : Thread Cert.GdnInSIdeal.nD Cert.GdnInSIdeal.τ).loc Cert.GdnInSIdeal.main_v11)),
      θ_run (Cert.GdnInSIdeal.defs (F := Ideal)) (onTc (τ := Cert.GdnInSIdeal.τ) (Cert.GdnInSIdeal.main (F := Ideal))) ⟨m, fun _ => 0, g⟩ (fun r => ∀ c : Dev Cert.GdnInSIdeal.nD,
          r.2.mem ((c.tc : Thread Cert.GdnInSIdeal.nD Cert.GdnInSIdeal.τ).loc Cert.GdnInSIdeal.main_v5) = v0 c
          ∧ r.2.mem ((c.tc : Thread Cert.GdnInSIdeal.nD Cert.GdnInSIdeal.τ).loc Cert.GdnInSIdeal.main_v11) = v1 c
          ∧ r.2.mem ((c.tc : Thread Cert.GdnInSIdeal.nD Cert.GdnInSIdeal.τ).loc Cert.GdnInSIdeal.main_arg0) = m ((c.tc : Thread Cert.GdnInSIdeal.nD Cert.GdnInSIdeal.τ).loc Cert.GdnInSIdeal.main_arg0)
          ∧ r.2.mem ((c.tc : Thread Cert.GdnInSIdeal.nD Cert.GdnInSIdeal.τ).loc Cert.GdnInSIdeal.main_arg1) = m ((c.tc : Thread Cert.GdnInSIdeal.nD Cert.GdnInSIdeal.τ).loc Cert.GdnInSIdeal.main_arg1)
          ∧ r.2.mem ((c.tc : Thread Cert.GdnInSIdeal.nD Cert.GdnInSIdeal.τ).loc Cert.GdnInSIdeal.main_arg2) = m ((c.tc : Thread Cert.GdnInSIdeal.nD Cert.GdnInSIdeal.τ).loc Cert.GdnInSIdeal.main_arg2)
          ∧ r.2.mem ((c.tc : Thread Cert.GdnInSIdeal.nD Cert.GdnInSIdeal.τ).loc Cert.GdnInSIdeal.main_arg3) = m ((c.tc : Thread Cert.GdnInSIdeal.nD Cert.GdnInSIdeal.τ).loc Cert.GdnInSIdeal.main_arg3))
      ∧ θ_run (Cert.GdnInSRefIdeal.defs (F := Ideal)) (onTc (τ := Cert.GdnInSRefIdeal.τ) (Cert.GdnInSRefIdeal.main (F := Ideal))) ⟨m', fun _ => 0, g'⟩ (fun r => ∀ c : Dev Cert.GdnInSRefIdeal.nD,
          r.2.mem ((c.tc : Thread Cert.GdnInSRefIdeal.nD Cert.GdnInSRefIdeal.τ).loc Cert.GdnInSRefIdeal.main_v21) = v0 c
          ∧ r.2.mem ((c.tc : Thread Cert.GdnInSRefIdeal.nD Cert.GdnInSRefIdeal.τ).loc Cert.GdnInSRefIdeal.main_v23) = v1 c
          ∧ r.2.mem ((c.tc : Thread Cert.GdnInSRefIdeal.nD Cert.GdnInSRefIdeal.τ).loc Cert.GdnInSRefIdeal.main_arg0) = m' ((c.tc : Thread Cert.GdnInSRefIdeal.nD Cert.GdnInSRefIdeal.τ).loc Cert.GdnInSRefIdeal.main_arg0)
          ∧ r.2.mem ((c.tc : Thread Cert.GdnInSRefIdeal.nD Cert.GdnInSRefIdeal.τ).loc Cert.GdnInSRefIdeal.main_arg1) = m' ((c.tc : Thread Cert.GdnInSRefIdeal.nD Cert.GdnInSRefIdeal.τ).loc Cert.GdnInSRefIdeal.main_arg1)
          ∧ r.2.mem ((c.tc : Thread Cert.GdnInSRefIdeal.nD Cert.GdnInSRefIdeal.τ).loc Cert.GdnInSRefIdeal.main_arg2) = m' ((c.tc : Thread Cert.GdnInSRefIdeal.nD Cert.GdnInSRefIdeal.τ).loc Cert.GdnInSRefIdeal.main_arg2)
          ∧ r.2.mem ((c.tc : Thread Cert.GdnInSRefIdeal.nD Cert.GdnInSRefIdeal.τ).loc Cert.GdnInSRefIdeal.main_arg3) = m' ((c.tc : Thread Cert.GdnInSRefIdeal.nD Cert.GdnInSRefIdeal.τ).loc Cert.GdnInSRefIdeal.main_arg3))

def preserves_NsaQ_NsaQIdeal : Prop :=
  True

def algebraic_NsaQIdeal_NsaQRefIdeal [hNsaQIdeal : Cert.NsaQIdeal.Facts] [hNsaQRefIdeal : Cert.NsaQRefIdeal.Facts] : Prop :=
  ∀ (m : (ℓ : Loc Cert.NsaQIdeal.nD Cert.NsaQIdeal.τ Cert.NsaQIdeal.sig) → Buf (Elt Ideal) ℓ) (g : Dev Cert.NsaQIdeal.nD → PrngReg)
    (m' : (ℓ : Loc Cert.NsaQRefIdeal.nD Cert.NsaQRefIdeal.τ Cert.NsaQRefIdeal.sig) → Buf (Elt Ideal) ℓ) (g' : Dev Cert.NsaQRefIdeal.nD → PrngReg), Pre_NsaQIdeal m →
    (∀ c : Dev Cert.NsaQIdeal.nD,
      m' ((c.tc : Thread Cert.NsaQRefIdeal.nD Cert.NsaQRefIdeal.τ).loc Cert.NsaQRefIdeal.main_arg0) = m ((c.tc : Thread Cert.NsaQIdeal.nD Cert.NsaQIdeal.τ).loc Cert.NsaQIdeal.main_arg0)
      ∧ m' ((c.tc : Thread Cert.NsaQRefIdeal.nD Cert.NsaQRefIdeal.τ).loc Cert.NsaQRefIdeal.main_arg1) = m ((c.tc : Thread Cert.NsaQIdeal.nD Cert.NsaQIdeal.τ).loc Cert.NsaQIdeal.main_arg1)
      ∧ m' ((c.tc : Thread Cert.NsaQRefIdeal.nD Cert.NsaQRefIdeal.τ).loc Cert.NsaQRefIdeal.main_arg2) = m ((c.tc : Thread Cert.NsaQIdeal.nD Cert.NsaQIdeal.τ).loc Cert.NsaQIdeal.main_arg2)) →
    ∃ (v0 : (c : Dev Cert.NsaQIdeal.nD) → Buf (Elt Ideal) ((c.tc : Thread Cert.NsaQIdeal.nD Cert.NsaQIdeal.τ).loc Cert.NsaQIdeal.main_v1)),
      θ_run (Cert.NsaQIdeal.defs (F := Ideal)) (onTc (τ := Cert.NsaQIdeal.τ) (Cert.NsaQIdeal.main (F := Ideal))) ⟨m, fun _ => 0, g⟩ (fun r => ∀ c : Dev Cert.NsaQIdeal.nD,
          r.2.mem ((c.tc : Thread Cert.NsaQIdeal.nD Cert.NsaQIdeal.τ).loc Cert.NsaQIdeal.main_v1) = v0 c
          ∧ r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
          ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1)
          ∧ r.2.mem ((c.tc : Thread Cert.NsaQIdeal.nD Cert.NsaQIdeal.τ).loc Cert.NsaQIdeal.main_arg2) = m ((c.tc : Thread Cert.NsaQIdeal.nD Cert.NsaQIdeal.τ).loc Cert.NsaQIdeal.main_arg2))
      ∧ θ_run (Cert.NsaQRefIdeal.defs (F := Ideal)) (onTc (τ := Cert.NsaQRefIdeal.τ) (Cert.NsaQRefIdeal.main (F := Ideal))) ⟨m', fun _ => 0, g'⟩ (fun r => ∀ c : Dev Cert.NsaQRefIdeal.nD,
          r.2.mem ((c.tc : Thread Cert.NsaQRefIdeal.nD Cert.NsaQRefIdeal.τ).loc Cert.NsaQRefIdeal.main_v14) = v0 c
          ∧ r.2.mem ((c.tc : Thread Cert.NsaQRefIdeal.nD Cert.NsaQRefIdeal.τ).loc Cert.NsaQRefIdeal.main_arg0) = m' ((c.tc : Thread Cert.NsaQRefIdeal.nD Cert.NsaQRefIdeal.τ).loc Cert.NsaQRefIdeal.main_arg0)
          ∧ r.2.mem ((c.tc : Thread Cert.NsaQRefIdeal.nD Cert.NsaQRefIdeal.τ).loc Cert.NsaQRefIdeal.main_arg1) = m' ((c.tc : Thread Cert.NsaQRefIdeal.nD Cert.NsaQRefIdeal.τ).loc Cert.NsaQRefIdeal.main_arg1)
          ∧ r.2.mem ((c.tc : Thread Cert.NsaQRefIdeal.nD Cert.NsaQRefIdeal.τ).loc Cert.NsaQRefIdeal.main_arg2) = m' ((c.tc : Thread Cert.NsaQRefIdeal.nD Cert.NsaQRefIdeal.τ).loc Cert.NsaQRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDownN_FfnDownNIdeal : Prop :=
  True

def algebraic_FfnDownNIdeal_FfnDownNRefIdeal [hFfnDownNIdeal : Cert.FfnDownNIdeal.Facts] [hFfnDownNRefIdeal : Cert.FfnDownNRefIdeal.Facts] : Prop :=
  ∀ (m : (ℓ : Loc Cert.FfnDownNIdeal.nD Cert.FfnDownNIdeal.τ Cert.FfnDownNIdeal.sig) → Buf (Elt Ideal) ℓ) (g : Dev Cert.FfnDownNIdeal.nD → PrngReg)
    (m' : (ℓ : Loc Cert.FfnDownNRefIdeal.nD Cert.FfnDownNRefIdeal.τ Cert.FfnDownNRefIdeal.sig) → Buf (Elt Ideal) ℓ) (g' : Dev Cert.FfnDownNRefIdeal.nD → PrngReg), Pre_FfnDownNIdeal m →
    (∀ c : Dev Cert.FfnDownNIdeal.nD,
      m' ((c.tc : Thread Cert.FfnDownNRefIdeal.nD Cert.FfnDownNRefIdeal.τ).loc Cert.FfnDownNRefIdeal.main_arg0) = m ((c.tc : Thread Cert.FfnDownNIdeal.nD Cert.FfnDownNIdeal.τ).loc Cert.FfnDownNIdeal.main_arg0)
      ∧ m' ((c.tc : Thread Cert.FfnDownNRefIdeal.nD Cert.FfnDownNRefIdeal.τ).loc Cert.FfnDownNRefIdeal.main_arg1) = m ((c.tc : Thread Cert.FfnDownNIdeal.nD Cert.FfnDownNIdeal.τ).loc Cert.FfnDownNIdeal.main_arg1)
      ∧ m' ((c.tc : Thread Cert.FfnDownNRefIdeal.nD Cert.FfnDownNRefIdeal.τ).loc Cert.FfnDownNRefIdeal.main_arg2) = m ((c.tc : Thread Cert.FfnDownNIdeal.nD Cert.FfnDownNIdeal.τ).loc Cert.FfnDownNIdeal.main_arg2)
      ∧ m' ((c.tc : Thread Cert.FfnDownNRefIdeal.nD Cert.FfnDownNRefIdeal.τ).loc Cert.FfnDownNRefIdeal.main_arg3) = m ((c.tc : Thread Cert.FfnDownNIdeal.nD Cert.FfnDownNIdeal.τ).loc Cert.FfnDownNIdeal.main_arg3)) →
    ∃ (v0 : (c : Dev Cert.FfnDownNIdeal.nD) → Buf (Elt Ideal) ((c.tc : Thread Cert.FfnDownNIdeal.nD Cert.FfnDownNIdeal.τ).loc Cert.FfnDownNIdeal.main_v1)),
      θ_run (Cert.FfnDownNIdeal.defs (F := Ideal)) (onTc (τ := Cert.FfnDownNIdeal.τ) (Cert.FfnDownNIdeal.main (F := Ideal))) ⟨m, fun _ => 0, g⟩ (fun r => ∀ c : Dev Cert.FfnDownNIdeal.nD,
          r.2.mem ((c.tc : Thread Cert.FfnDownNIdeal.nD Cert.FfnDownNIdeal.τ).loc Cert.FfnDownNIdeal.main_v1) = v0 c
          ∧ r.2.mem ((c.tc : Thread Cert.FfnDownNIdeal.nD Cert.FfnDownNIdeal.τ).loc Cert.FfnDownNIdeal.main_arg0) = m ((c.tc : Thread Cert.FfnDownNIdeal.nD Cert.FfnDownNIdeal.τ).loc Cert.FfnDownNIdeal.main_arg0)
          ∧ r.2.mem ((c.tc : Thread Cert.FfnDownNIdeal.nD Cert.FfnDownNIdeal.τ).loc Cert.FfnDownNIdeal.main_arg1) = m ((c.tc : Thread Cert.FfnDownNIdeal.nD Cert.FfnDownNIdeal.τ).loc Cert.FfnDownNIdeal.main_arg1)
          ∧ r.2.mem ((c.tc : Thread Cert.FfnDownNIdeal.nD Cert.FfnDownNIdeal.τ).loc Cert.FfnDownNIdeal.main_arg2) = m ((c.tc : Thread Cert.FfnDownNIdeal.nD Cert.FfnDownNIdeal.τ).loc Cert.FfnDownNIdeal.main_arg2)
          ∧ r.2.mem ((c.tc : Thread Cert.FfnDownNIdeal.nD Cert.FfnDownNIdeal.τ).loc Cert.FfnDownNIdeal.main_arg3) = m ((c.tc : Thread Cert.FfnDownNIdeal.nD Cert.FfnDownNIdeal.τ).loc Cert.FfnDownNIdeal.main_arg3))
      ∧ θ_run (Cert.FfnDownNRefIdeal.defs (F := Ideal)) (onTc (τ := Cert.FfnDownNRefIdeal.τ) (Cert.FfnDownNRefIdeal.main (F := Ideal))) ⟨m', fun _ => 0, g'⟩ (fun r => ∀ c : Dev Cert.FfnDownNRefIdeal.nD,
          r.2.mem ((c.tc : Thread Cert.FfnDownNRefIdeal.nD Cert.FfnDownNRefIdeal.τ).loc Cert.FfnDownNRefIdeal.main_v17) = v0 c
          ∧ r.2.mem ((c.tc : Thread Cert.FfnDownNRefIdeal.nD Cert.FfnDownNRefIdeal.τ).loc Cert.FfnDownNRefIdeal.main_arg0) = m' ((c.tc : Thread Cert.FfnDownNRefIdeal.nD Cert.FfnDownNRefIdeal.τ).loc Cert.FfnDownNRefIdeal.main_arg0)
          ∧ r.2.mem ((c.tc : Thread Cert.FfnDownNRefIdeal.nD Cert.FfnDownNRefIdeal.τ).loc Cert.FfnDownNRefIdeal.main_arg1) = m' ((c.tc : Thread Cert.FfnDownNRefIdeal.nD Cert.FfnDownNRefIdeal.τ).loc Cert.FfnDownNRefIdeal.main_arg1)
          ∧ r.2.mem ((c.tc : Thread Cert.FfnDownNRefIdeal.nD Cert.FfnDownNRefIdeal.τ).loc Cert.FfnDownNRefIdeal.main_arg2) = m' ((c.tc : Thread Cert.FfnDownNRefIdeal.nD Cert.FfnDownNRefIdeal.τ).loc Cert.FfnDownNRefIdeal.main_arg2)
          ∧ r.2.mem ((c.tc : Thread Cert.FfnDownNRefIdeal.nD Cert.FfnDownNRefIdeal.τ).loc Cert.FfnDownNRefIdeal.main_arg3) = m' ((c.tc : Thread Cert.FfnDownNRefIdeal.nD Cert.FfnDownNRefIdeal.τ).loc Cert.FfnDownNRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v4) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v46) = v0 c
          ∧ r.2.mem ((c.tc : Thread Cert.FfnUpRefIdeal.nD Cert.FfnUpRefIdeal.τ).loc Cert.FfnUpRefIdeal.main_v47) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def preserves_FfnUpS_FfnUpSIdeal : Prop :=
  True

def algebraic_FfnUpSIdeal_FfnUpSRefIdeal [hFfnUpSIdeal : Cert.FfnUpSIdeal.Facts] [hFfnUpSRefIdeal : Cert.FfnUpSRefIdeal.Facts] : Prop :=
  ∀ (m : (ℓ : Loc Cert.FfnUpSIdeal.nD Cert.FfnUpSIdeal.τ Cert.FfnUpSIdeal.sig) → Buf (Elt Ideal) ℓ) (g : Dev Cert.FfnUpSIdeal.nD → PrngReg)
    (m' : (ℓ : Loc Cert.FfnUpSRefIdeal.nD Cert.FfnUpSRefIdeal.τ Cert.FfnUpSRefIdeal.sig) → Buf (Elt Ideal) ℓ) (g' : Dev Cert.FfnUpSRefIdeal.nD → PrngReg), Pre_FfnUpSIdeal m →
    (∀ c : Dev Cert.FfnUpSIdeal.nD,
      m' ((c.tc : Thread Cert.FfnUpSRefIdeal.nD Cert.FfnUpSRefIdeal.τ).loc Cert.FfnUpSRefIdeal.main_arg0) = m ((c.tc : Thread Cert.FfnUpSIdeal.nD Cert.FfnUpSIdeal.τ).loc Cert.FfnUpSIdeal.main_arg0)
      ∧ m' ((c.tc : Thread Cert.FfnUpSRefIdeal.nD Cert.FfnUpSRefIdeal.τ).loc Cert.FfnUpSRefIdeal.main_arg1) = m ((c.tc : Thread Cert.FfnUpSIdeal.nD Cert.FfnUpSIdeal.τ).loc Cert.FfnUpSIdeal.main_arg1)
      ∧ m' ((c.tc : Thread Cert.FfnUpSRefIdeal.nD Cert.FfnUpSRefIdeal.τ).loc Cert.FfnUpSRefIdeal.main_arg2) = m ((c.tc : Thread Cert.FfnUpSIdeal.nD Cert.FfnUpSIdeal.τ).loc Cert.FfnUpSIdeal.main_arg2)
      ∧ m' ((c.tc : Thread Cert.FfnUpSRefIdeal.nD Cert.FfnUpSRefIdeal.τ).loc Cert.FfnUpSRefIdeal.main_arg3) = m ((c.tc : Thread Cert.FfnUpSIdeal.nD Cert.FfnUpSIdeal.τ).loc Cert.FfnUpSIdeal.main_arg3)
      ∧ m' ((c.tc : Thread Cert.FfnUpSRefIdeal.nD Cert.FfnUpSRefIdeal.τ).loc Cert.FfnUpSRefIdeal.main_arg4) = m ((c.tc : Thread Cert.FfnUpSIdeal.nD Cert.FfnUpSIdeal.τ).loc Cert.FfnUpSIdeal.main_arg4)
      ∧ m' ((c.tc : Thread Cert.FfnUpSRefIdeal.nD Cert.FfnUpSRefIdeal.τ).loc Cert.FfnUpSRefIdeal.main_arg5) = m ((c.tc : Thread Cert.FfnUpSIdeal.nD Cert.FfnUpSIdeal.τ).loc Cert.FfnUpSIdeal.main_arg5)
      ∧ m' ((c.tc : Thread Cert.FfnUpSRefIdeal.nD Cert.FfnUpSRefIdeal.τ).loc Cert.FfnUpSRefIdeal.main_arg6) = m ((c.tc : Thread Cert.FfnUpSIdeal.nD Cert.FfnUpSIdeal.τ).loc Cert.FfnUpSIdeal.main_arg6)) →
    ∃ (v0 : (c : Dev Cert.FfnUpSIdeal.nD) → Buf (Elt Ideal) ((c.tc : Thread Cert.FfnUpSIdeal.nD Cert.FfnUpSIdeal.τ).loc Cert.FfnUpSIdeal.main_v3_0)) (v1 : (c : Dev Cert.FfnUpSIdeal.nD) → Buf (Elt Ideal) ((c.tc : Thread Cert.FfnUpSIdeal.nD Cert.FfnUpSIdeal.τ).loc Cert.FfnUpSIdeal.main_v8)),
      θ_run (Cert.FfnUpSIdeal.defs (F := Ideal)) (onTc (τ := Cert.FfnUpSIdeal.τ) (Cert.FfnUpSIdeal.main (F := Ideal))) ⟨m, fun _ => 0, g⟩ (fun r => ∀ c : Dev Cert.FfnUpSIdeal.nD,
          r.2.mem ((c.tc : Thread Cert.FfnUpSIdeal.nD Cert.FfnUpSIdeal.τ).loc Cert.FfnUpSIdeal.main_v3_0) = v0 c
          ∧ r.2.mem ((c.tc : Thread Cert.FfnUpSIdeal.nD Cert.FfnUpSIdeal.τ).loc Cert.FfnUpSIdeal.main_v8) = v1 c
          ∧ r.2.mem ((c.tc : Thread Cert.FfnUpSIdeal.nD Cert.FfnUpSIdeal.τ).loc Cert.FfnUpSIdeal.main_arg0) = m ((c.tc : Thread Cert.FfnUpSIdeal.nD Cert.FfnUpSIdeal.τ).loc Cert.FfnUpSIdeal.main_arg0)
          ∧ r.2.mem ((c.tc : Thread Cert.FfnUpSIdeal.nD Cert.FfnUpSIdeal.τ).loc Cert.FfnUpSIdeal.main_arg1) = m ((c.tc : Thread Cert.FfnUpSIdeal.nD Cert.FfnUpSIdeal.τ).loc Cert.FfnUpSIdeal.main_arg1)
          ∧ r.2.mem ((c.tc : Thread Cert.FfnUpSIdeal.nD Cert.FfnUpSIdeal.τ).loc Cert.FfnUpSIdeal.main_arg2) = m ((c.tc : Thread Cert.FfnUpSIdeal.nD Cert.FfnUpSIdeal.τ).loc Cert.FfnUpSIdeal.main_arg2)
          ∧ r.2.mem ((c.tc : Thread Cert.FfnUpSIdeal.nD Cert.FfnUpSIdeal.τ).loc Cert.FfnUpSIdeal.main_arg3) = m ((c.tc : Thread Cert.FfnUpSIdeal.nD Cert.FfnUpSIdeal.τ).loc Cert.FfnUpSIdeal.main_arg3)
          ∧ r.2.mem ((c.tc : Thread Cert.FfnUpSIdeal.nD Cert.FfnUpSIdeal.τ).loc Cert.FfnUpSIdeal.main_arg4) = m ((c.tc : Thread Cert.FfnUpSIdeal.nD Cert.FfnUpSIdeal.τ).loc Cert.FfnUpSIdeal.main_arg4)
          ∧ r.2.mem ((c.tc : Thread Cert.FfnUpSIdeal.nD Cert.FfnUpSIdeal.τ).loc Cert.FfnUpSIdeal.main_arg5) = m ((c.tc : Thread Cert.FfnUpSIdeal.nD Cert.FfnUpSIdeal.τ).loc Cert.FfnUpSIdeal.main_arg5)
          ∧ r.2.mem ((c.tc : Thread Cert.FfnUpSIdeal.nD Cert.FfnUpSIdeal.τ).loc Cert.FfnUpSIdeal.main_arg6) = m ((c.tc : Thread Cert.FfnUpSIdeal.nD Cert.FfnUpSIdeal.τ).loc Cert.FfnUpSIdeal.main_arg6))
      ∧ θ_run (Cert.FfnUpSRefIdeal.defs (F := Ideal)) (onTc (τ := Cert.FfnUpSRefIdeal.τ) (Cert.FfnUpSRefIdeal.main (F := Ideal))) ⟨m', fun _ => 0, g'⟩ (fun r => ∀ c : Dev Cert.FfnUpSRefIdeal.nD,
          r.2.mem ((c.tc : Thread Cert.FfnUpSRefIdeal.nD Cert.FfnUpSRefIdeal.τ).loc Cert.FfnUpSRefIdeal.main_v49) = v0 c
          ∧ r.2.mem ((c.tc : Thread Cert.FfnUpSRefIdeal.nD Cert.FfnUpSRefIdeal.τ).loc Cert.FfnUpSRefIdeal.main_v50) = v1 c
          ∧ r.2.mem ((c.tc : Thread Cert.FfnUpSRefIdeal.nD Cert.FfnUpSRefIdeal.τ).loc Cert.FfnUpSRefIdeal.main_arg0) = m' ((c.tc : Thread Cert.FfnUpSRefIdeal.nD Cert.FfnUpSRefIdeal.τ).loc Cert.FfnUpSRefIdeal.main_arg0)
          ∧ r.2.mem ((c.tc : Thread Cert.FfnUpSRefIdeal.nD Cert.FfnUpSRefIdeal.τ).loc Cert.FfnUpSRefIdeal.main_arg1) = m' ((c.tc : Thread Cert.FfnUpSRefIdeal.nD Cert.FfnUpSRefIdeal.τ).loc Cert.FfnUpSRefIdeal.main_arg1)
          ∧ r.2.mem ((c.tc : Thread Cert.FfnUpSRefIdeal.nD Cert.FfnUpSRefIdeal.τ).loc Cert.FfnUpSRefIdeal.main_arg2) = m' ((c.tc : Thread Cert.FfnUpSRefIdeal.nD Cert.FfnUpSRefIdeal.τ).loc Cert.FfnUpSRefIdeal.main_arg2)
          ∧ r.2.mem ((c.tc : Thread Cert.FfnUpSRefIdeal.nD Cert.FfnUpSRefIdeal.τ).loc Cert.FfnUpSRefIdeal.main_arg3) = m' ((c.tc : Thread Cert.FfnUpSRefIdeal.nD Cert.FfnUpSRefIdeal.τ).loc Cert.FfnUpSRefIdeal.main_arg3)
          ∧ r.2.mem ((c.tc : Thread Cert.FfnUpSRefIdeal.nD Cert.FfnUpSRefIdeal.τ).loc Cert.FfnUpSRefIdeal.main_arg4) = m' ((c.tc : Thread Cert.FfnUpSRefIdeal.nD Cert.FfnUpSRefIdeal.τ).loc Cert.FfnUpSRefIdeal.main_arg4)
          ∧ r.2.mem ((c.tc : Thread Cert.FfnUpSRefIdeal.nD Cert.FfnUpSRefIdeal.τ).loc Cert.FfnUpSRefIdeal.main_arg5) = m' ((c.tc : Thread Cert.FfnUpSRefIdeal.nD Cert.FfnUpSRefIdeal.τ).loc Cert.FfnUpSRefIdeal.main_arg5)
          ∧ r.2.mem ((c.tc : Thread Cert.FfnUpSRefIdeal.nD Cert.FfnUpSRefIdeal.τ).loc Cert.FfnUpSRefIdeal.main_arg6) = m' ((c.tc : Thread Cert.FfnUpSRefIdeal.nD Cert.FfnUpSRefIdeal.τ).loc Cert.FfnUpSRefIdeal.main_arg6))

def preserves_KvRows_KvRowsIdeal : Prop :=
  True

def algebraic_KvRowsIdeal_KvRowsRefIdeal [hKvRowsIdeal : Cert.KvRowsIdeal.Facts] [hKvRowsRefIdeal : Cert.KvRowsRefIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsRefIdeal.nD Cert.KvRowsRefIdeal.τ Cert.KvRowsRefIdeal.sig) → Buf (Elt Ideal) ℓ) (g' : Dev Cert.KvRowsRefIdeal.nD → PrngReg), Pre_KvRowsIdeal m →
    (∀ c : Dev Cert.KvRowsIdeal.nD,
      m' ((c.tc : Thread Cert.KvRowsRefIdeal.nD Cert.KvRowsRefIdeal.τ).loc Cert.KvRowsRefIdeal.main_arg0) = m ((c.tc : Thread Cert.KvRowsIdeal.nD Cert.KvRowsIdeal.τ).loc Cert.KvRowsIdeal.main_arg0)
      ∧ m' ((c.tc : Thread Cert.KvRowsRefIdeal.nD Cert.KvRowsRefIdeal.τ).loc Cert.KvRowsRefIdeal.main_arg1) = m ((c.tc : Thread Cert.KvRowsIdeal.nD Cert.KvRowsIdeal.τ).loc Cert.KvRowsIdeal.main_arg1)
      ∧ m' ((c.tc : Thread Cert.KvRowsRefIdeal.nD Cert.KvRowsRefIdeal.τ).loc Cert.KvRowsRefIdeal.main_arg2) = m ((c.tc : Thread Cert.KvRowsIdeal.nD Cert.KvRowsIdeal.τ).loc Cert.KvRowsIdeal.main_arg2)
      ∧ m' ((c.tc : Thread Cert.KvRowsRefIdeal.nD Cert.KvRowsRefIdeal.τ).loc Cert.KvRowsRefIdeal.main_arg3) = m ((c.tc : Thread Cert.KvRowsIdeal.nD Cert.KvRowsIdeal.τ).loc Cert.KvRowsIdeal.main_arg3)
      ∧ m' ((c.tc : Thread Cert.KvRowsRefIdeal.nD Cert.KvRowsRefIdeal.τ).loc Cert.KvRowsRefIdeal.main_arg4) = m ((c.tc : Thread Cert.KvRowsIdeal.nD Cert.KvRowsIdeal.τ).loc Cert.KvRowsIdeal.main_arg4)) →
    ∃ (v0 : (c : Dev Cert.KvRowsIdeal.nD) → Buf (Elt Ideal) ((c.tc : Thread Cert.KvRowsIdeal.nD Cert.KvRowsIdeal.τ).loc Cert.KvRowsIdeal.main_v4_0)) (v1 : (c : Dev Cert.KvRowsIdeal.nD) → Buf (Elt Ideal) ((c.tc : Thread Cert.KvRowsIdeal.nD Cert.KvRowsIdeal.τ).loc Cert.KvRowsIdeal.main_v4_1)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v4_0) = v0 c
          ∧ r.2.mem ((c.tc : Thread Cert.KvRowsIdeal.nD Cert.KvRowsIdeal.τ).loc Cert.KvRowsIdeal.main_v4_1) = v1 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
          ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
          ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
          ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ θ_run (Cert.KvRowsRefIdeal.defs (F := Ideal)) (onTc (τ := Cert.KvRowsRefIdeal.τ) (Cert.KvRowsRefIdeal.main (F := Ideal))) ⟨m', fun _ => 0, g'⟩ (fun r => ∀ c : Dev Cert.KvRowsRefIdeal.nD,
          r.2.mem ((c.tc : Thread Cert.KvRowsRefIdeal.nD Cert.KvRowsRefIdeal.τ).loc Cert.KvRowsRefIdeal.main_v62) = v0 c
          ∧ r.2.mem ((c.tc : Thread Cert.KvRowsRefIdeal.nD Cert.KvRowsRefIdeal.τ).loc Cert.KvRowsRefIdeal.main_v63) = v1 c
          ∧ r.2.mem ((c.tc : Thread Cert.KvRowsRefIdeal.nD Cert.KvRowsRefIdeal.τ).loc Cert.KvRowsRefIdeal.main_arg0) = m' ((c.tc : Thread Cert.KvRowsRefIdeal.nD Cert.KvRowsRefIdeal.τ).loc Cert.KvRowsRefIdeal.main_arg0)
          ∧ r.2.mem ((c.tc : Thread Cert.KvRowsRefIdeal.nD Cert.KvRowsRefIdeal.τ).loc Cert.KvRowsRefIdeal.main_arg1) = m' ((c.tc : Thread Cert.KvRowsRefIdeal.nD Cert.KvRowsRefIdeal.τ).loc Cert.KvRowsRefIdeal.main_arg1)
          ∧ r.2.mem ((c.tc : Thread Cert.KvRowsRefIdeal.nD Cert.KvRowsRefIdeal.τ).loc Cert.KvRowsRefIdeal.main_arg2) = m' ((c.tc : Thread Cert.KvRowsRefIdeal.nD Cert.KvRowsRefIdeal.τ).loc Cert.KvRowsRefIdeal.main_arg2)
          ∧ r.2.mem ((c.tc : Thread Cert.KvRowsRefIdeal.nD Cert.KvRowsRefIdeal.τ).loc Cert.KvRowsRefIdeal.main_arg3) = m' ((c.tc : Thread Cert.KvRowsRefIdeal.nD Cert.KvRowsRefIdeal.τ).loc Cert.KvRowsRefIdeal.main_arg3)
          ∧ r.2.mem ((c.tc : Thread Cert.KvRowsRefIdeal.nD Cert.KvRowsRefIdeal.τ).loc Cert.KvRowsRefIdeal.main_arg4) = m' ((c.tc : Thread Cert.KvRowsRefIdeal.nD Cert.KvRowsRefIdeal.τ).loc Cert.KvRowsRefIdeal.main_arg4))

def Claim : Prop :=
  ∃ (hWin : Cert.Win.Facts) (hWinIdeal : Cert.WinIdeal.Facts) (hWinRefIdeal : Cert.WinRefIdeal.Facts) (hGdnIn : Cert.GdnIn.Facts) (hGdnInIdeal : Cert.GdnInIdeal.Facts) (hGdnInRefIdeal : Cert.GdnInRefIdeal.Facts) (hGdnInS : Cert.GdnInS.Facts) (hGdnInSIdeal : Cert.GdnInSIdeal.Facts) (hGdnInSRefIdeal : Cert.GdnInSRefIdeal.Facts) (hNsaQ : Cert.NsaQ.Facts) (hNsaQIdeal : Cert.NsaQIdeal.Facts) (hNsaQRefIdeal : Cert.NsaQRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hFfnDownN : Cert.FfnDownN.Facts) (hFfnDownNIdeal : Cert.FfnDownNIdeal.Facts) (hFfnDownNRefIdeal : Cert.FfnDownNRefIdeal.Facts) (hFfnUp : Cert.FfnUp.Facts) (hFfnUpIdeal : Cert.FfnUpIdeal.Facts) (hFfnUpRefIdeal : Cert.FfnUpRefIdeal.Facts) (hFfnUpS : Cert.FfnUpS.Facts) (hFfnUpSIdeal : Cert.FfnUpSIdeal.Facts) (hFfnUpSRefIdeal : Cert.FfnUpSRefIdeal.Facts) (hKvRows : Cert.KvRows.Facts) (hKvRowsIdeal : Cert.KvRowsIdeal.Facts) (hKvRowsRefIdeal : Cert.KvRowsRefIdeal.Facts),
    quiescent_Win (hWin := hWin)
    ∧ quiescent_WinIdeal (hWinIdeal := hWinIdeal)
    ∧ quiescent_WinRefIdeal (hWinRefIdeal := hWinRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_GdnInS (hGdnInS := hGdnInS)
    ∧ quiescent_GdnInSIdeal (hGdnInSIdeal := hGdnInSIdeal)
    ∧ quiescent_GdnInSRefIdeal (hGdnInSRefIdeal := hGdnInSRefIdeal)
    ∧ quiescent_NsaQ (hNsaQ := hNsaQ)
    ∧ quiescent_NsaQIdeal (hNsaQIdeal := hNsaQIdeal)
    ∧ quiescent_NsaQRefIdeal (hNsaQRefIdeal := hNsaQRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownN (hFfnDownN := hFfnDownN)
    ∧ quiescent_FfnDownNIdeal (hFfnDownNIdeal := hFfnDownNIdeal)
    ∧ quiescent_FfnDownNRefIdeal (hFfnDownNRefIdeal := hFfnDownNRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnUpS (hFfnUpS := hFfnUpS)
    ∧ quiescent_FfnUpSIdeal (hFfnUpSIdeal := hFfnUpSIdeal)
    ∧ quiescent_FfnUpSRefIdeal (hFfnUpSRefIdeal := hFfnUpSRefIdeal)
    ∧ quiescent_KvRows (hKvRows := hKvRows)
    ∧ quiescent_KvRowsIdeal (hKvRowsIdeal := hKvRowsIdeal)
    ∧ quiescent_KvRowsRefIdeal (hKvRowsRefIdeal := hKvRowsRefIdeal)
    ∧ preserves_Win_WinIdeal
    ∧ algebraic_WinIdeal_WinRefIdeal (hWinIdeal := hWinIdeal) (hWinRefIdeal := hWinRefIdeal)
    ∧ preserves_GdnIn_GdnInIdeal
    ∧ algebraic_GdnInIdeal_GdnInRefIdeal (hGdnInIdeal := hGdnInIdeal) (hGdnInRefIdeal := hGdnInRefIdeal)
    ∧ preserves_GdnInS_GdnInSIdeal
    ∧ algebraic_GdnInSIdeal_GdnInSRefIdeal (hGdnInSIdeal := hGdnInSIdeal) (hGdnInSRefIdeal := hGdnInSRefIdeal)
    ∧ preserves_NsaQ_NsaQIdeal
    ∧ algebraic_NsaQIdeal_NsaQRefIdeal (hNsaQIdeal := hNsaQIdeal) (hNsaQRefIdeal := hNsaQRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownN_FfnDownNIdeal
    ∧ algebraic_FfnDownNIdeal_FfnDownNRefIdeal (hFfnDownNIdeal := hFfnDownNIdeal) (hFfnDownNRefIdeal := hFfnDownNRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnUpS_FfnUpSIdeal
    ∧ algebraic_FfnUpSIdeal_FfnUpSRefIdeal (hFfnUpSIdeal := hFfnUpSIdeal) (hFfnUpSRefIdeal := hFfnUpSRefIdeal)
    ∧ preserves_KvRows_KvRowsIdeal
    ∧ algebraic_KvRowsIdeal_KvRowsRefIdeal (hKvRowsIdeal := hKvRowsIdeal) (hKvRowsRefIdeal := hKvRowsRefIdeal)
-- ==== Win.lean ====
abbrev S8192x2048 : Shape := ⟨2, ![8192, 2048]⟩
abbrev S8192x3072 : Shape := ⟨2, ![8192, 3072]⟩
abbrev S8192x128 : Shape := ⟨2, ![8192, 128]⟩
abbrev S128x2048 : Shape := ⟨2, ![128, 2048]⟩
abbrev S128x512 : Shape := ⟨2, ![128, 512]⟩
abbrev S128x128 : Shape := ⟨2, ![128, 128]⟩
abbrev S640x512 : Shape := ⟨2, ![640, 512]⟩
abbrev S128x640 : Shape := ⟨2, ![128, 640]⟩
abbrev S512x128 : Shape := ⟨2, ![512, 128]⟩
abbrev S640x128 : Shape := ⟨2, ![640, 128]⟩
abbrev S512x640 : Shape := ⟨2, ![512, 640]⟩
abbrev S4x128x640 : Shape := ⟨3, ![4, 128, 640]⟩
abbrev S1x128x640 : Shape := ⟨3, ![1, 128, 640]⟩
abbrev S512 : Shape := ⟨1, ![512]⟩
abbrev S512x1 : Shape := ⟨2, ![512, 1]⟩
abbrev S128x1 : Shape := ⟨2, ![128, 1]⟩

abbrev nBuf : Space → Nat
  | .hbm => 6
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8192x2048, .f32⟩
  | .hbm, ⟨3, _⟩ => ⟨S8192x2048, .f32⟩
  | .hbm, ⟨4, _⟩ => ⟨S8192x128, .f32⟩
  | .hbm, ⟨5, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x128, .f32⟩
  | .local _ .vmem, ⟨27, _⟩ => ⟨S128x128, .f32⟩
  | .local _ .vmem, ⟨28, _⟩ => ⟨S128x2048, .bf16⟩
  | .local _ .vmem, ⟨29, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let v2 : BitVec 32 := Scalar.maxsi v1 c0_i32_0
  let c4_i32_1 : BitVec 32 := 4#32
  let c0_i32_2 : BitVec 32 := 0#32
  ![v2.toNat, c4_i32_1.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let v2 : BitVec 32 := Scalar.maxsi v1 c0_i32
  let c4_i32_1 : BitVec 32 := 4#32
  let c0_i32_2 : BitVec 32 := 0#32
  ![v2.toNat, c4_i32_1.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let v2 : BitVec 32 := Scalar.maxsi v1 c0_i32_0
  let c5_i32 : BitVec 32 := 5#32
  let c0_i32_1 : BitVec 32 := 0#32
  ![v2.toNat, c5_i32.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.addi v0 c2_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c3_i32 : BitVec 32 := 3#32
  let v1 : BitVec 32 := Scalar.addi v0 c3_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c4_i32_0 : BitVec 32 := 4#32
  let v1 : BitVec 32 := Scalar.addi v0 c4_i32_0
  let c0_i32 : BitVec 32 := 0#32
  let v2 : BitVec 32 := Scalar.maxsi v1 c0_i32
  let c5_i32 : BitVec 32 := 5#32
  let c0_i32_1 : BitVec 32 := 0#32
  ![v2.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== WinIdeal.lean ====
variable {F : FTy → Type} [FloatOps F] [Named F]
def κ : String → Option EReal := fun
  | "mask" => some ⊥
  | _ => none
-- ==== WinRefIdeal.lean ====
abbrev S8192x2048 : Shape := ⟨2, ![8192, 2048]⟩
abbrev S8192x3072 : Shape := ⟨2, ![8192, 3072]⟩
abbrev S8192x128 : Shape := ⟨2, ![8192, 128]⟩
abbrev S8192x6x4x128 : Shape := ⟨4, ![8192, 6, 4, 128]⟩
abbrev S8192x1x4x128 : Shape := ⟨4, ![8192, 1, 4, 128]⟩
abbrev S8192x4x128 : Shape := ⟨3, ![8192, 4, 128]⟩
abbrev S8192x4x4x128 : Shape := ⟨4, ![8192, 4, 4, 128]⟩
abbrev S8192x48 : Shape := ⟨2, ![8192, 48]⟩
abbrev S_ : Shape := ⟨0, ![]⟩
abbrev S8192x4x4x3 : Shape := ⟨4, ![8192, 4, 4, 3]⟩
abbrev S8192 : Shape := ⟨1, ![8192]⟩
abbrev S4x8192x4x8192 : Shape := ⟨4, ![4, 8192, 4, 8192]⟩
abbrev S1x8192 : Shape := ⟨2, ![1, 8192]⟩
abbrev S8192x1 : Shape := ⟨2, ![8192, 1]⟩
abbrev S8192x8192 : Shape := ⟨2, ![8192, 8192]⟩
abbrev S1x8192x1x8192 : Shape := ⟨4, ![1, 8192, 1, 8192]⟩
abbrev S4x8192x4 : Shape := ⟨3, ![4, 8192, 4]⟩
abbrev S4x8192x4x1 : Shape := ⟨4, ![4, 8192, 4, 1]⟩
abbrev S4x8192x4x128 : Shape := ⟨4, ![4, 8192, 4, 128]⟩
abbrev S8192x4x4x1 : Shape := ⟨4, ![8192, 4, 4, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8192x2048, .f32⟩
  | .hbm, ⟨3, _⟩ => ⟨S8192x2048, .f32⟩
  | .hbm, ⟨4, _⟩ => ⟨S8192x128, .f32⟩
  | .hbm, ⟨5, _⟩ => ⟨S8192x3072, .f32⟩
  | .hbm, ⟨6, _⟩ => ⟨S8192x6x4x128, .f32⟩
  | .hbm, ⟨7, _⟩ => ⟨S8192x1x4x128, .f32⟩
  | .hbm, ⟨8, _⟩ => ⟨S8192x4x128, .f32⟩
  | .hbm, ⟨9, _⟩ => ⟨S8192x1x4x128, .f32⟩
  | .hbm, ⟨10, _⟩ => ⟨S8192x4x128, .f32⟩
  | .hbm, ⟨11, _⟩ => ⟨S8192x2048, .f32⟩
  | .hbm, ⟨12, _⟩ => ⟨S8192x4x4x128, .f32⟩
  | .hbm, ⟨13, _⟩ => ⟨S8192x48, .f32⟩
  | .hbm, ⟨14, _⟩ => ⟨S8192x48, .f32⟩
  | .hbm, ⟨15, _⟩ => ⟨S8192x48, .f32⟩
  | .hbm, ⟨16, _⟩ => ⟨S_, .f32⟩
  | .hbm, ⟨17, _⟩ => ⟨S8192x48, .f32⟩
  | .hbm, ⟨18, _⟩ => ⟨S8192x48, .f32⟩
  | .hbm, ⟨19, _⟩ => ⟨S_, .f32⟩
  | .hbm, ⟨20, _⟩ => ⟨S8192x48, .f32⟩
  | .hbm, ⟨21, _⟩ => ⟨S8192x48, .f32⟩
  | .hbm, ⟨22, _⟩ => ⟨S8192x4x4x3, .f32⟩
  | .hbm, ⟨23, _⟩ => ⟨S8192, .i32⟩
  | .hbm, ⟨24, _⟩ => ⟨S4x8192x4x8192, .f32⟩
  | .hbm, ⟨25, _⟩ => ⟨S_, .f32⟩
  | .hbm, ⟨26, _⟩ => ⟨S_, .f32⟩
  | .hbm, ⟨27, _⟩ => ⟨S4x8192x4x8192, .f32⟩
  | .hbm, ⟨28, _⟩ => ⟨S4x8192x4x8192, .f32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S1x8192, .i32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S1x8192x1x8192, .i1⟩
  | .hbm, ⟨44, _⟩ => ⟨S_, .f32⟩
  | .hbm, ⟨45, _⟩ => ⟨S_, .f32⟩
  | .hbm, ⟨46, _⟩ => ⟨S4x8192x4x8192, .i1⟩
  | .hbm, ⟨47, _⟩ => ⟨S4x8192x4x8192, .f32⟩
  | .hbm, ⟨48, _⟩ => ⟨S4x8192x4x8192, .f32⟩
  | .hbm, ⟨49, _⟩ => ⟨S_, .f32⟩
  | .hbm, ⟨50, _⟩ => ⟨S4x8192x4, .f32⟩
  | .hbm, ⟨51, _⟩ => ⟨S4x8192x4x1, .f32⟩
  | .hbm, ⟨52, _⟩ => ⟨S4x8192x4x1, .f32⟩
  | .hbm, ⟨53, _⟩ => ⟨S_, .f32⟩
  | .hbm, ⟨54, _⟩ => ⟨S4x8192x4x1, .f32⟩
  | .hbm, ⟨55, _⟩ => ⟨S4x8192x4x1, .i1⟩
  | .hbm, ⟨56, _⟩ => ⟨S_, .f32⟩
  | .hbm, ⟨57, _⟩ => ⟨S_, .f32⟩
  | .hbm, ⟨58, _⟩ => ⟨S4x8192x4x1, .f32⟩
  | .hbm, ⟨59, _⟩ => ⟨S4x8192x4x1, .f32⟩
  | .hbm, ⟨60, _⟩ => ⟨S4x8192x4x8192, .f32⟩
  | .hbm, ⟨61, _⟩ => ⟨S4x8192x4x8192, .f32⟩
  | .hbm, ⟨62, _⟩ => ⟨S4x8192x4x8192, .f32⟩
  | .hbm, ⟨63, _⟩ => ⟨S_, .f32⟩
  | .hbm, ⟨64, _⟩ => ⟨S_, .f32⟩
  | .hbm, ⟨65, _⟩ => ⟨S4x8192x4x8192, .i1⟩
  | .hbm, ⟨66, _⟩ => ⟨S4x8192x4x8192, .f32⟩
  | .hbm, ⟨67, _⟩ => ⟨S4x8192x4x8192, .f32⟩
  | .hbm, ⟨68, _⟩ => ⟨S_, .f32⟩
  | .hbm, ⟨69, _⟩ => ⟨S4x8192x4, .f32⟩
  | .hbm, ⟨70, _⟩ => ⟨S4x8192x4x1, .f32⟩
  | .hbm, ⟨71, _⟩ => ⟨S_, .f32⟩
  | .hbm, ⟨72, _⟩ => ⟨S4x8192x4x1, .f32⟩
  | .hbm, ⟨73, _⟩ => ⟨S4x8192x4x1, .f32⟩
  | .hbm, ⟨74, _⟩ => ⟨S4x8192x4x8192, .f32⟩
  | .hbm, ⟨75, _⟩ => ⟨S4x8192x4x8192, .f32⟩
  | .hbm, ⟨76, _⟩ => ⟨S4x8192x4x128, .f32⟩
  | .hbm, ⟨77, _⟩ => ⟨S8192x4x4x128, .f32⟩
  | .hbm, ⟨78, _⟩ => ⟨S8192x4x4x1, .f32⟩
  | .hbm, ⟨79, _⟩ => ⟨S8192x4x4x128, .f32⟩
  | .hbm, ⟨80, _⟩ => ⟨S8192x4x4x128, .f32⟩
  | .hbm, ⟨81, _⟩ => ⟨S8192x4x4x128, .f32⟩
  | .hbm, ⟨82, _⟩ => ⟨S8192x4x4x1, .f32⟩
  | .hbm, ⟨83, _⟩ => ⟨S8192x4x4x128, .f32⟩
  | .hbm, ⟨84, _⟩ => ⟨S8192x4x4x128, .f32⟩
  | .hbm, ⟨85, _⟩ => ⟨S8192x4x4x128, .f32⟩
  | .hbm, ⟨86, _⟩ => ⟨S8192x4x4x128, .f32⟩
  | .hbm, ⟨87, _⟩ => ⟨S8192x4x4x1, .f32⟩
  | .hbm, ⟨88, _⟩ => ⟨S8192x4x4x128, .f32⟩
  | .hbm, ⟨89, _⟩ => ⟨S8192x4x4x128, .f32⟩
  | .hbm, ⟨90, _⟩ => ⟨S8192x4x4x128, .f32⟩
  | .hbm, ⟨91, _⟩ => ⟨S8192x2048, .f32⟩
  | .hbm, ⟨92, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== GdnIn.lean ====
abbrev S1x8192x2048 : Shape := ⟨3, ![1, 8192, 2048]⟩
abbrev S2x2048 : Shape := ⟨2, ![2, 2048]⟩
abbrev S1x2048x8224 : Shape := ⟨3, ![1, 2048, 8224]⟩
abbrev S8192x2048 : Shape := ⟨2, ![8192, 2048]⟩
abbrev S1x2048 : Shape := ⟨2, ![1, 2048]⟩
abbrev S2048 : Shape := ⟨1, ![2048]⟩
abbrev S2048x8224 : Shape := ⟨2, ![2048, 8224]⟩
abbrev S8192x8192 : Shape := ⟨2, ![8192, 8192]⟩
abbrev S2048x2048 : Shape := ⟨2, ![2048, 2048]⟩
abbrev S2048x512 : Shape := ⟨2, ![2048, 512]⟩
abbrev S2048x1 : Shape := ⟨2, ![2048, 1]⟩
abbrev S3x6144 : Shape := ⟨2, ![3, 6144]⟩
abbrev S1x1x3x6144 : Shape := ⟨4, ![1, 1, 3, 6144]⟩

abbrev nBuf : Space → Nat
  | .hbm => 11
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S2x2048, .f32⟩
  | .hbm, ⟨2, _⟩ => ⟨S1x2048x8224, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048x8224, .f32⟩
  | .hbm, ⟨7, _⟩ => ⟨S1x2048, .f32⟩
  | .hbm, ⟨8, _⟩ => ⟨S8192x8192, .f32⟩
  | .hbm, ⟨9, _⟩ => ⟨S3x6144, .f32⟩
  | .hbm, ⟨10, _⟩ => ⟨S1x1x3x6144, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnInRefIdeal.lean ====
abbrev S1x8192x2048 : Shape := ⟨3, ![1, 8192, 2048]⟩
abbrev S2x2048 : Shape := ⟨2, ![2, 2048]⟩
abbrev S1x2048x8224 : Shape := ⟨3, ![1, 2048, 8224]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x8224 : Shape := ⟨2, ![2048, 8224]⟩
abbrev S1x8192x8224 : Shape := ⟨3, ![1, 8192, 8224]⟩
abbrev S1x8192x8192 : Shape := ⟨3, ![1, 8192, 8192]⟩
abbrev S8192x8192 : Shape := ⟨2, ![8192, 8192]⟩
abbrev S1x3x6144 : Shape := ⟨3, ![1, 3, 6144]⟩
abbrev S1x1x3x6144 : Shape := ⟨4, ![1, 1, 3, 6144]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2x2048, .f32⟩
  | .hbm, ⟨2, _⟩ => ⟨S1x2048x8224, .f32⟩
  | .hbm, ⟨3, _⟩ => ⟨S1x2048, .f32⟩
  | .hbm, ⟨4, _⟩ => ⟨S2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S2048x8224, .f32⟩
  | .hbm, ⟨22, _⟩ => ⟨S1x8192x8224, .f32⟩
  | .hbm, ⟨23, _⟩ => ⟨S1x8192x8192, .f32⟩
  | .hbm, ⟨24, _⟩ => ⟨S8192x8192, .f32⟩
  | .hbm, ⟨25, _⟩ => ⟨S1x3x6144, .f32⟩
  | .hbm, ⟨26, _⟩ => ⟨S1x1x3x6144, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== GdnInS.lean ====
abbrev S128x1x2048 : Shape := ⟨3, ![128, 1, 2048]⟩
abbrev S2x2048 : Shape := ⟨2, ![2, 2048]⟩
abbrev S1x2048x8224 : Shape := ⟨3, ![1, 2048, 8224]⟩
abbrev S1x128x3x6144 : Shape := ⟨4, ![1, 128, 3, 6144]⟩
abbrev S128x2048 : Shape := ⟨2, ![128, 2048]⟩
abbrev S1x2048 : Shape := ⟨2, ![1, 2048]⟩
abbrev S2048 : Shape := ⟨1, ![2048]⟩
abbrev S2048x8224 : Shape := ⟨2, ![2048, 8224]⟩
abbrev S128x8192 : Shape := ⟨2, ![128, 8192]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩
abbrev S128x3x6144 : Shape := ⟨3, ![128, 3, 6144]⟩
abbrev S128x2x6144 : Shape := ⟨3, ![128, 2, 6144]⟩
abbrev S128x6144 : Shape := ⟨2, ![128, 6144]⟩
abbrev S128x1x6144 : Shape := ⟨3, ![128, 1, 6144]⟩

abbrev nBuf : Space → Nat
  | .hbm => 16
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S2x2048, .f32⟩
  | .hbm, ⟨2, _⟩ => ⟨S1x2048x8224, .f32⟩
  | .hbm, ⟨3, _⟩ => ⟨S1x128x3x6144, .f32⟩
  | .hbm, ⟨4, _⟩ => ⟨S128x2048, .f32⟩
  | .hbm, ⟨5, _⟩ => ⟨S1x2048, .f32⟩
  | .hbm, ⟨6, _⟩ => ⟨S2048, .f32⟩
  | .hbm, ⟨7, _⟩ => ⟨S2048x8224, .f32⟩
  | .hbm, ⟨8, _⟩ => ⟨S1x2048, .f32⟩
  | .hbm, ⟨9, _⟩ => ⟨S128x8192, .f32⟩
  | .hbm, ⟨10, _⟩ => ⟨S128x3x6144, .f32⟩
  | .hbm, ⟨11, _⟩ => ⟨S128x2x6144, .f32⟩
  | .hbm, ⟨12, _⟩ => ⟨S128x6144, .f32⟩
  | .hbm, ⟨13, _⟩ => ⟨S128x1x6144, .f32⟩
  | .hbm, ⟨14, _⟩ => ⟨S128x3x6144, .f32⟩
  | .hbm, ⟨15, _⟩ => ⟨S1x128x3x6144, .f32⟩
  | .local _ .vmem, ⟨0, _⟩ => ⟨S128x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S128x512, .f32⟩
  | .local _ .vmem, ⟨5, _⟩ => ⟨S128x512, .f32⟩
  | .local _ .vmem, ⟨6, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnInSRefIdeal.lean ====
abbrev S128x1x2048 : Shape := ⟨3, ![128, 1, 2048]⟩
abbrev S2x2048 : Shape := ⟨2, ![2, 2048]⟩
abbrev S1x2048x8224 : Shape := ⟨3, ![1, 2048, 8224]⟩
abbrev S1x128x3x6144 : Shape := ⟨4, ![1, 128, 3, 6144]⟩
abbrev S1x2048 : Shape := ⟨2, ![1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S2048x8224 : Shape := ⟨2, ![2048, 8224]⟩
abbrev S128x1x8224 : Shape := ⟨3, ![128, 1, 8224]⟩
abbrev S128x3x6144 : Shape := ⟨3, ![128, 3, 6144]⟩
abbrev S128x1x6144 : Shape := ⟨3, ![128, 1, 6144]⟩
abbrev S128x4x6144 : Shape := ⟨3, ![128, 4, 6144]⟩
abbrev S128x1x8192 : Shape := ⟨3, ![128, 1, 8192]⟩
abbrev S128x8192 : Shape := ⟨2, ![128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2x2048, .f32⟩
  | .hbm, ⟨2, _⟩ => ⟨S1x2048x8224, .f32⟩
  | .hbm, ⟨3, _⟩ => ⟨S1x128x3x6144, .f32⟩
  | .hbm, ⟨4, _⟩ => ⟨S1x2048, .f32⟩
  | .hbm, ⟨5, _⟩ => ⟨S2048, .f32⟩
  | .hbm, ⟨6, _⟩ => ⟨S128x1x2048, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x2048, .f32⟩
  | .hbm, ⟨18, _⟩ => ⟨S128x1x2048, .f32⟩
  | .hbm, ⟨19, _⟩ => ⟨S1x1x2048, .f32⟩
  | .hbm, ⟨20, _⟩ => ⟨S128x1x2048, .f32⟩
  | .hbm, ⟨21, _⟩ => ⟨S128x1x2048, .f32⟩
  | .hbm, ⟨22, _⟩ => ⟨S2048x8224, .f32⟩
  | .hbm, ⟨23, _⟩ => ⟨S128x1x8224, .f32⟩
  | .hbm, ⟨24, _⟩ => ⟨S128x3x6144, .f32⟩
  | .hbm, ⟨25, _⟩ => ⟨S128x1x6144, .f32⟩
  | .hbm, ⟨26, _⟩ => ⟨S128x4x6144, .f32⟩
  | .hbm, ⟨27, _⟩ => ⟨S128x1x8192, .f32⟩
  | .hbm, ⟨28, _⟩ => ⟨S128x8192, .f32⟩
  | .hbm, ⟨29, _⟩ => ⟨S128x3x6144, .f32⟩
  | .hbm, ⟨30, _⟩ => ⟨S1x128x3x6144, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NsaQ.lean ====
abbrev S8192x2048 : Shape := ⟨2, ![8192, 2048]⟩
abbrev S2048 : Shape := ⟨1, ![2048]⟩
abbrev S2048x2096 : Shape := ⟨2, ![2048, 2096]⟩
abbrev S1x2048 : Shape := ⟨2, ![1, 2048]⟩
abbrev S2048x2048 : Shape := ⟨2, ![2048, 2048]⟩
abbrev S2048x512 : Shape := ⟨2, ![2048, 512]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2096, .f32⟩
  | .hbm, ⟨3, _⟩ => ⟨S1x2048, .f32⟩
  | .hbm, ⟨4, _⟩ => ⟨S8192x2048, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NsaQRefIdeal.lean ====
abbrev S8192x2048 : Shape := ⟨2, ![8192, 2048]⟩
abbrev S2048 : Shape := ⟨1, ![2048]⟩
abbrev S2048x2096 : Shape := ⟨2, ![2048, 2096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x2096 : Shape := ⟨2, ![8192, 2096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2096, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1x2048x2048 : Shape := ⟨3, ![1, 2048, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048x2048, .f32⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutProjRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnDown.lean ====
abbrev S8192x5632 : Shape := ⟨2, ![8192, 5632]⟩
abbrev S2x5632x2048 : Shape := ⟨3, ![2, 5632, 2048]⟩
abbrev S8192x2048 : Shape := ⟨2, ![8192, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnDownRefIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDownN.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x2048 : Shape := ⟨2, ![1, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDownNRefIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnUp.lean ====
abbrev S8192x2048 : Shape := ⟨2, ![8192, 2048]⟩
abbrev S2048 : Shape := ⟨1, ![2048]⟩
abbrev S2x2048x5632 : Shape := ⟨3, ![2, 2048, 5632]⟩
abbrev S3x5632 : Shape := ⟨2, ![3, 5632]⟩
abbrev S5632 : Shape := ⟨1, ![5632]⟩
abbrev S1x2048 : Shape := ⟨2, ![1, 2048]⟩
abbrev S1x5632 : Shape := ⟨2, ![1, 5632]⟩
abbrev S8192x5632 : Shape := ⟨2, ![8192, 5632]⟩
abbrev S8x8x5632 : Shape := ⟨3, ![8, 8, 5632]⟩
abbrev S1024x2048 : Shape := ⟨2, ![1024, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S11x8x512 : Shape := ⟨3, ![11, 8, 512]⟩
abbrev S1032x512 : Shape := ⟨2, ![1032, 512]⟩
abbrev S1024 : Shape := ⟨1, ![1024]⟩
abbrev S1024x1 : Shape := ⟨2, ![1024, 1]⟩
abbrev S8x512 : Shape := ⟨2, ![8, 512]⟩
abbrev S2048x512 : Shape := ⟨2, ![2048, 512]⟩
abbrev S1x2x5632 : Shape := ⟨3, ![1, 2, 5632]⟩
abbrev S2x5632 : Shape := ⟨2, ![2, 5632]⟩

abbrev nBuf : Space → Nat
  | .hbm => 12
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S5632, .f32⟩
  | .hbm, ⟨6, _⟩ => ⟨S1x2048, .f32⟩
  | .hbm, ⟨7, _⟩ => ⟨S1x5632, .f32⟩
  | .hbm, ⟨8, _⟩ => ⟨S8192x5632, .bf16⟩
  | .hbm, ⟨9, _⟩ => ⟨S8x8x5632, .f32⟩
  | .hbm, ⟨10, _⟩ => ⟨S1x2x5632, .f32⟩
  | .hbm, ⟨11, _⟩ => ⟨S2x5632, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1x8x512, .f32⟩
  | .local _ .vmem, ⟨14, _⟩ => ⟨S1x8x512, .f32⟩
  | .local _ .vmem, ⟨15, _⟩ => ⟨S1024x2048, .bf16⟩
  | .local _ .vmem, ⟨16, _⟩ => ⟨S11x8x512, .f32⟩
  | .local _ .vmem, ⟨17, _⟩ => ⟨S1032x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v63 : Index := Scalar.indexCast arg1
  let c0_33 : Index := 0#32
  let c0_34 : Index := 0#32
  ![v63.toNat, 0, 0]
def k0_off2 (i : grid0.Coords) : Fin 3 → Nat :=
  let arg1 : BitVec 32 := BitVec.ofNat 32 (i 1).val
  let v15 : Index := Scalar.indexCast arg1
  let c0_11 : Index := 0#32
  let c0_12 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpRefIdeal.lean ====
abbrev S8192x2048 : Shape := ⟨2, ![8192, 2048]⟩
abbrev S2048 : Shape := ⟨1, ![2048]⟩
abbrev S2x2048x5632 : Shape := ⟨3, ![2, 2048, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x5632 : Shape := ⟨2, ![2, 5632]⟩
abbrev S1x2048x5632 : Shape := ⟨3, ![1, 2048, 5632]⟩
abbrev S2048x5632 : Shape := ⟨2, ![2048, 5632]⟩
abbrev S8192x5632 : Shape := ⟨2, ![8192, 5632]⟩
abbrev S8194x5632 : Shape := ⟨2, ![8194, 5632]⟩
abbrev S1x5632 : Shape := ⟨2, ![1, 5632]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S5632, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S2x5632, .f32⟩
  | .hbm, ⟨24, _⟩ => ⟨S1x2048x5632, .f32⟩
  | .hbm, ⟨25, _⟩ => ⟨S2048x5632, .f32⟩
  | .hbm, ⟨26, _⟩ => ⟨S8192x5632, .f32⟩
  | .hbm, ⟨27, _⟩ => ⟨S8194x5632, .f32⟩
  | .hbm, ⟨28, _⟩ => ⟨S1x5632, .f32⟩
  | .hbm, ⟨29, _⟩ => ⟨S5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S5632, .f32⟩
  | .hbm, ⟨36, _⟩ => ⟨S8192x5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S8192x5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S_, .f32⟩
  | .hbm, ⟨54, _⟩ => ⟨S8192x5632, .f32⟩
  | .hbm, ⟨55, _⟩ => ⟨S8192x5632, .f32⟩
  | .hbm, ⟨56, _⟩ => ⟨S_, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S1x2048x5632, .f32⟩
  | .hbm, ⟨61, _⟩ => ⟨S2048x5632, .f32⟩
  | .hbm, ⟨62, _⟩ => ⟨S8192x5632, .f32⟩
  | .hbm, ⟨63, _⟩ => ⟨S8192x5632, .f32⟩
  | .hbm, ⟨64, _⟩ => ⟨S8192x5632, .bf16⟩
  | .hbm, ⟨65, _⟩ => ⟨S2x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== FfnUpS.lean ====
abbrev S128x2048 : Shape := ⟨2, ![128, 2048]⟩
abbrev S2048 : Shape := ⟨1, ![2048]⟩
abbrev S2x2048x5632 : Shape := ⟨3, ![2, 2048, 5632]⟩
abbrev S3x5632 : Shape := ⟨2, ![3, 5632]⟩
abbrev S5632 : Shape := ⟨1, ![5632]⟩
abbrev S128x2x5632 : Shape := ⟨3, ![128, 2, 5632]⟩
abbrev S128x11264 : Shape := ⟨2, ![128, 11264]⟩
abbrev S1x2048 : Shape := ⟨2, ![1, 2048]⟩
abbrev S1x5632 : Shape := ⟨2, ![1, 5632]⟩
abbrev S128x5632 : Shape := ⟨2, ![128, 5632]⟩
abbrev S1x2048x512 : Shape := ⟨3, ![1, 2048, 512]⟩
abbrev S3x512 : Shape := ⟨2, ![3, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S2048x512 : Shape := ⟨2, ![2048, 512]⟩
abbrev S128x1x5632 : Shape := ⟨3, ![128, 1, 5632]⟩

abbrev nBuf : Space → Nat
  | .hbm => 17
  | .vmem => 19
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S5632, .f32⟩
  | .hbm, ⟨6, _⟩ => ⟨S128x2x5632, .f32⟩
  | .hbm, ⟨7, _⟩ => ⟨S128x11264, .f32⟩
  | .hbm, ⟨8, _⟩ => ⟨S1x2048, .f32⟩
  | .hbm, ⟨9, _⟩ => ⟨S1x5632, .f32⟩
  | .hbm, ⟨10, _⟩ => ⟨S128x5632, .bf16⟩
  | .hbm, ⟨11, _⟩ => ⟨S128x5632, .f32⟩
  | .hbm, ⟨12, _⟩ => ⟨S128x1x5632, .f32⟩
  | .hbm, ⟨13, _⟩ => ⟨S128x5632, .f32⟩
  | .hbm, ⟨14, _⟩ => ⟨S128x1x5632, .f32⟩
  | .hbm, ⟨15, _⟩ => ⟨S128x1x5632, .f32⟩
  | .hbm, ⟨16, _⟩ => ⟨S128x2x5632, .f32⟩
  | .local _ .vmem, ⟨0, _⟩ => ⟨S128x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x512, .bf16⟩
  | .local _ .vmem, ⟨16, _⟩ => ⟨S128x512, .f32⟩
  | .local _ .vmem, ⟨17, _⟩ => ⟨S128x512, .f32⟩
  | .local _ .vmem, ⟨18, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== FfnUpSRefIdeal.lean ====
abbrev S128x2048 : Shape := ⟨2, ![128, 2048]⟩
abbrev S2048 : Shape := ⟨1, ![2048]⟩
abbrev S2x2048x5632 : Shape := ⟨3, ![2, 2048, 5632]⟩
abbrev S3x5632 : Shape := ⟨2, ![3, 5632]⟩
abbrev S5632 : Shape := ⟨1, ![5632]⟩
abbrev S128x2x5632 : Shape := ⟨3, ![128, 2, 5632]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S1x2048x5632 : Shape := ⟨3, ![1, 2048, 5632]⟩
abbrev S2048x5632 : Shape := ⟨2, ![2048, 5632]⟩
abbrev S128x5632 : Shape := ⟨2, ![128, 5632]⟩
abbrev S128x1x5632 : Shape := ⟨3, ![128, 1, 5632]⟩
abbrev S128x3x5632 : Shape := ⟨3, ![128, 3, 5632]⟩
abbrev S1x5632 : Shape := ⟨2, ![1, 5632]⟩

abbrev nBuf : Space → Nat
  | .hbm => 69
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S5632, .f32⟩
  | .hbm, ⟨6, _⟩ => ⟨S128x2x5632, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S1x2048x5632, .f32⟩
  | .hbm, ⟨24, _⟩ => ⟨S2048x5632, .f32⟩
  | .hbm, ⟨25, _⟩ => ⟨S128x5632, .f32⟩
  | .hbm, ⟨26, _⟩ => ⟨S128x1x5632, .f32⟩
  | .hbm, ⟨27, _⟩ => ⟨S128x3x5632, .f32⟩
  | .hbm, ⟨28, _⟩ => ⟨S1x5632, .f32⟩
  | .hbm, ⟨29, _⟩ => ⟨S5632, .f32⟩
  | .hbm, ⟨30, _⟩ => ⟨S128x1x5632, .f32⟩
  | .hbm, ⟨31, _⟩ => ⟨S128x5632, .f32⟩
  | .hbm, ⟨32, _⟩ => ⟨S1x5632, .f32⟩
  | .hbm, ⟨33, _⟩ => ⟨S128x5632, .f32⟩
  | .hbm, ⟨34, _⟩ => ⟨S128x5632, .f32⟩
  | .hbm, ⟨35, _⟩ => ⟨S1x5632, .f32⟩
  | .hbm, ⟨36, _⟩ => ⟨S5632, .f32⟩
  | .hbm, ⟨37, _⟩ => ⟨S128x1x5632, .f32⟩
  | .hbm, ⟨38, _⟩ => ⟨S128x5632, .f32⟩
  | .hbm, ⟨39, _⟩ => ⟨S1x5632, .f32⟩
  | .hbm, ⟨40, _⟩ => ⟨S128x5632, .f32⟩
  | .hbm, ⟨41, _⟩ => ⟨S128x5632, .f32⟩
  | .hbm, ⟨42, _⟩ => ⟨S128x5632, .f32⟩
  | .hbm, ⟨43, _⟩ => ⟨S1x5632, .f32⟩
  | .hbm, ⟨44, _⟩ => ⟨S5632, .f32⟩
  | .hbm, ⟨45, _⟩ => ⟨S128x1x5632, .f32⟩
  | .hbm, ⟨46, _⟩ => ⟨S128x5632, .f32⟩
  | .hbm, ⟨47, _⟩ => ⟨S1x5632, .f32⟩
  | .hbm, ⟨48, _⟩ => ⟨S128x5632, .f32⟩
  | .hbm, ⟨49, _⟩ => ⟨S128x5632, .f32⟩
  | .hbm, ⟨50, _⟩ => ⟨S128x5632, .f32⟩
  | .hbm, ⟨51, _⟩ => ⟨S1x5632, .f32⟩
  | .hbm, ⟨52, _⟩ => ⟨S128x5632, .f32⟩
  | .hbm, ⟨53, _⟩ => ⟨S128x5632, .f32⟩
  | .hbm, ⟨54, _⟩ => ⟨S128x5632, .f32⟩
  | .hbm, ⟨55, _⟩ => ⟨S128x5632, .f32⟩
  | .hbm, ⟨56, _⟩ => ⟨S_, .f32⟩
  | .hbm, ⟨57, _⟩ => ⟨S128x5632, .f32⟩
  | .hbm, ⟨58, _⟩ => ⟨S128x5632, .f32⟩
  | .hbm, ⟨59, _⟩ => ⟨S_, .f32⟩
  | .hbm, ⟨60, _⟩ => ⟨S128x5632, .f32⟩
  | .hbm, ⟨61, _⟩ => ⟨S128x5632, .f32⟩
  | .hbm, ⟨62, _⟩ => ⟨S128x5632, .f32⟩
  | .hbm, ⟨63, _⟩ => ⟨S1x2048x5632, .f32⟩
  | .hbm, ⟨64, _⟩ => ⟨S2048x5632, .f32⟩
  | .hbm, ⟨65, _⟩ => ⟨S128x5632, .f32⟩
  | .hbm, ⟨66, _⟩ => ⟨S128x5632, .f32⟩
  | .hbm, ⟨67, _⟩ => ⟨S128x5632, .bf16⟩
  | .hbm, ⟨68, _⟩ => ⟨S128x2x5632, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== KvRows.lean ====
abbrev S8192x2048 : Shape := ⟨2, ![8192, 2048]⟩
abbrev S2048 : Shape := ⟨1, ![2048]⟩
abbrev S2048x3072 : Shape := ⟨2, ![2048, 3072]⟩
abbrev S8192x64 : Shape := ⟨2, ![8192, 64]⟩
abbrev S8192x128 : Shape := ⟨2, ![8192, 128]⟩
abbrev S1x2048 : Shape := ⟨2, ![1, 2048]⟩
abbrev S8192x3072 : Shape := ⟨2, ![8192, 3072]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S8192x64, .f32⟩
  | .hbm, ⟨4, _⟩ => ⟨S8192x64, .f32⟩
  | .hbm, ⟨5, _⟩ => ⟨S8192x128, .f32⟩
  | .hbm, ⟨6, _⟩ => ⟨S8192x64, .f32⟩
  | .hbm, ⟨7, _⟩ => ⟨S8192x128, .f32⟩
  | .hbm, ⟨8, _⟩ => ⟨S1x2048, .f32⟩
  | .hbm, ⟨9, _⟩ => ⟨S8192x3072, .f32⟩
  | .hbm, ⟨10, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KvRowsRefIdeal.lean ====
abbrev S8192x2048 : Shape := ⟨2, ![8192, 2048]⟩
abbrev S2048 : Shape := ⟨1, ![2048]⟩
abbrev S2048x3072 : Shape := ⟨2, ![2048, 3072]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S8192x6x4x128 : Shape := ⟨4, ![8192, 6, 4, 128]⟩
abbrev S8192x1x64 : Shape := ⟨3, ![8192, 1, 64]⟩
abbrev S8192x1x4x128 : Shape := ⟨4, ![8192, 1, 4, 128]⟩
abbrev S8192x4x128 : Shape := ⟨3, ![8192, 4, 128]⟩
abbrev S8192x4x64 : Shape := ⟨3, ![8192, 4, 64]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S8192x64, .f32⟩
  | .hbm, ⟨4, _⟩ => ⟨S8192x64, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x3072, .f32⟩
  | .hbm, ⟨22, _⟩ => ⟨S8192x6x4x128, .f32⟩
  | .hbm, ⟨23, _⟩ => ⟨S8192x1x64, .f32⟩
  | .hbm, ⟨24, _⟩ => ⟨S8192x1x64, .f32⟩
  | .hbm, ⟨25, _⟩ => ⟨S8192x1x4x128, .f32⟩
  | .hbm, ⟨26, _⟩ => ⟨S8192x4x128, .f32⟩
  | .hbm, ⟨27, _⟩ => ⟨S8192x1x4x128, .f32⟩
  | .hbm, ⟨28, _⟩ => ⟨S8192x4x128, .f32⟩
  | .hbm, ⟨29, _⟩ => ⟨S8192x1x4x128, .f32⟩
  | .hbm, ⟨30, _⟩ => ⟨S8192x4x128, .f32⟩
  | .hbm, ⟨31, _⟩ => ⟨S8192x4x64, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S8192x4x64, .f32⟩
  | .hbm, ⟨36, _⟩ => ⟨S8192x4x64, .f32⟩
  | .hbm, ⟨37, _⟩ => ⟨S8192x4x64, .f32⟩
  | .hbm, ⟨38, _⟩ => ⟨S8192x4x64, .f32⟩
  | .hbm, ⟨39, _⟩ => ⟨S8192x4x64, .f32⟩
  | .hbm, ⟨40, _⟩ => ⟨S8192x4x64, .f32⟩
  | .hbm, ⟨41, _⟩ => ⟨S8192x4x64, .f32⟩
  | .hbm, ⟨42, _⟩ => ⟨S8192x4x64, .f32⟩
  | .hbm, ⟨43, _⟩ => ⟨S8192x4x128, .f32⟩
  | .hbm, ⟨44, _⟩ => ⟨S8192x1x4x128, .f32⟩
  | .hbm, ⟨45, _⟩ => ⟨S8192x4x128, .f32⟩
  | .hbm, ⟨46, _⟩ => ⟨S8192x1x4x128, .f32⟩
  | .hbm, ⟨47, _⟩ => ⟨S8192x4x128, .f32⟩
  | .hbm, ⟨48, _⟩ => ⟨S8192x4x64, .f32⟩
  | .hbm, ⟨49, _⟩ => ⟨S8192x4x64, .f32⟩
  | .hbm, ⟨50, _⟩ => ⟨S8192x4x64, .f32⟩
  | .hbm, ⟨51, _⟩ => ⟨S8192x4x64, .f32⟩
  | .hbm, ⟨52, _⟩ => ⟨S8192x4x64, .f32⟩
  | .hbm, ⟨53, _⟩ => ⟨S8192x4x64, .f32⟩
  | .hbm, ⟨54, _⟩ => ⟨S8192x4x64, .f32⟩
  | .hbm, ⟨55, _⟩ => ⟨S8192x4x64, .f32⟩
  | .hbm, ⟨56, _⟩ => ⟨S8192x4x64, .f32⟩
  | .hbm, ⟨57, _⟩ => ⟨S8192x4x64, .f32⟩
  | .hbm, ⟨58, _⟩ => ⟨S8192x4x64, .f32⟩
  | .hbm, ⟨59, _⟩ => ⟨S8192x4x64, .f32⟩
  | .hbm, ⟨60, _⟩ => ⟨S8192x4x128, .f32⟩
  | .hbm, ⟨61, _⟩ => ⟨S8192x1x4x128, .f32⟩
  | .hbm, ⟨62, _⟩ => ⟨S8192x4x128, .f32⟩
  | .hbm, ⟨63, _⟩ => ⟨S8192x1x4x128, .f32⟩
  | .hbm, ⟨64, _⟩ => ⟨S8192x1x4x128, .f32⟩
  | .hbm, ⟨65, _⟩ => ⟨S8192x1x4x128, .f32⟩
  | .hbm, ⟨66, _⟩ => ⟨S8192x1x4x128, .f32⟩
  | .hbm, ⟨67, _⟩ => ⟨S8192x1x4x128, .f32⟩
  | .hbm, ⟨68, _⟩ => ⟨S8192x1x4x128, .f32⟩
  | .hbm, ⟨69, _⟩ => ⟨S8192x6x4x128, .f32⟩
  | .hbm, ⟨70, _⟩ => ⟨S8192x3072, .f32⟩
  | .hbm, ⟨71, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== Proof.Win.Soft.lean ====
/-
  The softmax over a window of keys, on the extended reals, apart from any program.

  The kernel looks at `n` key columns of a band that slides with the query block: a column outside the window is at
  minus infinity, the row's maximum `M` is subtracted, the weights are powers of two, and the division by the weights'
  sum comes AFTER the product with the values. The reference looks at all `N` keys, scales the scores by log 2, sets
  the keys outside the window to minus infinity, subtracts the maximum where it is finite, takes the exponential, sets
  the weights outside the window to zero and divides BEFORE the product with the values. `window_eq` says that the two
  are equal for every score and every value, the infinite ones included.
-/
module

public import Idealize.ShloMosaic.PureOps.Ideal.Laws
public import Idealize.ShloMosaic.Lib.Pointwise

@[expose] public section

noncomputable section

namespace Cert.Proof.Soft

open Idealize.ShloMosaic

/-- A product with a nonnegative finite factor distributes over a finite sum of extended reals. -/
theorem sum_mul_real {ι : Type} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, ← ih, mul_comm, EReal.left_distrib_of_nonneg_of_ne_top h0 ht,
      mul_comm r, mul_comm r]

/-- A finite sum of nonnegative finite terms is nonnegative and finite. -/
theorem sum_fin {ι : Type} (s : Finset ι) (f : ι → EReal) (h : ∀ i ∈ s, 0 ≤ f i ∧ f i ≠ ⊤) :
    0 ≤ ∑ i ∈ s, f i ∧ ∑ i ∈ s, f i ≠ ⊤ := by
  classical
  induction s using Finset.induction_on with
  | empty => simp
  | insert a s ha ih =>
    have h1 := h a (Finset.mem_insert_self a s)
    have h2 := ih fun i hi => h i (Finset.mem_insert_of_mem hi)
    rw [Finset.sum_insert ha]
    exact ⟨add_nonneg h1.1 h2.1, EReal.add_ne_top h1.2 h2.2⟩

/-- Two sums whose nonzero terms correspond one to one are equal. -/
theorem sum_window {n N : Nat} (f : Fin n → EReal) (g : Fin N → EReal) (ok : Fin n → Prop) (mask : Fin N → Prop)
    (pos : Fin n → Fin N) (hf : ∀ c, ¬ ok c → f c = 0) (hg : ∀ j, ¬ mask j → g j = 0)
    (hfg : ∀ c, ok c → f c = g (pos c)) (hm : ∀ c, ok c → mask (pos c))
    (inj : ∀ c c', ok c → ok c' → pos c = pos c' → c = c') (surj : ∀ j, mask j → ∃ c, ok c ∧ pos c = j) :
    ∑ c, f c = ∑ j, g j := by
  classical
  have e1 : ∑ c, f c = ∑ c ∈ Finset.univ.filter ok, f c :=
    (Finset.sum_filter_of_ne fun c _ h => by by_contra h'; exact h (hf c h')).symm
  have e2 : ∑ j, g j = ∑ j ∈ Finset.univ.filter mask, g j :=
    (Finset.sum_filter_of_ne fun j _ h => by by_contra h'; exact h (hg j h')).symm
  rw [e1, e2]
  refine Finset.sum_nbij pos ?_ ?_ ?_ ?_
  · intro c hc; simp only [Finset.mem_filter, Finset.mem_univ, true_and] at hc ⊢; exact hm c hc
  · intro c hc c' hc' h
    simp only [Finset.coe_filter, Finset.mem_univ, true_and, Set.mem_setOf_eq] at hc hc'
    exact inj c c' hc hc' h
  · intro j hj
    simp only [Finset.coe_filter, Finset.mem_univ, true_and, Set.mem_setOf_eq] at hj
    obtain ⟨c, hc, e⟩ := surj j hj
    exact ⟨c, by simpa using hc, e⟩
  · intro c hc; simp only [Finset.mem_filter, Finset.mem_univ, true_and] at hc; exact hfg c hc

/-- The running maximum from minus infinity bounds every term, and is one of them. -/
theorem fold_max_spec {n : Nat} (f : Fin n → EReal) (c₀ : Fin n) :
    (∀ c, f c ≤ Finset.univ.fold max ⊥ f) ∧ ∃ c, f c = Finset.univ.fold max ⊥ f := by
  have e : Finset.univ.fold max ⊥ f = Finset.univ.sup f := rfl
  rw [e]
  refine ⟨fun c => Finset.le_sup (Finset.mem_univ c), ?_⟩
  obtain ⟨c, _, h⟩ := Finset.exists_mem_eq_sup Finset.univ ⟨c₀, Finset.mem_univ c₀⟩ f
  exact ⟨c, h.symm⟩

theorem div_zero_left {y : EReal} (hy : 0 < y) : Ideal.div 0 y = 0 := by
  unfold Ideal.div; rw [if_neg hy.ne']; simp

theorem div_top (x : EReal) : Ideal.div x ⊤ = 0 := by
  unfold Ideal.div; rw [if_neg (by simp)]; simp

theorem exp_nonneg (x : EReal) : 0 ≤ Ideal.exp x := by
  induction x using EReal.rec with
  | bot => simp
  | top => simp
  | coe r => simp only [Ideal.exp_coe]; exact_mod_cast (Real.exp_pos r).le

/-- A power of two is the exponential of the exponent times log 2, at every extended real that is not plus infinity
    with a finite amount taken off. -/
theorem exp2_sub (x : EReal) (r : ℝ) (hx : x ≤ r) :
    Ideal.exp (x * (Real.log 2 : ℝ) - (r * (Real.log 2 : ℝ) : EReal)) = Ideal.exp2 (x - r)
      ∧ 0 ≤ Ideal.exp2 (x - r) ∧ Ideal.exp2 (x - r) ≠ ⊤ := by
  have hl : 0 < Real.log 2 := Real.log_pos (by norm_num)
  induction x using EReal.rec with
  | bot =>
    rw [EReal.bot_mul_coe_of_pos hl]
    have h2 : (⊥ : EReal) - (r : EReal) = ⊥ := EReal.bot_sub _
    rw [h2, ← EReal.coe_mul, EReal.bot_sub]; simp
  | top => exact absurd hx (by simp)
  | coe s =>
    rw [← EReal.coe_mul, ← EReal.coe_mul, ← EReal.coe_sub, ← EReal.coe_sub, Ideal.exp_coe, Ideal.exp2_coe]
    refine ⟨?_, ?_, EReal.coe_ne_top _⟩
    · congr 1
      show _ = (2 : ℝ) ^ (s - r)
      rw [Real.rpow_def_of_pos (by norm_num)]; congr 1; ring
    · exact_mod_cast Real.rpow_nonneg (by norm_num) _

/-- THE WINDOW'S SOFTMAX, the kernel's and the reference's: equal at every score and value. -/
theorem window_eq {n N : Nat} (s v : Fin N → EReal) (mask : Fin N → Prop) [DecidablePred mask] (j₀ : Fin N)
    (hj₀ : mask j₀) (sk vk : Fin n → EReal) (ok : Fin n → Prop) (pos : Fin n → Fin N)
    (hs : ∀ c, ok c → sk c = s (pos c)) (hs' : ∀ c, ¬ ok c → sk c = ⊥) (hv : ∀ c, ok c → vk c = v (pos c))
    (hm : ∀ c, ok c → mask (pos c)) (inj : ∀ c c', ok c → ok c' → pos c = pos c' → c = c')
    (surj : ∀ j, mask j → ∃ c, ok c ∧ pos c = j) {tiny : EReal} (ht0 : 0 < tiny) (htt : tiny ≠ ⊤)
    (sr p : Fin N → EReal) (m : EReal)
    (hsr : ∀ j, sr j = if mask j then s j * (Real.log 2 : ℝ) else ⊥)
    (hm1 : m = if max (Finset.univ.fold max ⊥ sr) (-(Finset.univ.fold max ⊥ sr)) < ⊤ then Finset.univ.fold max ⊥ sr else 0)
    (hp : ∀ j, p j = if mask j then Ideal.exp (sr j - m) else 0) :
    Ideal.div (∑ c, Ideal.exp2 (sk c - Finset.univ.fold max ⊥ sk) * vk c)
        (max (∑ c, Ideal.exp2 (sk c - Finset.univ.fold max ⊥ sk)) tiny)
      = ∑ j, Ideal.div (p j) (max (∑ j', p j') tiny) * v j := by
  have hl : 0 < Real.log 2 := Real.log_pos (by norm_num)
  have hl' : (0 : EReal) ≤ (Real.log 2 : ℝ) := by exact_mod_cast hl.le
  obtain ⟨c₀, hc₀, _⟩ := surj j₀ hj₀
  obtain ⟨hle, c₁, hc₁⟩ := fold_max_spec sk c₀
  obtain ⟨hle', j₁, hj₁⟩ := fold_max_spec sr j₀
  generalize Finset.univ.fold max ⊥ sk = M at *
  generalize Finset.univ.fold max ⊥ sr = M' at *
  -- the reference's maximum is the kernel's, times log 2
  have hMM : M' = M * (Real.log 2 : ℝ) := by
    apply le_antisymm
    · rw [← hj₁, hsr]
      split
      · rename_i h
        obtain ⟨c, hc, e⟩ := surj j₁ h
        rw [← e, ← hs c hc]
        exact mul_le_mul_of_nonneg_right (hle c) hl'
      · exact bot_le
    · rw [← hc₁]
      by_cases h : ok c₁
      · rw [hs c₁ h]
        refine le_trans (le_of_eq ?_) (hle' (pos c₁))
        rw [hsr, if_pos (hm c₁ h)]
      · rw [hs' c₁ h, EReal.bot_mul_coe_of_pos hl]; exact bot_le
  have tiny_max : max 0 tiny = tiny := max_eq_right ht0.le
  induction M using EReal.rec with
  | bot =>
    rw [EReal.bot_mul_coe_of_pos hl] at hMM
    subst hMM
    have hz : ∀ c, Ideal.exp2 (sk c - ⊥) = 0 := fun c => by
      rw [le_bot_iff.mp (hle c), EReal.bot_sub]; rfl
    have hp0 : ∀ j, p j = 0 := fun j => by
      rw [hp, hm1, le_bot_iff.mp (hle' j)]
      simp
    simp only [hz, hp0, zero_mul, Finset.sum_const_zero, tiny_max, div_zero_left ht0]
  | top =>
    rw [EReal.top_mul_coe_of_pos hl] at hMM
    subst hMM
    have hz : ∀ c, Ideal.exp2 (sk c - ⊤) = 0 := fun c => by
      rw [EReal.sub_top]; rfl
    have hpt : p j₁ = ⊤ := by
      have hk : mask j₁ := by
        by_contra h
        rw [hsr, if_neg h] at hj₁
        exact absurd hj₁ (by simp)
      rw [hp, if_pos hk, hj₁, hm1]
      simp
    have hpn : ∀ j, 0 ≤ p j := fun j => by
      rw [hp]; split
      · exact exp_nonneg _
      · exact le_refl _
    have hsum : ∑ j, p j = ⊤ := by
      refine top_le_iff.mp ?_
      rw [← hpt]
      exact Finset.single_le_sum (f := p) (fun j _ => hpn j) (Finset.mem_univ j₁)
    simp only [hz, hsum, zero_mul, Finset.sum_const_zero, tiny_max, div_zero_left ht0,
      max_eq_left (le_top : tiny ≤ ⊤), div_top]
  | coe r =>
    have hmr : m = (r : EReal) * (Real.log 2 : ℝ) := by
      rw [hm1, hMM, ← EReal.coe_mul, if_pos]
      rw [← EReal.coe_neg]
      exact max_lt (EReal.coe_lt_top _) (EReal.coe_lt_top _)
    have hz : ∀ c, ¬ ok c → Ideal.exp2 (sk c - r) = 0 := fun c h => by
      rw [hs' c h, EReal.bot_sub]; rfl
    have hz' : ∀ j, ¬ mask j → p j = 0 := fun j h => by rw [hp, if_neg h]
    have hkp : ∀ c, ok c → Ideal.exp2 (sk c - r) = p (pos c) := fun c h => by
      rw [hp, if_pos (hm c h), hsr, if_pos (hm c h), hmr, ← hs c h]
      exact (exp2_sub _ r (hle c)).1.symm
    have e1 : ∑ c, Ideal.exp2 (sk c - r) = ∑ j, p j := sum_window _ _ ok mask pos hz hz' hkp hm inj surj
    have e2 : ∑ c, Ideal.exp2 (sk c - r) * vk c = ∑ j, p j * v j :=
      sum_window _ _ ok mask pos (fun c h => by rw [hz c h, zero_mul]) (fun j h => by rw [hz' j h, zero_mul])
        (fun c h => by rw [hkp c h, hv c h]) hm inj surj
    have hb : 0 ≤ ∑ c, Ideal.exp2 (sk c - r) ∧ ∑ c, Ideal.exp2 (sk c - r) ≠ ⊤ :=
      sum_fin _ _ fun c _ => (exp2_sub _ r (hle c)).2
    rw [e1, e2]
    rw [e1] at hb
    generalize hD : max (∑ j, p j) tiny = D
    have hD0 : 0 < D := by rw [← hD]; exact lt_max_of_lt_right ht0
    have hDt : D ≠ ⊤ := by
      rw [← hD]
      rcases max_choice (∑ j, p j) tiny with h | h <;> rw [h]
      · exact hb.2
      · exact htt
    have hi0 : 0 ≤ D⁻¹ := EReal.inv_nonneg_of_nonneg hD0.le
    have hit : D⁻¹ ≠ ⊤ := by
      lift D to ℝ using ⟨hDt, (lt_trans EReal.bot_lt_zero hD0).ne'⟩
      rw [← EReal.coe_inv]; exact EReal.coe_ne_top _
    unfold Ideal.div
    simp only [if_neg hD0.ne']
    rw [sum_mul_real _ _ hi0 hit]
    exact Finset.sum_congr rfl fun j _ => by rw [mul_assoc, mul_comm (v j), mul_assoc]

end Cert.Proof.Soft

end
-- ==== Proof.Win.Spec.lean ====
/-
  What the window attention computes, on the extended reals, as ONE function of the five argument arrays: the rotated
  and scaled queries `x0`, the key/value rows `x1` (the window's keys are its columns from 2048 on, the values its
  columns from 2560 on), the other two branches' outputs `x2` and `x3`, and the gate logits `x4`. Head `4 g + h` of
  query `q` looks at the 512 keys up to and including `q`.
-/
module

public import proofs.«01_k».proof.Proof.Win.Soft

@[expose] public section

noncomputable section

namespace Cert.Proof.Win

open Idealize.ShloMosaic

/-- The column of coordinate `d` of head `h` of group `g`, in an array with all sixteen heads side by side. -/
def qcol (g h : Fin 4) (d : Fin 128) : Fin 2048 := ⟨g.val * 512 + h.val * 128 + d.val, by omega⟩
/-- The column of coordinate `d` of group `g`'s window keys, -/
def kcol (g : Fin 4) (d : Fin 128) : Fin 3072 := ⟨2048 + g.val * 128 + d.val, by omega⟩
/-- and of its window values. -/
def vcol (g : Fin 4) (d : Fin 128) : Fin 3072 := ⟨2560 + g.val * 128 + d.val, by omega⟩
/-- The gate column of branch `b` of head `h` of group `g`. -/
def gcol (g h : Fin 4) (b : Fin 3) : Fin 128 := ⟨g.val * 12 + h.val * 3 + b.val, by omega⟩

/-- Query `q` sees key `j`. -/
abbrev sees (q j : Fin 8192) : Prop := j.val ≤ q.val ∧ q.val < j.val + 512

/-- The floor under the weights' sum (about 1e-30; its exact value plays no part). -/
def tiny : EReal := Ideal.ofBits FTy.f32 0x0DA24260#32

variable (x0 : FVec Ideal ⟨2, ![8192, 2048]⟩ .bf16) (x1 : FVec Ideal ⟨2, ![8192, 3072]⟩ .bf16)
  (x2 x3 : FVec Ideal ⟨2, ![8192, 2048]⟩ .f32) (x4 : FVec Ideal ⟨2, ![8192, 128]⟩ .f32)

/-- The query-key product, in base-2 units. -/
def score (g h : Fin 4) (q j : Fin 8192) : EReal := ∑ d : Fin 128, x0 (ix2 q (qcol g h d)) * x1 (ix2 j (kcol g d))
/-- The score, minus infinity outside the window. -/
def masked (g h : Fin 4) (q j : Fin 8192) : EReal := if sees q j then score x0 x1 g h q j * (Real.log 2 : ℝ) else ⊥
/-- The row's maximum. -/
def top (g h : Fin 4) (q : Fin 8192) : EReal := Finset.univ.fold max ⊥ fun j => masked x0 x1 g h q j
/-- What is subtracted: the maximum where it is finite. -/
def shift (g h : Fin 4) (q : Fin 8192) : EReal :=
  if max (top x0 x1 g h q) (-top x0 x1 g h q) < ⊤ then top x0 x1 g h q else 0
/-- The weight of key `j`. -/
def weight (g h : Fin 4) (q j : Fin 8192) : EReal :=
  if sees q j then Ideal.exp (masked x0 x1 g h q j - shift x0 x1 g h q) else 0
/-- The attention's output. -/
def attend (g h : Fin 4) (q : Fin 8192) (d : Fin 128) : EReal :=
  ∑ j : Fin 8192, Ideal.div (weight x0 x1 g h q j) (max (∑ j', weight x0 x1 g h q j') tiny) * x1 (ix2 j (vcol g d))
/-- The gate: the logistic function of a logit. -/
def gate (q : Fin 8192) (k : Fin 128) : EReal := Ideal.div 1 (1 + Ideal.exp (-x4 (ix2 q k)))
/-- The gated sum of the three branches. -/
def mixed (g h : Fin 4) (q : Fin 8192) (d : Fin 128) : EReal :=
  gate x4 q (gcol g h 0) * x2 (ix2 q (qcol g h d)) + gate x4 q (gcol g h 1) * x3 (ix2 q (qcol g h d))
    + gate x4 q (gcol g h 2) * attend x0 x1 g h q d

def gOf (e : Fin 2048) : Fin 4 := ⟨e.val / 512, by omega⟩
def hOf (e : Fin 2048) : Fin 4 := ⟨e.val / 128 % 4, by omega⟩
def dOf (e : Fin 2048) : Fin 128 := ⟨e.val % 128, by omega⟩

/-- The whole result array. -/
def result : FVec Ideal ⟨2, ![8192, 2048]⟩ .bf16 := fun i =>
  mixed x0 x1 x2 x3 x4 (gOf (i 1)) (hOf (i 1)) (i 0) (dOf (i 1))

theorem qcol_of (e : Fin 2048) : qcol (gOf e) (hOf e) (dOf e) = e := by
  apply Fin.ext; simp only [qcol, gOf, hOf, dOf]; omega

theorem tiny_pos : 0 < tiny ∧ tiny ≠ ⊤ := by
  have : tiny = ((tiny.toReal : ℝ) : EReal) ∧ 0 < tiny.toReal := by
    unfold tiny
    simp [Ideal.ofBits, Ideal.ieee, -EReal.coe_mul]
  rw [this.1]
  exact ⟨by exact_mod_cast this.2, EReal.coe_ne_top _⟩

theorem two : Ideal.log (Ideal.ofBits FTy.f32 0x40000000#32) = (Real.log 2 : ℝ) := by
  have : Ideal.ofBits FTy.f32 0x40000000#32 = ((2 : ℝ) : EReal) := by
    simp [Ideal.ofBits, Ideal.ieee, -EReal.coe_mul]; norm_num
  rw [this, Ideal.log_coe, if_neg (by norm_num)]

theorem ninf : Ideal.ofBits FTy.f32 0xFF800000#32 = ⊥ := by simp [Ideal.ofBits, Ideal.ieee]
theorem pinf : Ideal.ofBits FTy.f32 0x7F800000#32 = ⊤ := by simp [Ideal.ofBits, Ideal.ieee]

end Cert.Proof.Win

end
-- ==== Proof.Win.Words.lean ====
/-
  Index words read as integers: the comparisons of the two masks.
-/
module

public import Idealize.ShloMosaic.Lib.Pointwise

@[expose] public section

namespace Cert.Proof.Words

open Idealize.ShloMosaic

/-- A small natural number's word reads as itself. -/
theorem toInt_nat (n : Nat) (h : n < 2 ^ 31) : (BitVec.ofNat 32 n).toInt = n := by
  rw [BitVec.toInt_eq_toNat_cond, BitVec.toNat_ofNat, Nat.mod_eq_of_lt (by omega), if_pos (by omega)]

/-- An integer in the signed range is its own remainder. -/
theorem bmod_small (z : Int) (h1 : -2 ^ 31 ≤ z) (h2 : z < 2 ^ 31) : z.bmod (2 ^ 32) = z := by
  unfold Int.bmod
  norm_num
  split <;> omega

theorem toInt_sub (a b : BitVec 32) (x y : Int) (ha : a.toInt = x) (hb : b.toInt = y) (h1 : -2 ^ 31 ≤ x - y)
    (h2 : x - y < 2 ^ 31) : (IntOp.subi a b).toInt = x - y := by
  show (a - b).toInt = _
  rw [BitVec.toInt_sub, ha, hb, bmod_small _ h1 h2]

theorem toInt_add (a b : BitVec 32) (x y : Int) (ha : a.toInt = x) (hb : b.toInt = y) (h1 : -2 ^ 31 ≤ x + y)
    (h2 : x + y < 2 ^ 31) : (IntOp.addi a b).toInt = x + y := by
  show (a + b).toInt = _
  rw [BitVec.toInt_add, ha, hb, bmod_small _ h1 h2]

theorem toInt_mul (a b : BitVec 32) (x y : Int) (ha : a.toInt = x) (hb : b.toInt = y) (h1 : -2 ^ 31 ≤ x * y)
    (h2 : x * y < 2 ^ 31) : (IntOp.muli a b).toInt = x * y := by
  show (a * b).toInt = _
  rw [BitVec.toInt_mul, ha, hb, bmod_small _ h1 h2]

theorem sle_eq (a b : BitVec 32) (x y : Int) (ha : a.toInt = x) (hb : b.toInt = y) :
    IntOp.cmpi .sle a b = BitVec.ofBool (decide (x ≤ y)) := by
  subst ha; subst hb; rfl

theorem sgt_eq (a b : BitVec 32) (x y : Int) (ha : a.toInt = x) (hb : b.toInt = y) :
    IntOp.cmpi .sgt a b = BitVec.ofBool (decide (y < x)) := by
  subst ha; subst hb; rfl

theorem sge_eq (a b : BitVec 32) (x y : Int) (ha : a.toInt = x) (hb : b.toInt = y) :
    IntOp.cmpi .sge a b = BitVec.ofBool (decide (y ≤ x)) := by
  subst ha; subst hb; rfl

theorem and_eq (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

end Cert.Proof.Words
-- ==== Proof.Win.Body.lean ====
/-
  The kernel's body at one grid point, read at an index. The body treats the four groups of heads alike and the four
  heads of a group alike; its one text per group is `grp` and its one text per head is `mix`, over the values the body
  has loaded, and each of the sixteen stores is `mix` of a head's slices (`pieces`, by unfolding).
-/
module

public import proofs.«01_k».proof.Proof.Win.Spec
public import proofs.«01_k».proof.Proof.Win.Words
public import proofs.«01_k».proof.Proof.Gen.WinIdeal.Value

@[expose] public section

set_option maxRecDepth 16384

noncomputable section

namespace Cert.Proof.Win

open Cert.WinIdeal Cert.WinIdeal.Gen Idealize.ShloMosaic Idealize.ShloMosaic.TcCoe

/-- The attention of one group: its four heads' query rows one below the other against the band's 640 keys. -/
def grp (bias : FVec Ideal S128x640 .f32) (q : FVec Ideal S512x128 .bf16) (k v : FVec Ideal S640x128 .bf16) :
    FVec Ideal S512x128 .f32 :=
  let s : FVec Ideal S512x640 .f32 := shapeCast S512x640
    (addf (shapeCast S4x128x640 (matmul dot_S512x128_S640x128_S512x640_1_1_0_0_n_n none q k
        (constant (F := Ideal) S512x640 .f32 0x00000000#32)) shapeCasts_S512x640_S4x128x640)
      (broadcastTo S4x128x640 (shapeCast S1x128x640 bias shapeCasts_S128x640_S1x128x640) broadcasts_S1x128x640_S4x128x640))
    shapeCasts_S4x128x640_S512x640
  let top : FVec Ideal S512x640 .f32 := broadcastTo S512x640
    (shapeCast S512x1 (multiReduction .maximumf [1] S512 s 0xFF800000#32 reduces_S512x640_S512 (.inl rfl) rfl)
      shapeCasts_S512_S512x1) broadcasts_S512x1_S512x640
  let e : FVec Ideal S512x640 .f32 := exp2 (subf s top)
  let n : FVec Ideal S512x128 .f32 := matmul dot_S512x640_S640x128_S512x128_1_0_0_1_n_n none
    (truncf .bf16 e bitsLt_bf16_f32) v (constant (F := Ideal) S512x128 .f32 0x00000000#32)
  let z : FVec Ideal S512x1 .f32 :=
    shapeCast S512x1 (multiReduction .add [1] S512 e 0x00000000#32 reduces_S512x640_S512 (.inl rfl) rfl) shapeCasts_S512_S512x1
  divf n (broadcastTo S512x128 (maximumf z (broadcast S512x1 (Scalar.ofBits (F := Ideal) .f32 0x0DA24260#32)))
    broadcasts_S512x1_S512x128)

/-- The gated sum of one head. -/
def mix (g0 g1 g2 : FVec Ideal S128x1 .f32) (a b w : FVec Ideal S128x128 .f32) : FVec Ideal S128x128 .bf16 :=
  truncf .bf16 (addf (addf (mulf (broadcastTo S128x128 g0 broadcasts_S128x1_S128x128) a)
      (mulf (broadcastTo S128x128 g1 broadcasts_S128x1_S128x128) b))
    (mulf (broadcastTo S128x128 g2 broadcasts_S128x1_S128x128) w)) bitsLt_bf16_f32

/-- A query row's masked score against band column `c`. -/
def bandScore (bias : FVec Ideal S128x640 .f32) (q : FVec Ideal S512x128 .bf16) (k : FVec Ideal S640x128 .bf16)
    (R : Fin 512) (c : Fin 640) : EReal :=
  (∑ d : Fin 128, q (ix2 R d) * k (ix2 c d)) + bias (ix2 ⟨R.val % 128, by omega⟩ c)

theorem grp_apply (bias : FVec Ideal S128x640 .f32) (q : FVec Ideal S512x128 .bf16) (k v : FVec Ideal S640x128 .bf16)
    (R : Fin 512) (d : Fin 128) :
    grp bias q k v (ix2 R d)
      = Ideal.div (∑ c, Ideal.exp2 (bandScore bias q k R c - Finset.univ.fold max ⊥ (bandScore bias q k R)) * v (ix2 c d))
          (max (∑ c, Ideal.exp2 (bandScore bias q k R c - Finset.univ.fold max ⊥ (bandScore bias q k R))) tiny) := by
  unfold grp
  pointwise []
  simp only [ninf]
  rfl

theorem mix_apply (g0 g1 g2 : FVec Ideal S128x1 .f32) (a b w : FVec Ideal S128x128 .f32) (r d : Fin 128) :
    mix g0 g1 g2 a b w (ix2 r d)
      = g0 (ix2 r 0) * a (ix2 r d) + g1 (ix2 r 0) * b (ix2 r d) + g2 (ix2 r 0) * w (ix2 r d) := by
  unfold mix
  pointwise []

end Cert.Proof.Win

end
-- ==== Proof.Win.Block.lean ====
/-
  One block of the window kernel: its mask, its gates, its band of keys, and its attention.
-/
module

public import proofs.«01_k».proof.Proof.Win.Body
public import proofs.«01_k».proof.Proof.Win.Words

@[expose] public section

set_option maxRecDepth 16384

noncomputable section

namespace Cert.Proof.Win

open Cert.WinIdeal Cert.WinIdeal.Gen Idealize.ShloMosaic Idealize.ShloMosaic.TcCoe

/-- Row `r` of query block `t`. -/
def row (t : Fin 64) (r : Fin 128) : Fin 8192 := ⟨t.val * 128 + r.val, by omega⟩

/-- Band column `c` of query block `t` is a key that row `r` sees. -/
abbrev inBand (t : Fin 64) (r : Fin 128) (c : Fin 640) : Prop :=
  512 ≤ t.val * 128 + c.val ∧ c.val ≤ r.val + 512 ∧ r.val < c.val

/-- The key at band column `c` (where the band has one). -/
def key (t : Fin 64) (c : Fin 640) : Fin 8192 := ⟨t.val * 128 + c.val - 512, by omega⟩

theorem mask_word (t : Fin 64) (r : Fin 128) (c : Fin 640) (q k : BitVec 32)
    (hq : q.toInt = t.val * 128 + r.val) (hk : k.toInt = (t.val - 4 : Int) * 128 + c.val) (z : EReal) :
    Scalar.select (IntOp.andi (IntOp.andi (IntOp.cmpi .sle k q) (IntOp.cmpi .sgt k (IntOp.subi q 512#32)))
        (IntOp.cmpi .sge k 0#32)) (0 : EReal) z = if inBand t r c then 0 else z := by
  rw [Words.sle_eq k q _ _ hk hq,
    Words.sgt_eq k _ _ _ hk (Words.toInt_sub q 512#32 _ 512 hq (by decide) (by omega) (by omega)),
    Words.sge_eq k 0#32 _ 0 hk (by decide), Words.and_eq, Words.and_eq]
  by_cases h : inBand t r c
  · rw [if_pos h, decide_eq_true (by obtain ⟨h1, h2, h3⟩ := h; omega)]; rfl
  · rw [if_neg h, decide_eq_false (by intro h'; exact h ⟨by omega, by omega, by omega⟩)]; rfl

/-- The mask of block `t`: nothing on the keys of the window, −∞ on the others. -/
theorem bias_apply (i : grid0.Coords) (t : Fin 64) (ht : (i 0).val = t.val) (r : Fin 128) (c : Fin 640) :
    k0_pay4 (F := Ideal) i (ix2 r c) = if inBand t r c then 0 else ⊥ := by
  pointwise [k0_pay4]
  rw [ht]
  have n128 : (128#32).toInt = 128 := by decide
  have ht' := Words.toInt_nat t.val (by omega)
  refine mask_word t r c _ _ ?_ ?_ _
  · exact Words.toInt_add _ _ _ _ (Words.toInt_mul _ _ _ _ ht' n128 (by omega) (by omega))
      (Words.toInt_nat r.val (by omega)) (by omega) (by omega)
  · exact Words.toInt_add _ _ _ _ (Words.toInt_mul _ _ _ _ (Words.toInt_sub _ _ _ _ ht' (by decide : (4#32).toInt = 4)
      (by omega) (by omega)) n128 (by omega) (by omega)) (Words.toInt_nat c.val (by omega)) (by omega) (by omega)

theorem gate_apply (X : Vec Ideal S128x128 .f32) (r k : Fin 128) :
    k0_pay5 (F := Ideal) X (ix2 r k) = Ideal.div 1 (1 + Ideal.exp (-X (ix2 r k))) := by
  pointwise [k0_pay5]
  rw [zero_sub]

/-- The five key (or value) blocks stacked. -/
theorem band_apply (K : Fin 5 → Vec Ideal S128x512 .bf16) (c : Fin 640) (e : Fin 512) :
    k0_pay2 (F := Ideal) (K 0) (K 1) (K 2) (K 3) (K 4) (ix2 c e)
      = K ⟨c.val / 128, by omega⟩ (ix2 ⟨c.val % 128, by omega⟩ e) := by
  pointwise [k0_pay2]
  split_ifs <;> (congr 2 <;> first | (refine Fin.ext ?_; dsimp; omega) | (congr 1; refine Fin.ext ?_; dsimp; omega))

/-- The four heads' queries stacked. -/
theorem heads_apply (q : Fin 4 → Vec Ideal S128x128 .bf16) (h : Fin 4) (r e : Fin 128) :
    k0_pay31 (F := Ideal) (q 0) (q 1) (q 2) (q 3) (ix2 ⟨h.val * 128 + r.val, by omega⟩ e) = q h (ix2 r e) := by
  pointwise [k0_pay31]
  split_ifs <;> (congr 2 <;> first | (refine Fin.ext ?_; dsimp; omega) | (congr 1; refine Fin.ext ?_; dsimp; omega))

variable (x0 : FVec Ideal ⟨2, ![8192, 2048]⟩ .bf16) (x1 : FVec Ideal ⟨2, ![8192, 3072]⟩ .bf16)

/-- The group's attention over the band is the attention over all keys. -/
theorem grp_eq (t : Fin 64) (g : Fin 4) (bias : FVec Ideal S128x640 .f32) (q : FVec Ideal S512x128 .bf16)
    (k v : FVec Ideal S640x128 .bf16)
    (hb : ∀ r c, bias (ix2 r c) = if inBand t r c then 0 else ⊥)
    (hq : ∀ (h : Fin 4) (r d : Fin 128), q (ix2 ⟨h.val * 128 + r.val, by omega⟩ d) = x0 (ix2 (row t r) (qcol g h d)))
    (hk : ∀ c d, 512 ≤ t.val * 128 + c.val → k (ix2 c d) = x1 (ix2 (key t c) (kcol g d)))
    (hv : ∀ c d, 512 ≤ t.val * 128 + c.val → v (ix2 c d) = x1 (ix2 (key t c) (vcol g d)))
    (h : Fin 4) (r d : Fin 128) :
    grp bias q k v (ix2 ⟨h.val * 128 + r.val, by omega⟩ d) = attend x0 x1 g h (row t r) d := by
  rw [grp_apply]
  have hr : (⟨(h.val * 128 + r.val) % 128, by omega⟩ : Fin 128) = r := Fin.ext (by show _ % _ = _; omega)
  unfold attend
  refine Soft.window_eq (score x0 x1 g h (row t r)) (fun j => x1 (ix2 j (vcol g d))) (sees (row t r)) (row t r)
    ⟨le_refl _, by omega⟩ _ _ (inBand t r) (key t) ?_ ?_ ?_ ?_ ?_ ?_ tiny_pos.1 tiny_pos.2
    (masked x0 x1 g h (row t r)) _ (shift x0 x1 g h (row t r)) (fun _ => rfl) rfl (fun _ => rfl)
  · intro c hc
    unfold bandScore score
    rw [hr, hb, if_pos hc, add_zero]
    exact Finset.sum_congr rfl fun d _ => by rw [hq, hk c d hc.1]
  · intro c hc
    unfold bandScore
    rw [hr, hb, if_neg hc, EReal.add_bot]
  · intro c hc; exact hv c d hc.1
  · intro c hc
    unfold sees key row
    dsimp only
    have := hc.1; have := hc.2.1; have := hc.2.2
    omega
  · intro c c' hc hc' e
    have e' := congrArg Fin.val e
    unfold key at e'
    dsimp only at e'
    have := hc.1; have := hc'.1
    exact Fin.ext (by omega)
  · intro j hj
    unfold sees row at hj
    dsimp only at hj
    refine ⟨⟨j.val + 512 - t.val * 128, by omega⟩, ⟨?_, ?_, ?_⟩, Fin.ext ?_⟩
    · show 512 ≤ t.val * 128 + (j.val + 512 - t.val * 128); omega
    · show j.val + 512 - t.val * 128 ≤ r.val + 512; omega
    · show r.val < j.val + 512 - t.val * 128; omega
    · show t.val * 128 + (j.val + 512 - t.val * 128) - 512 = j.val; omega

end Cert.Proof.Win
end
-- ==== Proof.Win.Point.lean ====
/-
  What one grid point of the window kernel writes: the block of the layer's result.
-/
module

public import proofs.«01_k».proof.Proof.Win.Block
public import proofs.«01_k».proof.Proof.Gen.WinIdeal.Value
public import Idealize.ShloMosaic.Lib.Pipeline.ValueKit
public import Idealize.ShloMosaic.Lib.Pipeline.ReadBack

@[expose] public section

set_option maxRecDepth 16384

noncomputable section

namespace Cert.Proof.Win

open Cert.WinIdeal Cert.WinIdeal.Gen Idealize.ShloMosaic Idealize.ShloMosaic.TcCoe

variable (x0 : FVec Ideal ⟨2, ![8192, 2048]⟩ .bf16) (x1 : FVec Ideal ⟨2, ![8192, 3072]⟩ .bf16)
  (x2 x3 : FVec Ideal ⟨2, ![8192, 2048]⟩ .f32) (x4 : FVec Ideal ⟨2, ![8192, 128]⟩ .f32)

/-- What the blocks of grid point `t` hold of the arguments. -/
structure Blocks (t : Fin 64) (X0 : Vec Ideal S128x2048 .bf16) (K V : Fin 5 → Vec Ideal S128x512 .bf16)
    (X2 X3 : Vec Ideal S128x2048 .f32) (X4 : Vec Ideal S128x128 .f32) : Prop where
  q : ∀ r e, X0 (ix2 r e) = x0 (ix2 (row t r) e)
  k : ∀ (b : Fin 5) (r : Fin 128) (e : Fin 512) (hb : 4 ≤ t.val + b.val),
    K b (ix2 r e) = x1 (ix2 ⟨(t.val + b.val - 4) * 128 + r.val, by omega⟩ ⟨2048 + e.val, by omega⟩)
  v : ∀ (b : Fin 5) (r : Fin 128) (e : Fin 512) (hb : 4 ≤ t.val + b.val),
    V b (ix2 r e) = x1 (ix2 ⟨(t.val + b.val - 4) * 128 + r.val, by omega⟩ ⟨2560 + e.val, by omega⟩)
  oc : ∀ r e, X2 (ix2 r e) = x2 (ix2 (row t r) e)
  os : ∀ r e, X3 (ix2 r e) = x3 (ix2 (row t r) e)
  g : ∀ r e, X4 (ix2 r e) = x4 (ix2 (row t r) e)

/-- A slice of a matrix at an index. -/
theorem slice_at {m n p q : Nat} {α : Type} (x : (⟨2, ![m, n]⟩ : Shape).Idx → α) (a b : Nat)
    (h : (⟨2, ![m, n]⟩ : Shape).Slices ![a, b] ⟨2, ![p, q]⟩) (i : Fin p) (j : Fin q) (i' : Fin m) (j' : Fin n)
    (hi : i'.val = a + i.val) (hj : j'.val = b + j.val) :
    extractStridedSlice ⟨2, ![p, q]⟩ ![a, b] x h (ix2 i j) = x (ix2 i' j') := by
  refine congrArg x (funext fun k => Fin.ext ?_)
  fin_cases k
  · exact hi.symm
  · exact hj.symm

/-- The columns of one head, as a rectangle of a block. -/
abbrev headRect (n : Nat) (hn : n < 16) : Rect S128x2048 :=
  Rect.unit (s := S128x2048) ![0, n * 128] S128x128.size (fun a => by
    fin_cases a
    · show 0 + 128 ≤ 128; omega
    · show n * 128 + 128 ≤ 2048; omega)

theorem headRect_at (n : Nat) (hn : n < 16) (r d : Fin 128) :
    (headRect n hn).idx (ix2 r d) = ix2 r ⟨n * 128 + d.val, by omega⟩ := by
  funext a
  refine Fin.ext ((Rect.idx_unit_val _ _ _ _ a).trans ?_)
  fin_cases a
  · exact Nat.zero_add _
  · rfl

/-- The result's block at point `t`, by its index. -/
def blockOf (t : Fin 64) : S128x2048.Idx → EReal := fun y => result x0 x1 x2 x3 x4 (ix2 (row t (y 0)) (y 1))

variable {x0 x1 x2 x3 x4} {t : Fin 64} {X0 : Vec Ideal S128x2048 .bf16} {K V : Fin 5 → Vec Ideal S128x512 .bf16}
  {X2 X3 : Vec Ideal S128x2048 .f32} {X4 : Vec Ideal S128x128 .f32} (H : Blocks x0 x1 x2 x3 x4 t X0 K V X2 X3 X4)
  (i : grid0.Coords) (ht : (i 0).val = t.val)

include H ht in
/-- The attention of one group, from the blocks. -/
theorem group_eq (g : Fin 4) (hs : S640x512.Slices ![0, g.val * 128] S640x128) (h : Fin 4) (r d : Fin 128) :
    grp (k0_pay4 (F := Ideal) i)
        (k0_pay31 (View.ld X0 (headRect (g.val * 4) (by omega))) (View.ld X0 (headRect (g.val * 4 + 1) (by omega)))
          (View.ld X0 (headRect (g.val * 4 + 2) (by omega))) (View.ld X0 (headRect (g.val * 4 + 3) (by omega))))
        (extractStridedSlice S640x128 ![0, g.val * 128] (k0_pay2 (K 0) (K 1) (K 2) (K 3) (K 4)) hs)
        (extractStridedSlice S640x128 ![0, g.val * 128] (k0_pay2 (V 0) (V 1) (V 2) (V 3) (V 4)) hs)
        (ix2 ⟨h.val * 128 + r.val, by omega⟩ d)
      = attend x0 x1 g h (row t r) d := by
  refine grp_eq x0 x1 t g _ _ _ _ (bias_apply i t ht) ?_ ?_ ?_ h r d
  · intro h r d
    refine (heads_apply (fun j => View.ld X0 (headRect (g.val * 4 + j.val) (by omega))) h r d).trans ?_
    show X0 ((headRect (g.val * 4 + h.val) _).idx (ix2 r d)) = _
    rw [headRect_at, H.q]
    refine congrArg (fun e => x0 (ix2 (row t r) e)) (Fin.ext ?_)
    show (g.val * 4 + h.val) * 128 + d.val = g.val * 512 + h.val * 128 + d.val
    omega
  · intro c d hc
    refine (slice_at _ _ _ hs c d c ⟨g.val * 128 + d.val, by omega⟩ (by omega) rfl).trans ?_
    rw [band_apply, H.k _ _ _ (by show 4 ≤ t.val + c.val / 128; omega)]
    refine congrArg₂ (fun a b => x1 (ix2 a b)) (Fin.ext ?_) (Fin.ext ?_)
    · show (t.val + c.val / 128 - 4) * 128 + c.val % 128 = t.val * 128 + c.val - 512
      omega
    · show 2048 + (g.val * 128 + d.val) = 2048 + g.val * 128 + d.val
      omega
  · intro c d hc
    refine (slice_at _ _ _ hs c d c ⟨g.val * 128 + d.val, by omega⟩ (by omega) rfl).trans ?_
    rw [band_apply, H.v _ _ _ (by show 4 ≤ t.val + c.val / 128; omega)]
    refine congrArg₂ (fun a b => x1 (ix2 a b)) (Fin.ext ?_) (Fin.ext ?_)
    · show (t.val + c.val / 128 - 4) * 128 + c.val % 128 = t.val * 128 + c.val - 512
      omega
    · show 2560 + (g.val * 128 + d.val) = 2560 + g.val * 128 + d.val
      omega

include H ht in
/-- The store of one head: its gated sum, at the head's columns. -/
theorem head_eq (g h : Fin 4) (hs : S640x512.Slices ![0, g.val * 128] S640x128)
    (sa : S128x128.Slices ![0, g.val * 12 + h.val * 3] S128x1)
    (sb : S128x128.Slices ![0, g.val * 12 + h.val * 3 + 1] S128x1)
    (sc : S128x128.Slices ![0, g.val * 12 + h.val * 3 + 2] S128x1)
    (so : S512x128.Slices ![h.val * 128, 0] S128x128) (x : S128x128.Idx) :
    mix (extractStridedSlice S128x1 ![0, g.val * 12 + h.val * 3] (k0_pay5 (F := Ideal) X4) sa)
        (extractStridedSlice S128x1 ![0, g.val * 12 + h.val * 3 + 1] (k0_pay5 (F := Ideal) X4) sb)
        (extractStridedSlice S128x1 ![0, g.val * 12 + h.val * 3 + 2] (k0_pay5 (F := Ideal) X4) sc)
        (View.ld X2 (headRect (g.val * 4 + h.val) (by omega))) (View.ld X3 (headRect (g.val * 4 + h.val) (by omega)))
        (extractStridedSlice S128x128 ![h.val * 128, 0]
          (grp (k0_pay4 (F := Ideal) i)
            (k0_pay31 (View.ld X0 (headRect (g.val * 4) (by omega))) (View.ld X0 (headRect (g.val * 4 + 1) (by omega)))
              (View.ld X0 (headRect (g.val * 4 + 2) (by omega))) (View.ld X0 (headRect (g.val * 4 + 3) (by omega))))
            (extractStridedSlice S640x128 ![0, g.val * 128] (k0_pay2 (K 0) (K 1) (K 2) (K 3) (K 4)) hs)
            (extractStridedSlice S640x128 ![0, g.val * 128] (k0_pay2 (V 0) (V 1) (V 2) (V 3) (V 4)) hs)) so) x
      = blockOf x0 x1 x2 x3 x4 t ((headRect (g.val * 4 + h.val) (by omega)).emb x) := by
  obtain ⟨r, d, rfl⟩ : ∃ (r d : Fin 128), x = ix2 r d := ⟨x 0, x 1, by funext a; fin_cases a <;> rfl⟩
  have e : (headRect (g.val * 4 + h.val) (by omega)).idx (ix2 r d) = ix2 r (qcol g h d) := by
    rw [headRect_at]
    refine congrArg (ix2 r) (Fin.ext ?_)
    show (g.val * 4 + h.val) * 128 + d.val = g.val * 512 + h.val * 128 + d.val
    omega
  rw [mix_apply, slice_at _ _ _ sa r 0 r (gcol g h 0) (by omega) rfl,
    slice_at _ _ _ sb r 0 r (gcol g h 1) (by omega) rfl, slice_at _ _ _ sc r 0 r (gcol g h 2) (by omega) rfl,
    slice_at _ _ _ so r d ⟨h.val * 128 + r.val, by omega⟩ d rfl (by omega), group_eq H i ht g hs,
    gate_apply, gate_apply, gate_apply, H.g, H.g, H.g, View.ld_apply, View.ld_apply, e, H.oc, H.os]
  show mixed x0 x1 x2 x3 x4 g h (row t r) d = blockOf x0 x1 x2 x3 x4 t ((headRect (g.val * 4 + h.val) (by omega)).idx (ix2 r d))
  rw [e]
  have hg : gOf (qcol g h d) = g := Fin.ext (by show (g.val * 512 + h.val * 128 + d.val) / 512 = _; omega)
  have hh : hOf (qcol g h d) = h := Fin.ext (by show (g.val * 512 + h.val * 128 + d.val) / 128 % 4 = _; omega)
  have hd : dOf (qcol g h d) = d := Fin.ext (by show (g.val * 512 + h.val * 128 + d.val) % 128 = _; omega)
  show _ = mixed x0 x1 x2 x3 x4 (gOf (qcol g h d)) (hOf (qcol g h d)) (row t r) (dOf (qcol g h d))
  rw [hg, hh, hd]

set_option maxHeartbeats 4000000 in
include H ht in
/-- The body's output block is the result's. -/
theorem out_eq (y : S128x2048.Idx) :
    out0_14 (F := Ideal) i X0 (K 0) (K 1) (K 2) (K 3) (K 4) (V 0) (V 1) (V 2) (V 3) (V 4) X2 X3 X4 y
      = blockOf x0 x1 x2 x3 x4 t y := by
  unfold out0_14
  have eK (b : Fin 5) : View.ld (K b) r0_0 = K b := View.ld_unit_zero (by funext a; fin_cases a <;> rfl) _ _
  have eV (b : Fin 5) : View.ld (V b) r0_0 = V b := View.ld_unit_zero (by funext a; fin_cases a <;> rfl) _ _
  have e4 : View.ld X4 r0_1 = X4 := View.ld_unit_zero (by funext a; fin_cases a <;> rfl) _ _
  unfold k0_pay55 k0_pay54 k0_pay53 k0_pay52 k0_pay51 k0_pay50 k0_pay49 k0_pay48 k0_pay47 k0_pay46 k0_pay45 k0_pay44
    k0_pay43 k0_pay42 k0_pay41
  simp only [eK, eV, e4]
  have head (g h : Fin 4) (hs) (sa) (sb) (sc) (so) := head_eq H i ht g h hs sa sb sc so
  refine View.canon_apply_of_pieces (Val := Elt Ideal) (e := .bf16) (blockOf x0 x1 x2 x3 x4 t) _ (View.PiecesOf.mem ?_) y
    (cover0_14 _ _ _ _ _ _ _ _ _ _ _ _ _ _ _ _ y)
  refine ⟨?_, ?_, ?_, ?_, ?_, ?_, ?_, ?_, ?_, ?_, ?_, ?_, ?_, ?_, ?_, ?_, trivial⟩
  · exact head 3 3 (by decide) (by decide) (by decide) (by decide) (by decide)
  · exact head 3 2 (by decide) (by decide) (by decide) (by decide) (by decide)
  · exact head 3 1 (by decide) (by decide) (by decide) (by decide) (by decide)
  · exact head 3 0 (by decide) (by decide) (by decide) (by decide) (by decide)
  · exact head 2 3 (by decide) (by decide) (by decide) (by decide) (by decide)
  · exact head 2 2 (by decide) (by decide) (by decide) (by decide) (by decide)
  · exact head 2 1 (by decide) (by decide) (by decide) (by decide) (by decide)
  · exact head 2 0 (by decide) (by decide) (by decide) (by decide) (by decide)
  · exact head 1 3 (by decide) (by decide) (by decide) (by decide) (by decide)
  · exact head 1 2 (by decide) (by decide) (by decide) (by decide) (by decide)
  · exact head 1 1 (by decide) (by decide) (by decide) (by decide) (by decide)
  · exact head 1 0 (by decide) (by decide) (by decide) (by decide) (by decide)
  · exact head 0 3 (by decide) (by decide) (by decide) (by decide) (by decide)
  · exact head 0 2 (by decide) (by decide) (by decide) (by decide) (by decide)
  · exact head 0 1 (by decide) (by decide) (by decide) (by decide) (by decide)
  · exact head 0 0 (by decide) (by decide) (by decide) (by decide) (by decide)

end Cert.Proof.Win

end
-- ==== Proof.Win.Array.lean ====
/-
  The window kernel's result array, and its run.
-/
module

public import proofs.«01_k».proof.Proof.Win.Point

@[expose] public section

set_option maxRecDepth 16384

noncomputable section

namespace Cert.Proof.Win

open Cert.WinIdeal Cert.WinIdeal.Gen Idealize.ShloMosaic Idealize.ShloMosaic.TcCoe Idealize.SL.Sem

/-- Where the windows stand: the rows of the grid point, and for the ten windows of keys and values the four row
    blocks before it and its own. -/
theorem places : ∀ t : Fin grid0.N, ((grid0.coords t) 0).val = t.val ∧ win0_0.index t = ![t.val, 0]
    ∧ win0_1.index t = ![t.val - 4, 4] ∧ win0_2.index t = ![t.val - 3, 4] ∧ win0_3.index t = ![t.val - 2, 4]
    ∧ win0_4.index t = ![t.val - 1, 4] ∧ win0_5.index t = ![t.val, 4]
    ∧ win0_6.index t = ![t.val - 4, 5] ∧ win0_7.index t = ![t.val - 3, 5] ∧ win0_8.index t = ![t.val - 2, 5]
    ∧ win0_9.index t = ![t.val - 1, 5] ∧ win0_10.index t = ![t.val, 5]
    ∧ win0_11.index t = ![t.val, 0] ∧ win0_12.index t = ![t.val, 0] ∧ win0_13.index t = ![t.val, 0]
    ∧ win0_14.index t = ![t.val, 0] := by decide +kernel

variable (m : (ℓ : Loc nD τ sig) → Buf (Elt Ideal) ℓ) (c : Dev nD)

/-- The five blocks of keys at a point, -/
def keys (t : Fin cfg0.N) (b : Fin 5) : Vec Ideal S128x512 .bf16 :=
  ![iblk m c 1 t, iblk m c 2 t, iblk m c 3 t, iblk m c 4 t, iblk m c 5 t] b
/-- and of values. -/
def vals (t : Fin cfg0.N) (b : Fin 5) : Vec Ideal S128x512 .bf16 :=
  ![iblk m c 6 t, iblk m c 7 t, iblk m c 8 t, iblk m c 9 t, iblk m c 10 t] b

theorem blocks_at (t : Fin cfg0.N) :
    Blocks (m ((c : Thread nD τ).loc main_arg0)) (m ((c : Thread nD τ).loc main_arg1)) (m ((c : Thread nD τ).loc main_arg2)) (m ((c : Thread nD τ).loc main_arg3)) (m ((c : Thread nD τ).loc main_arg4))
      (t : Fin 64) (iblk m c 0 t) (keys m c t) (vals m c t) (iblk m c 11 t) (iblk m c 12 t) (iblk m c 13 t) := by
  have hp := places t
  have ht : t.val < 64 := t.isLt
  refine ⟨fun r e => ?_, fun b r e hb => ?_, fun b r e hb => ?_, fun r e => ?_, fun r e => ?_, fun r e => ?_⟩
  · blk_ext [iblk, V, row, hp]
  · fin_cases b <;> blk_ext [keys, iblk, V, hp]
  · fin_cases b <;> blk_ext [vals, iblk, V, hp]
  · blk_ext [iblk, V, row, hp]
  · blk_ext [iblk, V, row, hp]
  · blk_ext [iblk, V, row, hp]

/-- The result array after the run. -/
theorem array_eq :
    (dats m 0 c).arrAt 14 cfg0.N
      = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  have hp := places t
  blk_simp
  rw [after0_14]
  refine (out_eq (blocks_at m c t) (grid0.coords t) hp.1 y).trans ?_
  unfold blockOf
  refine congrArg (result _ _ _ _ _) ?_
  blk_ext [row, hp]

end Cert.Proof.Win

end
-- ==== Proof.Win.Ref.lean ====
/-
  The reference's result array is `Win.result` of its arguments: the printed operations read at an index.
-/
module

public import proofs.«01_k».proof.Proof.Win.Spec
public import proofs.«01_k».proof.Proof.Gen.WinRefIdeal.Read
public import proofs.«01_k».proof.Proof.Win.Words

@[expose] public section

set_option maxRecDepth 16384

noncomputable section

namespace Cert.Proof.Win

open Cert.WinRefIdeal Cert.WinRefIdeal.Gen Cert.WinRefIdeal.Read Idealize.ShloMosaic Idealize.ShloMosaic.TcCoe
open Idealize.ShloMosaic.StableHlo

/-- The reference's mask bit. -/
theorem mask_bit (q j : Fin 8192) :
    IntOp.andi (IntOp.cmpi .sle (BitVec.ofNat 32 j.val) (BitVec.ofNat 32 q.val))
      (IntOp.cmpi .sgt (BitVec.ofNat 32 j.val) (IntOp.subi (BitVec.ofNat 32 q.val) 512#32))
      = BitVec.ofBool (decide (sees q j)) := by
  have hq := q.isLt; have hj := j.isLt
  have e1 := Words.toInt_nat q.val (by omega)
  have e2 := Words.toInt_nat j.val (by omega)
  have e3 := Words.toInt_sub _ 512#32 _ 512 e1 rfl (by omega) (by omega)
  rw [Words.sle_eq _ _ _ _ e2 e1, Words.sgt_eq _ _ _ _ e2 e3, Words.and_eq]
  congr 1
  rw [decide_eq_decide]
  unfold sees
  omega

variable (x0 : (⟨S8192x2048, .bf16⟩ : BufTy).Contents (Elt Ideal)) (x1 : (⟨S8192x3072, .bf16⟩ : BufTy).Contents (Elt Ideal))
  (x2 x3 : (⟨S8192x2048, .f32⟩ : BufTy).Contents (Elt Ideal)) (x4 : (⟨S8192x128, .f32⟩ : BufTy).Contents (Elt Ideal))

theorem v34_at (q j : Fin 8192) : val_main_v34 (F := Ideal) (ix4 0 q 0 j) = BitVec.ofBool (decide (sees q j)) := by
  rw [← mask_bit]
  pointwise [val_main_v34, val_main_v33, val_main_v32, val_main_v31, val_main_v30, val_main_v29, val_main_v28,
    val_main_v27, val_main_v26, val_main_v25, val_main_v24, val_main_v23, val_main_v22, val_main_v21, val_main_v16, val_main_c]

theorem v20_at (g : Fin 4) (q : Fin 8192) (h : Fin 4) (j : Fin 8192) :
    val_main_v20 (F := Ideal) x0 x1 (ix4 g q h j) = score x0 x1 g h q j * (Real.log 2 : ℝ) := by
  rw [← two]
  pointwise [val_main_v20, val_main_v19, val_main_v18, val_main_v17, val_main_cst_1, val_main_v7, val_main_v6,
    val_main_v3, val_main_v2, val_main_v1, val_main_v0]
  rfl

theorem v35_at (g : Fin 4) (q : Fin 8192) (h : Fin 4) (j : Fin 8192) :
    val_main_v35 (F := Ideal) x0 x1 (ix4 g q h j) = masked x0 x1 g h q j := by
  unfold val_main_v35
  pointwise [val_main_call0_v1, val_main_call0_v2, val_main_call0_v0, val_main_cst_2, id_eq]
  rw [v34_at, v20_at, ninf]
  unfold masked
  generalize score x0 x1 g h q j * (Real.log 2 : ℝ) = z
  by_cases hh : sees q j
  · rw [decide_eq_true hh, if_pos hh]; rfl
  · rw [decide_eq_false hh, if_neg hh]; rfl

theorem v36_at (g : Fin 4) (q : Fin 8192) (h : Fin 4) :
    val_main_v36 (F := Ideal) x0 x1 (ix3 g q h) = top x0 x1 g h q := by
  unfold val_main_v36
  have e := v35_at x0 x1 g q h
  generalize val_main_v35 (F := Ideal) x0 x1 = y at *
  pointwise [val_main_cst_3]
  simp only [e, ninf]
  rfl

theorem v41_at (g : Fin 4) (q : Fin 8192) (h : Fin 4) :
    val_main_v41 (F := Ideal) x0 x1 (ix4 g q h 0) = shift x0 x1 g h q := by
  have e := v36_at x0 x1 g q h
  rw [val_main_v41_apply, val_main_v40_apply, val_main_v38_apply, val_main_v37_apply, val_main_v39_apply, val_main_call1_v1_apply]
  have hi : idx_main_v37 (ix4 g q h 0) = ix3 g q h := by
    funext a; fin_cases a <;> rfl
  rw [hi, e, val_main_cst_4_apply, val_main_call1_v0_apply, val_main_cst_5_apply]
  unfold shift
  generalize top x0 x1 g h q = z
  show Scalar.select (Ideal.cmp .olt (max z (-z)) (Ideal.ofBits FTy.f32 0x7F800000#32)) z (Ideal.ofBits FTy.f32 0x00000000#32) = _
  rw [pinf, Ideal.ofBits_zero_f32]
  unfold Ideal.cmp
  by_cases hz : max z (-z) < ⊤
  · rw [decide_eq_true hz, if_pos hz]; rfl
  · rw [decide_eq_false hz, if_neg hz]; rfl

theorem v45_at (g : Fin 4) (q : Fin 8192) (h : Fin 4) (j : Fin 8192) :
    val_main_v45 (F := Ideal) x0 x1 (ix4 g q h j) = weight x0 x1 g h q j := by
  pointwise [val_main_v45, val_main_v44, val_main_v43, val_main_v42, val_main_call2_v1, val_main_call2_v2,
    val_main_call2_v0, val_main_cst_6, id_eq]
  rw [v34_at, v35_at, v41_at]
  unfold weight
  generalize Ideal.exp (masked x0 x1 g h q j - shift x0 x1 g h q) = z
  by_cases hh : sees q j
  · rw [decide_eq_true hh, if_pos hh]; rfl
  · rw [decide_eq_false hh, if_neg hh]; rfl

theorem v52_at (g : Fin 4) (q : Fin 8192) (h : Fin 4) (d : Fin 128) :
    val_main_v52 (F := Ideal) x0 x1 (ix4 g q h d) = attend x0 x1 g h q d := by
  have e := v45_at x0 x1 g q h
  unfold val_main_v52 val_main_v51 val_main_v50 val_main_v49 val_main_v47 val_main_v46
  generalize val_main_v45 (F := Ideal) x0 x1 = y at *
  pointwise [val_main_v48, val_main_cst_7, val_main_cst_8, val_main_v5, val_main_v4, val_main_v1, val_main_v0]
  simp only [e]
  rfl

/-- The reference's result. -/
theorem ref_eq : val_main_v68 (F := Ideal) x0 x1 x2 x3 x4 = result x0 x1 x2 x3 x4 := by
  funext i
  obtain ⟨q, e, rfl⟩ : ∃ q e, i = ix2 q e := ⟨_, _, eq_ix2 i⟩
  unfold val_main_v68 val_main_v67
  pointwise [val_main_v66, val_main_v65, val_main_v64, val_main_v63, val_main_v62, val_main_v61, val_main_v60,
    val_main_v59, val_main_v58, val_main_v57, val_main_v56, val_main_v55, val_main_v54, val_main_v53, val_main_v15,
    val_main_v14, val_main_v13, val_main_v12, val_main_v11, val_main_v10, val_main_v9, val_main_v8, val_main_cst,
    val_main_cst_0]
  rw [v52_at]
  show _ = mixed x0 x1 x2 x3 x4 (gOf e) (hOf e) q (dOf e)
  unfold mixed
  rw [qcol_of]
  rfl

end Cert.Proof.Win

end
-- ==== Proof.Win.Claims.lean ====
/-
  The claims about the window attention.
-/
module

public import proofs.«01_k».proof.Defs
public import proofs.«01_k».proof.Proof.Win.Array
public import proofs.«01_k».proof.Proof.Win.Ref
public import proofs.«01_k».proof.Proof.Gen.Win.Frame
public import proofs.«01_k».proof.Proof.Gen.WinRefIdeal.Run
public import Idealize.ShloMosaic.Lib.Quiescent

@[expose] public section

noncomputable section

namespace Cert.Proof.Win

open Idealize.ShloMosaic Idealize.SL.Sem

theorem frame_win : Cert.quiescent_Win := fun m ρ _ => Cert.Win.Gen.frame m ρ

theorem frame_ideal : Cert.quiescent_WinIdeal := fun m ρ _ => Cert.WinIdeal.Gen.frame m ρ

theorem frame_ref : Cert.quiescent_WinRefIdeal := fun m ρ _ =>
  (θ_run Cert.WinRefIdeal.defs _ _).mono
    (fun r h => ⟨fun c => (h c).2, Idealize.ShloMosaic.sem_eq_zero_of_no_sems (by decide) r.2⟩)
    (Cert.WinRefIdeal.Value.run (F := Ideal) m ρ)

theorem rewrites : Cert.preserves_Win_WinIdeal :=
  IdealRules.named_const.statement Cert.WinIdeal.κ "mask" .f32 0xF149F2CA#32 ⊥ rfl

/-- The kernel and the reference end with the same array: both are `result` of their arguments. -/
theorem value : Cert.algebraic_WinIdeal_WinRefIdeal := by
  intro m ρ m' ρ' _ hagree
  refine ⟨fun c => (Cert.WinIdeal.Gen.dats m 0 c).arrAt 14 Cert.WinIdeal.cfg0.N,
    Cert.WinIdeal.Value.run_blocks m ρ,
    (θ_run Cert.WinRefIdeal.defs _ _).mono (fun r h c => ⟨?_, (h c).2⟩) (Cert.WinRefIdeal.Value.run (F := Ideal) m' ρ')⟩
  obtain ⟨e0, e1, e2, e3, e4⟩ := hagree c
  refine (h c).1.trans ?_
  rw [Cert.WinRefIdeal.Read.val_main_v68_eq m' c, ref_eq, e0, e1, e2, e3, e4]
  exact (array_eq m c).symm

end Cert.Proof.Win

end
-- ==== Proof.Down.Norm.lean ====
/-
  The root-mean-square norm of a row, on extended reals.
-/
module

public import Idealize.ShloMosaic.Lib.Pointwise

@[expose] public section

noncomputable section

namespace Cert.Proof.Down

open Idealize.ShloMosaic

/-- A row of 2048 numbers over the root of its mean square, times a weight: the mean divides by the word of 2048 and
    adds the word of the small constant, as the programs write them. -/
def normed (x w : Fin 2048 → EReal) (q : Fin 2048) : EReal :=
  x q * Ideal.rsqrt (Ideal.div (∑ k, x k * x k) (Ideal.ofBits .f32 1157627904#32) + Ideal.ofBits .f32 897988541#32) * w q

end Cert.Proof.Down

end
-- ==== Proof.Rows.In.lean ====
/-
  The projection into the linear layer, for the prompt's rows: what its call leaves in the result.
-/
module

public import proofs.«01_k».proof.Defs
public import proofs.«01_k».proof.Proof.Down.Norm
public import proofs.«01_k».proof.Proof.Gen.GdnIn.Frame
public import proofs.«01_k».proof.Proof.Gen.GdnInIdeal.Frame
public import proofs.«01_k».proof.Proof.Gen.GdnInRefIdeal.Run
public import proofs.«01_k».proof.Proof.Gen.GdnInRefIdeal.Read
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Rows.In

open Idealize.ShloMosaic Idealize.ShloMosaic.TcCoe Idealize.ShloMosaic.Tactic Idealize.SL.Sem
open Cert.GdnInIdeal Cert.GdnInIdeal.Gen Cert.Proof.Down

/-- The normed row times the first 8192 columns of the weight. -/
def result (x0 : FVec Ideal ⟨3, ![1, 8192, 2048]⟩ .f32) (x1 : FVec Ideal ⟨2, ![2, 2048]⟩ .f32)
    (x2 : FVec Ideal ⟨3, ![1, 2048, 8224]⟩ .f32) (i : Fin 8192) (q : Fin 8192) : EReal :=
  ∑ k : Fin 2048, normed (fun k => x0 (ix3 0 i k)) (fun k => x1 (ix2 0 k)) k * x2 (ix3 0 k ⟨q.val, by omega⟩)

/-- A block of rows, normed. -/
theorem norm_at (x : Vec Ideal S2048x2048 .f32) (w : Vec Ideal S1x2048 .f32) (r q : Fin 2048) :
    k0_pay1 (F := Ideal) x w (ix2 r q) = normed (fun k => x (ix2 r k)) (fun k => w (ix2 0 k)) q := by
  pointwise [k0_pay1, normed]

/-- The product of normed rows and a block of columns. -/
theorem mul_at (h : Vec Ideal S2048x2048 .bf16) (w : Vec Ideal S2048x512 .f32) (r : Fin 2048) (q : Fin 512) :
    k0_pay2 (F := Ideal) h w (ix2 r q) = ∑ k : Fin 2048, h (ix2 r k) * w (ix2 k q) := by
  pointwise [k0_pay2]

/-- Where the windows stand. -/
theorem places : ∀ t : Fin grid0.N, win0_0.index t = ![t.val / 16, 0] ∧ win0_1.index t = ![0, 0]
    ∧ win0_2.index t = ![0, t.val % 16] ∧ win0_3.index t = ![t.val / 16, t.val % 16] := by decide +kernel

theorem whole2 : (![0, 0] : Fin 2 → Nat) = fun _ => 0 := by funext a; fin_cases a <;> rfl

variable (m : (ℓ : Loc nD τ sig) → Buf (Elt Ideal) ℓ) (c : Dev nD)

/-- The three arguments. -/
abbrev rows : FVec Ideal ⟨3, ![1, 8192, 2048]⟩ .f32 := m ((c : Thread nD τ).loc main_arg0)
abbrev gain : FVec Ideal ⟨2, ![2, 2048]⟩ .f32 := m ((c : Thread nD τ).loc main_arg1)
abbrev weight : FVec Ideal ⟨3, ![1, 2048, 8224]⟩ .f32 := m ((c : Thread nD τ).loc main_arg2)

theorem rows_at (t : Fin cfg0.N) (r k : Fin 2048) (i : Fin 8192) (hi : i.val = t.val / 16 * 2048 + r.val) :
    iblk m c 0 t (ix2 r k) = rows m c (ix3 0 i k) := by
  have hp := places t
  have e : V m c (Pipeline.arrRef spec0 0) (ix2 i k) = rows m c (ix3 0 i k) := by
    show StableHlo.after hostOps0 _ (Proc.devRef .tc main_v0) _ = _
    after_reads_at
  refine Eq.trans ?_ e
  unfold iblk
  refine congrArg (V m c (Pipeline.arrRef spec0 0)) ?_
  blk_ext [hp]

theorem gain_at (t : Fin cfg0.N) (k : Fin 2048) : iblk m c 1 t (ix2 0 k) = gain m c (ix2 0 k) := by
  have hp := places t
  have e : V m c (Pipeline.arrRef spec0 1) (ix2 0 k) = gain m c (ix2 0 k) := by
    show StableHlo.after hostOps0 _ (Proc.devRef .tc main_v4) _ = _
    after_reads_at
  refine Eq.trans ?_ e
  unfold iblk
  refine congrArg (V m c (Pipeline.arrRef spec0 1)) ?_
  blk_ext [hp]

theorem weight_at (t : Fin cfg0.N) (k : Fin 2048) (q : Fin 512) (l : Fin 8224) (hl : l.val = t.val % 16 * 512 + q.val) :
    X0_2 m c t (ix2 k q) = weight m c (ix3 0 k l) := by
  have hp := places t
  have e : V m c (Pipeline.arrRef spec0 2) (ix2 k l) = weight m c (ix3 0 k l) := by
    show StableHlo.after hostOps0 _ (Proc.devRef .tc main_v3) _ = _
    after_reads_at
  refine Eq.trans ?_ e
  unfold X0_2 Pipeline.Window.fill
  rw [dif_pos (moved0_2 t _)]
  unfold iblk
  refine congrArg (V m c (Pipeline.arrRef spec0 2)) ?_
  blk_ext [hp]

variable (i : grid0.Coords) (arg2 : Memref sig .tc .vmem S2048x2048 .f32) (harg2 : arg2.IsWhole)
  (arg3 : Memref sig .tc .vmem S1x2048 .f32) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S2048x2048 .bf16) (harg6 : arg6.IsWhole)
  (x0 : Vec Ideal S2048x2048 .f32) (x1 : Vec Ideal S1x2048 .f32) (x2 : Vec Ideal S2048x512 .f32)
  (h : Vec Ideal S2048x2048 .bf16)

/-- The first point of a run keeps the normed rows … -/
theorem kept_first (hc : cond0_0 i) :
    sout0_A_0 c i arg2 harg2 arg3 harg3 arg4 harg4 arg5 harg5 arg6 harg6 hc x0 x1 x2 = k0_pay1 x0 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  try sl_unfold_words
  rw [View.canon_unit_zero whole2]
  simp only [View.readAt_eq_ld, harg2.read_unread, harg3.read_unread, View.ld_unit_zero (S := S2048x2048) whole2,
    View.ld_unit_zero (S := S1x2048) whole2, shapeCast_self]

/-- … and writes their product; -/
theorem out_first (hc : cond0_0 i) :
    out0_A_3 c i arg2 harg2 arg3 harg3 arg4 harg4 arg5 harg5 arg6 harg6 hc x0 x1 x2 = k0_pay2 (k0_pay1 x0 x1) x2 := by
  unfold out0_A_3
  rw [View.read_writes_eq_canon _ _ _ (cover0_A_3 c i arg2 harg2 arg3 harg3 arg4 harg4 arg5 harg5 arg6 harg6 hc x0 x1 x2)]
  unfold kernelRun0_A
  dsimp only
  try sl_unfold_words
  rw [View.canon_unit_zero whole2, View.readCov_unit_zero (S := S2048x2048) _ whole2]
  simp only [View.readAt_eq_ld, harg2.read_unread, harg3.read_unread, harg4.read_unread,
    View.ld_unit_zero (S := S2048x2048) whole2, View.ld_unit_zero (S := S1x2048) whole2,
    View.ld_unit_zero (S := S2048x512) whole2, shapeCast_self]

/-- a later point writes the product of the rows kept. -/
theorem out_later (hc : ¬cond0_0 i) :
    out0_B_3 c i arg2 harg2 arg3 harg3 arg4 harg4 arg5 harg5 arg6 harg6 hc x0 x1 x2 h = k0_pay2 h x2 := by
  unfold out0_B_3
  rw [View.read_writes_eq_canon _ _ _ (cover0_B_3 c i arg2 harg2 arg3 harg3 arg4 harg4 arg5 harg5 arg6 harg6 hc x0 x1 x2 h)]
  unfold kernelRun0_B
  dsimp only
  try sl_unfold_words
  rw [View.canon_unit_zero whole2]
  simp only [View.readAt_eq_ld, harg4.read_unread, harg6.read_unread,
    View.ld_unit_zero (S := S2048x2048) whole2, View.ld_unit_zero (S := S2048x512) whole2, shapeCast_self]

seal outsAt0 k0_pay1 k0_pay2 out0_A_3 out0_B_3 sout0_A_0 X0_2 iblk

/-- The first point of a run leaves the normed rows … -/
theorem kept_A (t : Fin cfg0.N) (h0 : t.val % 16 = 0) :
    (outsAt0 m c t.val t.isLt).2 = k0_pay1 (iblk m c 0 t) (iblk m c 1 t) := by
  rw [outsAt0_A m c t h0]
  exact kept_first c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (X0_2 m c t) ((hcond0_0 t).mpr h0)

/-- … and the others keep them. -/
theorem kept_B (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point writes the product of the rows kept with its columns. -/
theorem out_eq (t : Fin cfg0.N) :
    (outsAt0 m c t.val t.isLt).1 = k0_pay2 (outsAt0 m c t.val t.isLt).2 (X0_2 m c t) := by
  by_cases h0 : t.val % 16 = 0
  · rw [kept_A m c t h0, outsAt0_A m c t h0]
    exact out_first c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) ((hcond0_0 t).mpr h0)
  · rw [kept_B m c t h0, outsAt0_B m c t h0]
    exact out_later c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) _ (fun h => h0 ((hcond0_0 t).mp h))

/-- The rows the first point of a run norms. -/
theorem kept_A_at (t : Fin cfg0.N) (h0 : t.val % 16 = 0) (r k : Fin 2048) (i : Fin 8192)
    (hi : i.val = t.val / 16 * 2048 + r.val) : (outsAt0 m c t.val t.isLt).2 (ix2 r k)
      = normed (fun k => rows m c (ix3 0 i k)) (fun k => gain m c (ix2 0 k)) k := by
  rw [kept_A m c t h0, norm_at]
  exact congrArg₂ (fun u v => normed u v k) (funext fun l => rows_at m c t r l i hi) (funext fun l => gain_at m c t l)

/-- After any point the scratch holds the normed rows of its run. -/
theorem kept (n : ℕ) : ∀ (hn : n < cfg0.N) (r k : Fin 2048) (i : Fin 8192), i.val = n / 16 * 2048 + r.val →
    (outsAt0 m c n hn).2 (ix2 r k) = normed (fun k => rows m c (ix3 0 i k)) (fun k => gain m c (ix2 0 k)) k := by
  induction n with
  | zero => exact fun hn r k i hi => kept_A_at m c ⟨0, hn⟩ rfl r k i hi
  | succ n ih =>
    intro hn r k i hi
    by_cases h0 : (n + 1) % 16 = 0
    · exact kept_A_at m c ⟨n + 1, hn⟩ h0 r k i hi
    · exact (congrFun (kept_B m c ⟨n + 1, hn⟩ h0) _).trans (ih (Nat.lt_of_succ_lt hn) r k i (by omega))

/-- What a point writes. -/
theorem written (t : Fin cfg0.N) (r : Fin 2048) (q : Fin 512) (i j : Fin 8192) (hi : i.val = t.val / 16 * 2048 + r.val)
    (hj : j.val = t.val % 16 * 512 + q.val) :
    (outsAt0 m c t.val t.isLt).1 (ix2 r q) = result (rows m c) (gain m c) (weight m c) i j := by
  rw [out_eq m c t, mul_at]
  exact Finset.sum_congr rfl fun k _ => congrArg₂ (· * ·) (kept m c t.val t.isLt r k i hi) (weight_at m c t k q _ hj)

/-- The product's array after the run. -/
theorem array_eq : (dats m 0 c).arrAt 3 cfg0.N = fun i => result (rows m c) (gain m c) (weight m c) (i 0) (i 1) := by
  refine (dats m 0 c).arrAt_eq_of_covers 3 _ (by decide +kernel) fun t hf y => ?_
  have hp := places t
  blk_simp
  have ht : t.val < 64 := t.isLt
  rw [after0_3]
  have row : ∀ r : Fin 2048, t.val / 16 * 2048 + r.val < 8192 := fun r => by omega
  have col : ∀ q : Fin 512, t.val % 16 * 512 + q.val < 8192 := fun r => by omega
  have e : ((cfg0.win 3).blk t).view.emb y = ix2 ⟨t.val / 16 * 2048 + (y 0).val, row (y 0)⟩ ⟨t.val % 16 * 512 + (y 1).val, col (y 1)⟩ := by
    blk_ext [hp]
  refine Eq.trans ?_ (congrArg (fun i : S8192x8192.Idx => result (rows m c) (gain m c) (weight m c) (i 0) (i 1)) e).symm
  exact (congrArg _ (ix2_eta y).symm).trans (written m c t (y 0) (y 1) _ _ rfl rfl)

/-- The last three rows of the product's first 6144 columns. -/
def last (x0 : FVec Ideal ⟨3, ![1, 8192, 2048]⟩ .f32) (x1 : FVec Ideal ⟨2, ![2, 2048]⟩ .f32)
    (x2 : FVec Ideal ⟨3, ![1, 2048, 8224]⟩ .f32) (i : Fin 3) (q : Fin 6144) : EReal :=
  result x0 x1 x2 ⟨8189 + i.val, by omega⟩ ⟨q.val, by omega⟩

/-- The host code after the call leaves them. -/
theorem tail_eq : Pipeline.afterTail₀ cfgs (dats m) 0 (V0 m) [hostOps1] c main_v7
    = fun j => last (rows m c) (gain m c) (weight m c) (j 2) (j 3) := by
  have e : Pipeline.withArrays (cfgs 0).spec c (V0 m c) (fun w => (dats m 0 c).arrAt w (cfgs 0).N) (Proc.devRef .tc main_v5)
      = fun i => result (rows m c) (gain m c) (weight m c) (i 0) (i 1) :=
    (Pipeline.withArrays_arr spec0 (by decide) c _ _ 3).trans (array_eq m c)
  unfold Pipeline.afterTail₀
  generalize Pipeline.withArrays (cfgs 0).spec c (V0 m c) (fun w => (dats m 0 c).arrAt w (cfgs 0).N) = U at e
  show StableHlo.after hostOps1 U (Proc.devRef .tc main_v7) = _
  after_results
  rw [e]
  funext j
  show result _ _ _ _ _ = result _ _ _ _ _
  refine congrArg₂ (result _ _ _) (Fin.ext ?_) (Fin.ext ?_)
  · simp
  · simp

open Cert.GdnInRefIdeal.Read in
/-- The reference's normed rows, at an index. -/
theorem ref_norm_at (x0 : FVec Ideal ⟨3, ![1, 8192, 2048]⟩ .f32) (x1 : FVec Ideal ⟨2, ![2, 2048]⟩ .f32)
    (i : Fin 8192) (q : Fin 2048) : val_main_v14 (F := Ideal) x0 x1 (ix3 0 i q)
      = normed (fun k => x0 (ix3 0 i k)) (fun k => x1 (ix2 0 k)) q := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

open Cert.GdnInRefIdeal.Read in
/-- The reference's product, at an index of its first 8192 columns. -/
theorem ref_mul_at (x0 : FVec Ideal ⟨3, ![1, 8192, 2048]⟩ .f32) (x1 : FVec Ideal ⟨2, ![2, 2048]⟩ .f32)
    (x2 : FVec Ideal ⟨3, ![1, 2048, 8224]⟩ .f32) (i : Fin 8192) (q : Fin 8192) :
    val_main_v16 (F := Ideal) x0 x1 x2 (ix3 0 i ⟨q.val, by omega⟩) = result x0 x1 x2 i q := by
  have e := ref_norm_at x0 x1
  unfold val_main_v16 val_main_v15
  generalize val_main_v14 (F := Ideal) x0 x1 = y at *
  pointwise [result]
  simp only [e]

open Cert.GdnInRefIdeal.Read in
theorem ref_eq (x0 : FVec Ideal ⟨3, ![1, 8192, 2048]⟩ .f32) (x1 : FVec Ideal ⟨2, ![2, 2048]⟩ .f32)
    (x2 : FVec Ideal ⟨3, ![1, 2048, 8224]⟩ .f32) :
    val_main_v18 (F := Ideal) x0 x1 x2 = fun i => result x0 x1 x2 (i 0) (i 1) := by
  have h : ∀ (i : Fin 8192) (q : Fin 8192), val_main_v18 (F := Ideal) x0 x1 x2 (ix2 i q) = result x0 x1 x2 i q := fun i q => by
    have e := ref_mul_at x0 x1 x2 i q
    unfold val_main_v18 val_main_v17
    generalize val_main_v16 (F := Ideal) x0 x1 x2 = y at *
    pointwise []
    exact e
  funext i
  exact (congrArg _ (ix2_eta i).symm).trans (h (i 0) (i 1))

open Cert.GdnInRefIdeal.Read in
theorem ref_last_eq (x0 : FVec Ideal ⟨3, ![1, 8192, 2048]⟩ .f32) (x1 : FVec Ideal ⟨2, ![2, 2048]⟩ .f32)
    (x2 : FVec Ideal ⟨3, ![1, 2048, 8224]⟩ .f32) :
    val_main_v20 (F := Ideal) x0 x1 x2 = fun j => last x0 x1 x2 (j 2) (j 3) := by
  funext j
  refine Eq.trans ?_ (ref_mul_at x0 x1 x2 ⟨8189 + (j 2).val, by have := (j 2).isLt; change _ < 3 at this; omega⟩
    ⟨(j 3).val, by have := (j 3).isLt; change _ < 6144 at this; omega⟩)
  unfold val_main_v20 val_main_v19
  refine congrArg (val_main_v16 (F := Ideal) x0 x1 x2) ?_
  funext a
  fin_cases a <;> apply Fin.ext <;> simp

/-- The three programs run and leave their arguments as they were. -/
theorem frame_in : Cert.quiescent_GdnIn := fun m ρ _ => Cert.GdnIn.Gen.frame m ρ
theorem frame_ideal : Cert.quiescent_GdnInIdeal := fun m ρ _ => Cert.GdnInIdeal.Gen.frame m ρ
theorem frame_ref : Cert.quiescent_GdnInRefIdeal := fun m ρ _ =>
  (θ_run Cert.GdnInRefIdeal.defs _ _).mono
    (fun r h => ⟨fun c => (h c).2.2, Idealize.ShloMosaic.sem_eq_zero_of_no_sems (by decide) r.2⟩)
    (Cert.GdnInRefIdeal.Value.run (F := Ideal) m ρ)

/-- The call, with the host code after it, leaves what the plain norm and product leave. -/
theorem value : Cert.algebraic_GdnInIdeal_GdnInRefIdeal := by
  intro m ρ m' ρ' _ hagree
  refine ⟨fun c i => result (rows m c) (gain m c) (weight m c) (i 0) (i 1),
    fun c j => last (rows m c) (gain m c) (weight m c) (j 2) (j 3),
    (θ_run Cert.GdnInIdeal.defs _ _).mono (fun r h c => ⟨((h c).1 3).trans (array_eq m c),
      ((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
      (Gen.run_main m ρ),
    (θ_run Cert.GdnInRefIdeal.defs _ _).mono (fun r h c => ⟨?_, ?_, (h c).2.2⟩) (Cert.GdnInRefIdeal.Value.run (F := Ideal) m' ρ')⟩
  · obtain ⟨e0, e1, e2⟩ := hagree c
    refine (h c).1.trans ?_
    rw [Cert.GdnInRefIdeal.Read.val_main_v18_eq, ref_eq, e0, e1, e2]
    rfl
  · obtain ⟨e0, e1, e2⟩ := hagree c
    refine (h c).2.1.trans ?_
    rw [Cert.GdnInRefIdeal.Read.val_main_v20_eq, ref_last_eq, e0, e1, e2]
    rfl

end Cert.Proof.Rows.In

end
-- ==== Proof.Rows.Step.lean ====
/-
  The projection into the linear layer, for the samples' rows: what its call leaves in the result.
-/
module

public import proofs.«01_k».proof.Defs
public import proofs.«01_k».proof.Proof.Down.Norm
public import proofs.«01_k».proof.Proof.Gen.GdnInS.Frame
public import proofs.«01_k».proof.Proof.Gen.GdnInSIdeal.Frame
public import proofs.«01_k».proof.Proof.Gen.GdnInSRefIdeal.Run
public import proofs.«01_k».proof.Proof.Gen.GdnInSRefIdeal.Read
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Rows.Step

open Idealize.ShloMosaic Idealize.ShloMosaic.TcCoe Idealize.ShloMosaic.Tactic Idealize.SL.Sem
open Cert.GdnInSIdeal Cert.GdnInSIdeal.Gen Cert.Proof.Down

/-- The normed row times the first 8192 columns of the weight. -/
def result (x0 : FVec Ideal ⟨3, ![128, 1, 2048]⟩ .f32) (x1 : FVec Ideal ⟨2, ![2, 2048]⟩ .f32)
    (x2 : FVec Ideal ⟨3, ![1, 2048, 8224]⟩ .f32) (i : Fin 128) (q : Fin 8192) : EReal :=
  ∑ k : Fin 2048, normed (fun k => x0 (ix3 i 0 k)) (fun k => x1 (ix2 0 k)) k * x2 (ix3 0 k ⟨q.val, by omega⟩)

/-- A block of rows, normed. -/
theorem norm_at (x : Vec Ideal S128x2048 .f32) (w : Vec Ideal S1x2048 .f32) (r : Fin 128) (q : Fin 2048) :
    k0_pay1 (F := Ideal) x w (ix2 r q) = normed (fun k => x (ix2 r k)) (fun k => w (ix2 0 k)) q := by
  pointwise [k0_pay1, normed]

/-- The product of normed rows and a block of columns. -/
theorem mul_at (h : Vec Ideal S128x2048 .bf16) (w : Vec Ideal S2048x512 .f32) (r : Fin 128) (q : Fin 512) :
    k0_pay2 (F := Ideal) h w (ix2 r q) = ∑ k : Fin 2048, h (ix2 r k) * w (ix2 k q) := by
  pointwise [k0_pay2]

/-- Where the windows stand. -/
theorem places : ∀ t : Fin grid0.N, win0_0.index t = ![t.val / 16, 0] ∧ win0_1.index t = ![0, 0]
    ∧ win0_2.index t = ![0, t.val % 16] ∧ win0_3.index t = ![t.val / 16, t.val % 16] := by decide +kernel

theorem whole2 : (![0, 0] : Fin 2 → Nat) = fun _ => 0 := by funext a; fin_cases a <;> rfl

variable (m : (ℓ : Loc nD τ sig) → Buf (Elt Ideal) ℓ) (c : Dev nD)

/-- The three arguments. -/
abbrev rows : FVec Ideal ⟨3, ![128, 1, 2048]⟩ .f32 := m ((c : Thread nD τ).loc main_arg0)
abbrev gain : FVec Ideal ⟨2, ![2, 2048]⟩ .f32 := m ((c : Thread nD τ).loc main_arg1)
abbrev weight : FVec Ideal ⟨3, ![1, 2048, 8224]⟩ .f32 := m ((c : Thread nD τ).loc main_arg2)

theorem rows_at (t : Fin cfg0.N) (r : Fin 128) (k : Fin 2048) (i : Fin 128) (hi : i.val = t.val / 16 * 128 + r.val) :
    iblk m c 0 t (ix2 r k) = rows m c (ix3 i 0 k) := by
  have hp := places t
  have e : V m c (Pipeline.arrRef spec0 0) (ix2 i k) = rows m c (ix3 i 0 k) := by
    show StableHlo.after hostOps0 _ (Proc.devRef .tc main_v0) _ = _
    after_reads_at
  refine Eq.trans ?_ e
  unfold iblk
  refine congrArg (V m c (Pipeline.arrRef spec0 0)) ?_
  blk_ext [hp]

theorem gain_at (t : Fin cfg0.N) (k : Fin 2048) : iblk m c 1 t (ix2 0 k) = gain m c (ix2 0 k) := by
  have hp := places t
  have e : V m c (Pipeline.arrRef spec0 1) (ix2 0 k) = gain m c (ix2 0 k) := by
    show StableHlo.after hostOps0 _ (Proc.devRef .tc main_v4) _ = _
    after_reads_at
  refine Eq.trans ?_ e
  unfold iblk
  refine congrArg (V m c (Pipeline.arrRef spec0 1)) ?_
  blk_ext [hp]

theorem weight_at (t : Fin cfg0.N) (k : Fin 2048) (q : Fin 512) (l : Fin 8224) (hl : l.val = t.val % 16 * 512 + q.val) :
    X0_2 m c t (ix2 k q) = weight m c (ix3 0 k l) := by
  have hp := places t
  have e : V m c (Pipeline.arrRef spec0 2) (ix2 k l) = weight m c (ix3 0 k l) := by
    show StableHlo.after hostOps0 _ (Proc.devRef .tc main_v3) _ = _
    after_reads_at
  refine Eq.trans ?_ e
  unfold X0_2 Pipeline.Window.fill
  rw [dif_pos (moved0_2 t _)]
  unfold iblk
  refine congrArg (V m c (Pipeline.arrRef spec0 2)) ?_
  blk_ext [hp]

variable (i : grid0.Coords) (arg2 : Memref sig .tc .vmem S128x2048 .f32) (harg2 : arg2.IsWhole)
  (arg3 : Memref sig .tc .vmem S1x2048 .f32) (harg3 : arg3.IsWhole)
  (arg4 : Memref sig .tc .vmem S2048x512 .f32) (harg4 : arg4.IsWhole)
  (arg5 : Memref sig .tc .vmem S128x512 .f32) (harg5 : arg5.IsWhole)
  (arg6 : Memref sig .tc .vmem S128x2048 .bf16) (harg6 : arg6.IsWhole)
  (x0 : Vec Ideal S128x2048 .f32) (x1 : Vec Ideal S1x2048 .f32) (x2 : Vec Ideal S2048x512 .f32)
  (h : Vec Ideal S128x2048 .bf16)

/-- The first point of a run keeps the normed rows … -/
theorem kept_first (hc : cond0_0 i) :
    sout0_A_0 c i arg2 harg2 arg3 harg3 arg4 harg4 arg5 harg5 arg6 harg6 hc x0 x1 x2 = k0_pay1 x0 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  try sl_unfold_words
  rw [View.canon_unit_zero whole2]
  simp only [View.readAt_eq_ld, harg2.read_unread, harg3.read_unread, View.ld_unit_zero (S := S128x2048) whole2,
    View.ld_unit_zero (S := S1x2048) whole2, shapeCast_self]

/-- … and writes their product; -/
theorem out_first (hc : cond0_0 i) :
    out0_A_3 c i arg2 harg2 arg3 harg3 arg4 harg4 arg5 harg5 arg6 harg6 hc x0 x1 x2 = k0_pay2 (k0_pay1 x0 x1) x2 := by
  unfold out0_A_3
  rw [View.read_writes_eq_canon _ _ _ (cover0_A_3 c i arg2 harg2 arg3 harg3 arg4 harg4 arg5 harg5 arg6 harg6 hc x0 x1 x2)]
  unfold kernelRun0_A
  dsimp only
  try sl_unfold_words
  rw [View.canon_unit_zero whole2, View.readCov_unit_zero (S := S128x2048) _ whole2]
  simp only [View.readAt_eq_ld, harg2.read_unread, harg3.read_unread, harg4.read_unread,
    View.ld_unit_zero (S := S128x2048) whole2, View.ld_unit_zero (S := S1x2048) whole2,
    View.ld_unit_zero (S := S2048x512) whole2, shapeCast_self]

/-- a later point writes the product of the rows kept. -/
theorem out_later (hc : ¬cond0_0 i) :
    out0_B_3 c i arg2 harg2 arg3 harg3 arg4 harg4 arg5 harg5 arg6 harg6 hc x0 x1 x2 h = k0_pay2 h x2 := by
  unfold out0_B_3
  rw [View.read_writes_eq_canon _ _ _ (cover0_B_3 c i arg2 harg2 arg3 harg3 arg4 harg4 arg5 harg5 arg6 harg6 hc x0 x1 x2 h)]
  unfold kernelRun0_B
  dsimp only
  try sl_unfold_words
  rw [View.canon_unit_zero whole2]
  simp only [View.readAt_eq_ld, harg4.read_unread, harg6.read_unread,
    View.ld_unit_zero (S := S128x2048) whole2, View.ld_unit_zero (S := S2048x512) whole2, shapeCast_self]

seal outsAt0 k0_pay1 k0_pay2 out0_A_3 out0_B_3 sout0_A_0 X0_2 iblk

/-- The first point of a run leaves the normed rows … -/
theorem kept_A (t : Fin cfg0.N) (h0 : t.val % 16 = 0) :
    (outsAt0 m c t.val t.isLt).2 = k0_pay1 (iblk m c 0 t) (iblk m c 1 t) := by
  rw [outsAt0_A m c t h0]
  exact kept_first c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (X0_2 m c t) ((hcond0_0 t).mpr h0)

/-- … and the others keep them. -/
theorem kept_B (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point writes the product of the rows kept with its columns. -/
theorem out_eq (t : Fin cfg0.N) :
    (outsAt0 m c t.val t.isLt).1 = k0_pay2 (outsAt0 m c t.val t.isLt).2 (X0_2 m c t) := by
  by_cases h0 : t.val % 16 = 0
  · rw [kept_A m c t h0, outsAt0_A m c t h0]
    exact out_first c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) ((hcond0_0 t).mpr h0)
  · rw [kept_B m c t h0, outsAt0_B m c t h0]
    exact out_later c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) _ (fun h => h0 ((hcond0_0 t).mp h))

/-- The rows the first point of a run norms. -/
theorem kept_A_at (t : Fin cfg0.N) (h0 : t.val % 16 = 0) (r : Fin 128) (k : Fin 2048) (i : Fin 128)
    (hi : i.val = t.val / 16 * 128 + r.val) : (outsAt0 m c t.val t.isLt).2 (ix2 r k)
      = normed (fun k => rows m c (ix3 i 0 k)) (fun k => gain m c (ix2 0 k)) k := by
  rw [kept_A m c t h0, norm_at]
  exact congrArg₂ (fun u v => normed u v k) (funext fun l => rows_at m c t r l i hi) (funext fun l => gain_at m c t l)

/-- After any point the scratch holds the normed rows of its run. -/
theorem kept (n : ℕ) : ∀ (hn : n < cfg0.N) (r : Fin 128) (k : Fin 2048) (i : Fin 128), i.val = n / 16 * 128 + r.val →
    (outsAt0 m c n hn).2 (ix2 r k) = normed (fun k => rows m c (ix3 i 0 k)) (fun k => gain m c (ix2 0 k)) k := by
  induction n with
  | zero => exact fun hn r k i hi => kept_A_at m c ⟨0, hn⟩ rfl r k i hi
  | succ n ih =>
    intro hn r k i hi
    by_cases h0 : (n + 1) % 16 = 0
    · exact kept_A_at m c ⟨n + 1, hn⟩ h0 r k i hi
    · exact (congrFun (kept_B m c ⟨n + 1, hn⟩ h0) _).trans (ih (Nat.lt_of_succ_lt hn) r k i (by omega))

/-- What a point writes. -/
theorem written (t : Fin cfg0.N) (r : Fin 128) (q : Fin 512) (i : Fin 128) (j : Fin 8192) (hi : i.val = t.val / 16 * 128 + r.val)
    (hj : j.val = t.val % 16 * 512 + q.val) :
    (outsAt0 m c t.val t.isLt).1 (ix2 r q) = result (rows m c) (gain m c) (weight m c) i j := by
  rw [out_eq m c t, mul_at]
  exact Finset.sum_congr rfl fun k _ => congrArg₂ (· * ·) (kept m c t.val t.isLt r k i hi) (weight_at m c t k q _ hj)

/-- The product's array after the run. -/
theorem array_eq : (dats m 0 c).arrAt 3 cfg0.N = fun i => result (rows m c) (gain m c) (weight m c) (i 0) (i 1) := by
  refine (dats m 0 c).arrAt_eq_of_covers 3 _ (by decide +kernel) fun t hf y => ?_
  have hp := places t
  blk_simp
  have ht : t.val < 16 := t.isLt
  rw [after0_3]
  have row : ∀ r : Fin 128, t.val / 16 * 128 + r.val < 128 := fun r => by omega
  have col : ∀ q : Fin 512, t.val % 16 * 512 + q.val < 8192 := fun r => by omega
  have e : ((cfg0.win 3).blk t).view.emb y = ix2 ⟨t.val / 16 * 128 + (y 0).val, row (y 0)⟩ ⟨t.val % 16 * 512 + (y 1).val, col (y 1)⟩ := by
    blk_ext [hp]
  refine Eq.trans ?_ (congrArg (fun i : S128x8192.Idx => result (rows m c) (gain m c) (weight m c) (i 0) (i 1)) e).symm
  exact (congrArg _ (ix2_eta y).symm).trans (written m c t (y 0) (y 1) _ _ rfl rfl)

/-- The state moved on by one: its last two rows, then the product's first 6144 columns. -/
def moved (x0 : FVec Ideal ⟨3, ![128, 1, 2048]⟩ .f32) (x1 : FVec Ideal ⟨2, ![2, 2048]⟩ .f32)
    (x2 : FVec Ideal ⟨3, ![1, 2048, 8224]⟩ .f32) (x3 : FVec Ideal ⟨4, ![1, 128, 3, 6144]⟩ .f32)
    (i : Fin 128) (k : Fin 3) (q : Fin 6144) : EReal :=
  match k with
  | 0 => x3 (ix4 0 i 1 q)
  | 1 => x3 (ix4 0 i 2 q)
  | 2 => result x0 x1 x2 i ⟨q.val, by omega⟩

abbrev state : FVec Ideal ⟨4, ![1, 128, 3, 6144]⟩ .f32 := m ((c : Thread nD τ).loc main_arg3)

/-- The host code after the call leaves it. -/
theorem tail_eq : Pipeline.afterTail₀ cfgs (dats m) 0 (V0 m) [hostOps1] c main_v11
    = fun j => moved (rows m c) (gain m c) (weight m c) (state m c) (j 1) (j 2) (j 3) := by
  have e : Pipeline.withArrays (cfgs 0).spec c (V0 m c) (fun w => (dats m 0 c).arrAt w (cfgs 0).N) (Proc.devRef .tc main_v5)
      = fun i => result (rows m c) (gain m c) (weight m c) (i 0) (i 1) :=
    (Pipeline.withArrays_arr spec0 (by decide) c _ _ 3).trans (array_eq m c)
  have e3 : Pipeline.withArrays (cfgs 0).spec c (V0 m c) (fun w => (dats m 0 c).arrAt w (cfgs 0).N) (Proc.devRef .tc main_arg3)
      = state m c := by
    rw [Pipeline.withArrays_of_ne _ c (V0 m c) _ main_arg3 (by exact (by decide : ∀ w, Pipeline.arrRef spec0 w ≠ main_arg3))]
    show StableHlo.after hostOps0 _ (Proc.devRef .tc main_arg3) = _
    after_results
  unfold Pipeline.afterTail₀
  generalize Pipeline.withArrays (cfgs 0).spec c (V0 m c) (fun w => (dats m 0 c).arrAt w (cfgs 0).N) = U at e e3
  show StableHlo.after hostOps1 U (Proc.devRef .tc main_v11) = _
  after_results
  rw [e, e3]
  have h : ∀ (i : Fin 128) (k : Fin 3) (q : Fin 6144), concatenate S128x3x6144 1
      [⟨S128x2x6144, extractStridedSlice S128x2x6144 ![0, 1, 0] (shapeCast S128x3x6144 (state m c) shapeCasts_S1x128x3x6144_S128x3x6144) slices_S128x3x6144_S128x2x6144_0_1_0⟩,
        ⟨S128x1x6144, broadcastInDim S128x1x6144 ![0, 2] bcast_S128x6144_S128x1x6144_0_2 (extractStridedSlice S128x6144 ![0, 0]
          (fun i : S128x8192.Idx => result (rows m c) (gain m c) (weight m c) (i 0) (i 1)) slices_S128x8192_S128x6144_0_0)⟩]
      concatenates_S128x2x6144_S128x1x6144_S128x3x6144_d1 (ix3 i k q)
        = moved (rows m c) (gain m c) (weight m c) (state m c) i k q := by
    intro i k q
    generalize state m c = y
    generalize hg : (fun i : S128x8192.Idx => result (rows m c) (gain m c) (weight m c) (i 0) (i 1)) = g
    have eg : ∀ (i : Fin 128) (q : Fin 8192), result (rows m c) (gain m c) (weight m c) i q = g (ix2 i q) := fun i q => by
      rw [← hg]; rfl
    fin_cases k
    · show _ = y (ix4 0 i 1 q)
      pointwise []
    · show _ = y (ix4 0 i 2 q)
      pointwise []
    · show _ = result _ _ _ i ⟨q.val, _⟩
      rw [eg]
      pointwise []
  funext j
  have hb : ∀ v : FVec Ideal S128x3x6144 .f32,
      broadcastInDim S1x128x3x6144 ![1, 2, 3] bcast_S128x3x6144_S1x128x3x6144_1_2_3 v j = v (ix3 (j 1) (j 2) (j 3)) := fun v =>
    congrArg v (by funext a; fin_cases a <;> rfl)
  exact (hb _).trans (h (j 1) (j 2) (j 3))

open Cert.GdnInSRefIdeal.Read in
/-- The reference's normed rows, at an index. -/
theorem ref_norm_at (x0 : FVec Ideal ⟨3, ![128, 1, 2048]⟩ .f32) (x1 : FVec Ideal ⟨2, ![2, 2048]⟩ .f32)
    (i : Fin 128) (q : Fin 2048) : val_main_v14 (F := Ideal) x0 x1 (ix3 i 0 q)
      = normed (fun k => x0 (ix3 i 0 k)) (fun k => x1 (ix2 0 k)) q := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

open Cert.GdnInSRefIdeal.Read in
/-- The reference's product, at an index of its first 8192 columns. -/
theorem ref_mul_at (x0 : FVec Ideal ⟨3, ![128, 1, 2048]⟩ .f32) (x1 : FVec Ideal ⟨2, ![2, 2048]⟩ .f32)
    (x2 : FVec Ideal ⟨3, ![1, 2048, 8224]⟩ .f32) (i : Fin 128) (q : Fin 8192) :
    val_main_v16 (F := Ideal) x0 x1 x2 (ix3 i 0 ⟨q.val, by omega⟩) = result x0 x1 x2 i q := by
  have e := ref_norm_at x0 x1
  unfold val_main_v16 val_main_v15
  generalize val_main_v14 (F := Ideal) x0 x1 = y at *
  pointwise [result]
  simp only [e]

open Cert.GdnInSRefIdeal.Read in
theorem ref_eq (x0 : FVec Ideal ⟨3, ![128, 1, 2048]⟩ .f32) (x1 : FVec Ideal ⟨2, ![2, 2048]⟩ .f32)
    (x2 : FVec Ideal ⟨3, ![1, 2048, 8224]⟩ .f32) :
    val_main_v21 (F := Ideal) x0 x1 x2 = fun i => result x0 x1 x2 (i 0) (i 1) := by
  have h : ∀ (i : Fin 128) (q : Fin 8192), val_main_v21 (F := Ideal) x0 x1 x2 (ix2 i q) = result x0 x1 x2 i q := fun i q => by
    have e := ref_mul_at x0 x1 x2 i q
    unfold val_main_v21 val_main_v20
    generalize val_main_v16 (F := Ideal) x0 x1 x2 = y at *
    pointwise []
    exact e
  funext i
  exact (congrArg _ (ix2_eta i).symm).trans (h (i 0) (i 1))

open Cert.GdnInSRefIdeal.Read in
theorem ref_moved_eq (x0 : FVec Ideal ⟨3, ![128, 1, 2048]⟩ .f32) (x1 : FVec Ideal ⟨2, ![2, 2048]⟩ .f32)
    (x2 : FVec Ideal ⟨3, ![1, 2048, 8224]⟩ .f32) (x3 : FVec Ideal ⟨4, ![1, 128, 3, 6144]⟩ .f32) :
    val_main_v23 (F := Ideal) x0 x1 x2 x3 = fun j => moved x0 x1 x2 x3 (j 1) (j 2) (j 3) := by
  have h : ∀ (i : Fin 128) (k : Fin 3) (q : Fin 6144), val_main_v22 (F := Ideal) x0 x1 x2 x3 (ix3 i k q)
      = moved x0 x1 x2 x3 i k q := fun i k q => by
    have e := ref_mul_at x0 x1 x2 i ⟨q.val, by omega⟩
    unfold val_main_v22 val_main_v19 val_main_v18 val_main_v17
    generalize val_main_v16 (F := Ideal) x0 x1 x2 = y at *
    fin_cases k
    · show _ = x3 (ix4 0 i 1 q)
      pointwise []
    · show _ = x3 (ix4 0 i 2 q)
      pointwise []
    · refine Eq.trans ?_ e
      pointwise []
  funext j
  refine Eq.trans ?_ (h (j 1) (j 2) (j 3))
  unfold val_main_v23
  refine congrArg (val_main_v22 (F := Ideal) x0 x1 x2 x3) ?_
  funext a
  fin_cases a <;> rfl

/-- The three programs run and leave their arguments as they were. -/
theorem frame_step : Cert.quiescent_GdnInS := fun m ρ _ => Cert.GdnInS.Gen.frame m ρ
theorem frame_ideal : Cert.quiescent_GdnInSIdeal := fun m ρ _ => Cert.GdnInSIdeal.Gen.frame m ρ
theorem frame_ref : Cert.quiescent_GdnInSRefIdeal := fun m ρ _ =>
  (θ_run Cert.GdnInSRefIdeal.defs _ _).mono
    (fun r h => ⟨fun c => (h c).2.2, Idealize.ShloMosaic.sem_eq_zero_of_no_sems (by decide) r.2⟩)
    (Cert.GdnInSRefIdeal.Value.run (F := Ideal) m ρ)

/-- The call, with the host code after it, leaves what the plain norm and product leave. -/
theorem value : Cert.algebraic_GdnInSIdeal_GdnInSRefIdeal := by
  intro m ρ m' ρ' _ hagree
  refine ⟨fun c i => result (rows m c) (gain m c) (weight m c) (i 0) (i 1),
    fun c j => moved (rows m c) (gain m c) (weight m c) (state m c) (j 1) (j 2) (j 3),
    (θ_run Cert.GdnInSIdeal.defs _ _).mono (fun r h c => ⟨((h c).1 3).trans (array_eq m c),
      ((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
      (Gen.run_main m ρ),
    (θ_run Cert.GdnInSRefIdeal.defs _ _).mono (fun r h c => ⟨?_, ?_, (h c).2.2⟩) (Cert.GdnInSRefIdeal.Value.run (F := Ideal) m' ρ')⟩
  · obtain ⟨e0, e1, e2, e3⟩ := hagree c
    refine (h c).1.trans ?_
    rw [Cert.GdnInSRefIdeal.Read.val_main_v21_eq, ref_eq, e0, e1, e2]
    rfl
  · obtain ⟨e0, e1, e2, e3⟩ := hagree c
    refine (h c).2.1.trans ?_
    rw [Cert.GdnInSRefIdeal.Read.val_main_v23_eq, ref_moved_eq, e0, e1, e2, e3]
    rfl

end Cert.Proof.Rows.Step

end
-- ==== Proof.Rows.Q.lean ====
/-
  The queries' projection of the sparse attention: what its call leaves in the result.
-/
module

public import proofs.«01_k».proof.Defs
public import proofs.«01_k».proof.Proof.Down.Norm
public import proofs.«01_k».proof.Proof.Gen.NsaQ.Frame
public import proofs.«01_k».proof.Proof.Gen.NsaQIdeal.Value
public import proofs.«01_k».proof.Proof.Gen.NsaQRefIdeal.Run
public import proofs.«01_k».proof.Proof.Gen.NsaQRefIdeal.Read
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Rows.Q

open Idealize.ShloMosaic Idealize.ShloMosaic.TcCoe Idealize.ShloMosaic.Tactic Idealize.SL.Sem
open Cert.NsaQIdeal Cert.NsaQIdeal.Gen Cert.Proof.Down

/-- The normed row times the first 2048 columns of the weight. -/
def result (x0 : FVec Ideal ⟨2, ![8192, 2048]⟩ .f32) (x1 : FVec Ideal ⟨1, ![2048]⟩ .f32)
    (x2 : FVec Ideal ⟨2, ![2048, 2096]⟩ .f32) (i : Fin 8192) (q : Fin 2048) : EReal :=
  ∑ k : Fin 2048, normed (fun k => x0 (ix2 i k)) (fun k => x1 (ix1 k)) k * x2 (ix2 k ⟨q.val, by omega⟩)

/-- A block of rows, normed. -/
theorem norm_at (x : Vec Ideal S2048x2048 .f32) (w : Vec Ideal S1x2048 .f32) (r q : Fin 2048) :
    k0_pay1 (F := Ideal) x w (ix2 r q) = normed (fun k => x (ix2 r k)) (fun k => w (ix2 0 k)) q := by
  pointwise [k0_pay1, normed]

/-- The product of normed rows and a block of columns. -/
theorem mul_at (h : Vec Ideal S2048x2048 .bf16) (w : Vec Ideal S2048x512 .f32) (r : Fin 2048) (q : Fin 512) :
    k0_pay2 (F := Ideal) h w (ix2 r q) = ∑ k : Fin 2048, h (ix2 r k) * w (ix2 k q) := by
  pointwise [k0_pay2]

/-- Where the windows stand. -/
theorem places : ∀ t : Fin grid0.N, win0_0.index t = ![t.val / 4, 0] ∧ win0_1.index t = ![0, 0]
    ∧ win0_2.index t = ![0, t.val % 4] ∧ win0_3.index t = ![t.val / 4, t.val % 4] := by decide +kernel

theorem whole2 : (![0, 0] : Fin 2 → Nat) = fun _ => 0 := by funext a; fin_cases a <;> rfl

variable (m : (ℓ : Loc nD τ sig) → Buf (Elt Ideal) ℓ) (c : Dev nD)

/-- The three arguments. -/
abbrev rows : FVec Ideal ⟨2, ![8192, 2048]⟩ .f32 := m ((c : Thread nD τ).loc main_arg0)
abbrev gain : FVec Ideal ⟨1, ![2048]⟩ .f32 := m ((c : Thread nD τ).loc main_arg1)
abbrev weight : FVec Ideal ⟨2, ![2048, 2096]⟩ .f32 := m ((c : Thread nD τ).loc main_arg2)

theorem rows_at (t : Fin cfg0.N) (r k : Fin 2048) (i : Fin 8192) (hi : i.val = t.val / 4 * 2048 + r.val) :
    iblk m c 0 t (ix2 r k) = rows m c (ix2 i k) := by
  have hp := places t
  unfold iblk
  refine Eq.trans (congrArg (V m c (Pipeline.arrRef spec0 0)) (?_ : _ = ix2 i k)) (congrFun (V_main_arg0 m c) _)
  blk_ext [hp]

theorem gain_at (t : Fin cfg0.N) (k : Fin 2048) : iblk m c 1 t (ix2 0 k) = gain m c (ix1 k) := by
  have hp := places t
  have e : V m c (Pipeline.arrRef spec0 1) (ix2 0 k) = gain m c (ix1 k) := by
    show StableHlo.after hostOps0 _ (Proc.devRef .tc main_v0) _ = _
    after_reads_at
  refine Eq.trans ?_ e
  unfold iblk
  refine congrArg (V m c (Pipeline.arrRef spec0 1)) ?_
  blk_ext [hp]

theorem weight_at (t : Fin cfg0.N) (k : Fin 2048) (q : Fin 512) (l : Fin 2096) (hl : l.val = t.val % 4 * 512 + q.val) :
    X0_2 m c t (ix2 k q) = weight m c (ix2 k l) := by
  have hp := places t
  unfold X0_2 Pipeline.Window.fill
  rw [dif_pos (moved0_2 t _)]
  unfold iblk
  refine Eq.trans (congrArg (V m c (Pipeline.arrRef spec0 2)) (?_ : _ = ix2 k l)) (congrFun (V_main_arg2 m c) _)
  blk_ext [hp]

variable (i : grid0.Coords) (arg2 : Memref sig .tc .vmem S2048x2048 .f32) (harg2 : arg2.IsWhole)
  (arg3 : Memref sig .tc .vmem S1x2048 .f32) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S2048x2048 .bf16) (harg6 : arg6.IsWhole)
  (x0 : Vec Ideal S2048x2048 .f32) (x1 : Vec Ideal S1x2048 .f32) (x2 : Vec Ideal S2048x512 .f32)
  (h : Vec Ideal S2048x2048 .bf16)

/-- The first point of a run keeps the normed rows … -/
theorem kept_first (hc : cond0_0 i) :
    sout0_A_0 c i arg2 harg2 arg3 harg3 arg4 harg4 arg5 harg5 arg6 harg6 hc x0 x1 x2 = k0_pay1 x0 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  try sl_unfold_words
  rw [View.canon_unit_zero whole2]
  simp only [View.readAt_eq_ld, harg2.read_unread, harg3.read_unread, View.ld_unit_zero (S := S2048x2048) whole2,
    View.ld_unit_zero (S := S1x2048) whole2, shapeCast_self]

/-- … and writes their product; -/
theorem out_first (hc : cond0_0 i) :
    out0_A_3 c i arg2 harg2 arg3 harg3 arg4 harg4 arg5 harg5 arg6 harg6 hc x0 x1 x2 = k0_pay2 (k0_pay1 x0 x1) x2 := by
  unfold out0_A_3
  rw [View.read_writes_eq_canon _ _ _ (cover0_A_3 c i arg2 harg2 arg3 harg3 arg4 harg4 arg5 harg5 arg6 harg6 hc x0 x1 x2)]
  unfold kernelRun0_A
  dsimp only
  try sl_unfold_words
  rw [View.canon_unit_zero whole2, View.readCov_unit_zero (S := S2048x2048) _ whole2]
  simp only [View.readAt_eq_ld, harg2.read_unread, harg3.read_unread, harg4.read_unread,
    View.ld_unit_zero (S := S2048x2048) whole2, View.ld_unit_zero (S := S1x2048) whole2,
    View.ld_unit_zero (S := S2048x512) whole2, shapeCast_self]

/-- a later point writes the product of the rows kept. -/
theorem out_later (hc : ¬cond0_0 i) :
    out0_B_3 c i arg2 harg2 arg3 harg3 arg4 harg4 arg5 harg5 arg6 harg6 hc x0 x1 x2 h = k0_pay2 h x2 := by
  unfold out0_B_3
  rw [View.read_writes_eq_canon _ _ _ (cover0_B_3 c i arg2 harg2 arg3 harg3 arg4 harg4 arg5 harg5 arg6 harg6 hc x0 x1 x2 h)]
  unfold kernelRun0_B
  dsimp only
  try sl_unfold_words
  rw [View.canon_unit_zero whole2]
  simp only [View.readAt_eq_ld, harg4.read_unread, harg6.read_unread,
    View.ld_unit_zero (S := S2048x2048) whole2, View.ld_unit_zero (S := S2048x512) whole2, shapeCast_self]

seal outsAt0 k0_pay1 k0_pay2 out0_A_3 out0_B_3 sout0_A_0 X0_2 iblk

/-- The first point of a run leaves the normed rows … -/
theorem kept_A (t : Fin cfg0.N) (h0 : t.val % 4 = 0) :
    (outsAt0 m c t.val t.isLt).2 = k0_pay1 (iblk m c 0 t) (iblk m c 1 t) := by
  rw [outsAt0_A m c t h0]
  exact kept_first c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (X0_2 m c t) ((hcond0_0 t).mpr h0)

/-- … and the others keep them. -/
theorem kept_B (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point writes the product of the rows kept with its columns. -/
theorem out_eq (t : Fin cfg0.N) :
    (outsAt0 m c t.val t.isLt).1 = k0_pay2 (outsAt0 m c t.val t.isLt).2 (X0_2 m c t) := by
  by_cases h0 : t.val % 4 = 0
  · rw [kept_A m c t h0, outsAt0_A m c t h0]
    exact out_first c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) ((hcond0_0 t).mpr h0)
  · rw [kept_B m c t h0, outsAt0_B m c t h0]
    exact out_later c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (X0_2 m c t) _ (fun h => h0 ((hcond0_0 t).mp h))

/-- The rows the first point of a run norms. -/
theorem kept_A_at (t : Fin cfg0.N) (h0 : t.val % 4 = 0) (r k : Fin 2048) (i : Fin 8192)
    (hi : i.val = t.val / 4 * 2048 + r.val) : (outsAt0 m c t.val t.isLt).2 (ix2 r k)
      = normed (fun k => rows m c (ix2 i k)) (fun k => gain m c (ix1 k)) k := by
  rw [kept_A m c t h0, norm_at]
  exact congrArg₂ (fun u v => normed u v k) (funext fun l => rows_at m c t r l i hi) (funext fun l => gain_at m c t l)

/-- After any point the scratch holds the normed rows of its run. -/
theorem kept (n : ℕ) : ∀ (hn : n < cfg0.N) (r k : Fin 2048) (i : Fin 8192), i.val = n / 4 * 2048 + r.val →
    (outsAt0 m c n hn).2 (ix2 r k) = normed (fun k => rows m c (ix2 i k)) (fun k => gain m c (ix1 k)) k := by
  induction n with
  | zero => exact fun hn r k i hi => kept_A_at m c ⟨0, hn⟩ rfl r k i hi
  | succ n ih =>
    intro hn r k i hi
    by_cases h0 : (n + 1) % 4 = 0
    · exact kept_A_at m c ⟨n + 1, hn⟩ h0 r k i hi
    · exact (congrFun (kept_B m c ⟨n + 1, hn⟩ h0) _).trans (ih (Nat.lt_of_succ_lt hn) r k i (by omega))

/-- What a point writes. -/
theorem written (t : Fin cfg0.N) (r : Fin 2048) (q : Fin 512) (i : Fin 8192) (j : Fin 2048) (hi : i.val = t.val / 4 * 2048 + r.val)
    (hj : j.val = t.val % 4 * 512 + q.val) :
    (outsAt0 m c t.val t.isLt).1 (ix2 r q) = result (rows m c) (gain m c) (weight m c) i j := by
  rw [out_eq m c t, mul_at]
  exact Finset.sum_congr rfl fun k _ => congrArg₂ (· * ·) (kept m c t.val t.isLt r k i hi) (weight_at m c t k q _ hj)

/-- The product's array after the run. -/
theorem array_eq : (dats m 0 c).arrAt 3 cfg0.N = fun i => result (rows m c) (gain m c) (weight m c) (i 0) (i 1) := by
  refine (dats m 0 c).arrAt_eq_of_covers 3 _ (by decide +kernel) fun t hf y => ?_
  have hp := places t
  blk_simp
  have ht : t.val < 16 := t.isLt
  rw [after0_3]
  have row : ∀ r : Fin 2048, t.val / 4 * 2048 + r.val < 8192 := fun r => by omega
  have col : ∀ q : Fin 512, t.val % 4 * 512 + q.val < 2048 := fun r => by omega
  have e : ((cfg0.win 3).blk t).view.emb y = ix2 ⟨t.val / 4 * 2048 + (y 0).val, row (y 0)⟩ ⟨t.val % 4 * 512 + (y 1).val, col (y 1)⟩ := by
    blk_ext [hp]
  refine Eq.trans ?_ (congrArg (fun i : S8192x2048.Idx => result (rows m c) (gain m c) (weight m c) (i 0) (i 1)) e).symm
  exact (congrArg _ (ix2_eta y).symm).trans (written m c t (y 0) (y 1) _ _ rfl rfl)

open Cert.NsaQRefIdeal.Read in
/-- The reference's normed rows, at an index. -/
theorem ref_norm_at (x0 : FVec Ideal ⟨2, ![8192, 2048]⟩ .f32) (x1 : FVec Ideal ⟨1, ![2048]⟩ .f32)
    (i : Fin 8192) (q : Fin 2048) : val_main_v12 (F := Ideal) x0 x1 (ix2 i q)
      = normed (fun k => x0 (ix2 i k)) (fun k => x1 (ix1 k)) q := by
  unfold val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

open Cert.NsaQRefIdeal.Read in
theorem ref_eq (x0 : FVec Ideal ⟨2, ![8192, 2048]⟩ .f32) (x1 : FVec Ideal ⟨1, ![2048]⟩ .f32)
    (x2 : FVec Ideal ⟨2, ![2048, 2096]⟩ .f32) :
    val_main_v14 (F := Ideal) x0 x1 x2 = fun i => result x0 x1 x2 (i 0) (i 1) := by
  have h : ∀ (i : Fin 8192) (q : Fin 2048), val_main_v14 (F := Ideal) x0 x1 x2 (ix2 i q) = result x0 x1 x2 i q := fun i q => by
    have e := ref_norm_at x0 x1
    unfold val_main_v14 val_main_v13
    generalize val_main_v12 (F := Ideal) x0 x1 = y at *
    pointwise [result]
    simp only [e]
  funext i
  exact (congrArg _ (ix2_eta i).symm).trans (h (i 0) (i 1))

/-- The three programs run and leave their arguments as they were. -/
theorem frame_q : Cert.quiescent_NsaQ := fun m ρ _ => Cert.NsaQ.Gen.frame m ρ
theorem frame_ideal : Cert.quiescent_NsaQIdeal := fun m ρ _ => Cert.NsaQIdeal.Gen.frame m ρ
theorem frame_ref : Cert.quiescent_NsaQRefIdeal := fun m ρ _ =>
  (θ_run Cert.NsaQRefIdeal.defs _ _).mono
    (fun r h => ⟨fun c => (h c).2, Idealize.ShloMosaic.sem_eq_zero_of_no_sems (by decide) r.2⟩)
    (Cert.NsaQRefIdeal.Value.run (F := Ideal) m ρ)

/-- The call leaves what the plain norm and product leave. -/
theorem value : Cert.algebraic_NsaQIdeal_NsaQRefIdeal := by
  intro m ρ m' ρ' _ hagree
  refine ⟨fun c => (dats m 0 c).arrAt 3 cfg0.N, Cert.NsaQIdeal.Value.run_blocks m ρ,
    (θ_run Cert.NsaQRefIdeal.defs _ _).mono (fun r h c => ⟨?_, (h c).2⟩) (Cert.NsaQRefIdeal.Value.run (F := Ideal) m' ρ')⟩
  obtain ⟨e0, e1, e2⟩ := hagree c
  refine (h c).1.trans ?_
  rw [Cert.NsaQRefIdeal.Read.val_main_v14_eq, ref_eq, e0, e1, e2]
  exact (array_eq m c).symm

end Cert.Proof.Rows.Q

end
-- ==== Proof.Down.Fold.lean ====
/-
  A block that a run of grid points fills: the first point sets it, each later point adds its share of a long sum.
-/
module

public import Idealize.ShloMosaic.Lib.Pipeline.ValueKit
public import Idealize.ShloMosaic.Lib.Pipeline.Value

@[expose] public section

noncomputable section

namespace Cert.Proof.Down

open Idealize.ShloMosaic

/-- The block after `j` further points of a run that starts at `b`: what it started from and the first `j + 1` stretches
    of `n` terms of the sum. -/
theorem fold_part {N J L n : ℕ} {ι : Type} (reset : (k : ℕ) → k < N → ι → EReal)
    (step : (k : ℕ) → k < N → (ι → EReal) → ι → EReal) (b : ℕ) (hL : J * n ≤ L) (Z : ι → EReal) (f : ι → Fin L → EReal)
    (h0 : ∀ (h : b < N) (i : ι) (hl : ∀ k : Fin n, k.val < L), reset b h i = Z i + ∑ k : Fin n, f i ⟨k.val, hl k⟩)
    (h1 : ∀ (s : ℕ) (h : b + s < N) (acc : ι → EReal) (i : ι) (hl : ∀ k : Fin n, s * n + k.val < L), 0 < s → s < J →
      step (b + s) h acc i = acc i + ∑ k : Fin n, f i ⟨s * n + k.val, hl k⟩)
    (j : ℕ) (hj : j < J) (h : b + j < N) (i : ι) :
    Pipeline.accAt reset step b j h i
      = Z i + ∑ s ∈ Finset.range (j + 1), ∑ k : Fin n, if hk : s * n + k.val < L then f i ⟨s * n + k.val, hk⟩ else 0 := by
  have hlt : ∀ s, s < J → ∀ k : Fin n, s * n + k.val < L := fun s hs k => by
    have := Nat.mul_le_mul_right n (Nat.succ_le_of_lt hs)
    rw [Nat.succ_mul] at this
    omega
  refine (Pipeline.accAt_add_apply reset step Z
    (fun p i => ∑ k : Fin n, if hk : (p - b) * n + k.val < L then f i ⟨(p - b) * n + k.val, hk⟩ else 0) b j
    (fun h i => ?_) (fun p h acc i hb he => ?_) j le_rfl h i).trans ?_
  · rw [h0 h i fun k => by simpa using hlt 0 (by omega) k]
    refine congrArg (Z i + ·) (Finset.sum_congr rfl fun k _ => ?_)
    have := hlt 0 (by omega) k
    simp only [Nat.sub_self, Nat.zero_mul, Nat.zero_add] at this ⊢
    rw [dif_pos this]
  · obtain ⟨s, rfl⟩ := Nat.exists_eq_add_of_le hb.le
    rw [h1 s h acc i (hlt s (by omega)) (by omega) (by omega)]
    refine congrArg (acc i + ·) (Finset.sum_congr rfl fun k _ => ?_)
    have := hlt s (by omega) k
    simp only [Nat.add_sub_cancel_left]
    rw [dif_pos this]
  · simp only [Nat.add_sub_cancel_left]

/-- The stretches together are the whole sum. -/
theorem stretches {J L n : ℕ} (hL : L = J * n) (f : Fin L → EReal) :
    (∑ s ∈ Finset.range J, ∑ k : Fin n, if hk : s * n + k.val < L then f ⟨s * n + k.val, hk⟩ else 0) = ∑ l, f l := by
  rw [Finset.sum_range]
  refine Fin.sum_mul_add_congr (fun s k hl => ?_) hL
  rw [dif_pos hl]

/-- … so after the last point of the run, the whole sum. -/
theorem fold_whole {N J L n : ℕ} {ι : Type} (reset : (k : ℕ) → k < N → ι → EReal)
    (step : (k : ℕ) → k < N → (ι → EReal) → ι → EReal) (b : ℕ) (hL : L = J * n) (Z : ι → EReal) (f : ι → Fin L → EReal)
    (h0 : ∀ (h : b < N) (i : ι) (hl : ∀ k : Fin n, k.val < L), reset b h i = Z i + ∑ k : Fin n, f i ⟨k.val, hl k⟩)
    (h1 : ∀ (s : ℕ) (h : b + s < N) (acc : ι → EReal) (i : ι) (hl : ∀ k : Fin n, s * n + k.val < L), 0 < s → s < J →
      step (b + s) h acc i = acc i + ∑ k : Fin n, f i ⟨s * n + k.val, hl k⟩)
    (j : ℕ) (hj : j + 1 = J) (h : b + j < N) (i : ι) :
    Pipeline.accAt reset step b j h i = Z i + ∑ l, f i l := by
  rw [fold_part reset step b hL.ge Z f h0 h1 j (by omega) h i, hj, stretches hL (f i)]

end Cert.Proof.Down

end
-- ==== Proof.Down.Out.lean ====
/-
  The projection of the attention back onto the residual rows: what its call leaves in the result.
-/
module

public import proofs.«01_k».proof.Defs
public import proofs.«01_k».proof.Proof.Down.Fold
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.Quiescent

@[expose] public section

set_option maxRecDepth 16384

noncomputable section

namespace Cert.Proof.Down.Out

open Idealize.ShloMosaic Idealize.ShloMosaic.TcCoe Idealize.SL.Sem
open Cert.OutProjIdeal Cert.OutProjIdeal.Gen

/-- The residual rows and the product. -/
def result (x0 : FVec Ideal ⟨2, ![8192, 2048]⟩ .bf16) (x1 : FVec Ideal ⟨2, ![2048, 2048]⟩ .f32)
    (x2 : FVec Ideal ⟨2, ![8192, 2048]⟩ .f32) (i : S8192x2048.Idx) : EReal :=
  x2 i + ∑ k : Fin 2048, x0 (ix2 (i 0) k) * x1 (ix2 k (i 1))

/-- One point's contribution. -/
theorem step_at (acc : Vec Ideal S1024x2048 .f32) (a : Vec Ideal S1024x512 .bf16) (w : Vec Ideal S1x512x2048 .f32)
    (r : Fin 1024) (q : Fin 2048) :
    k0_pay1 (F := Ideal) acc a w (ix2 r q) = acc (ix2 r q) + ∑ k : Fin 512, a (ix2 r k) * w (ix3 0 k q) := by
  pointwise [k0_pay1]

/-- Where the windows stand. -/
theorem places : ∀ t : Fin grid0.N, win0_0.index t = ![t.val / 4, t.val % 4] ∧ win0_1.index t = ![0, t.val % 4, 0]
    ∧ win0_2.index t = ![t.val / 4, 0] ∧ win0_3.index t = ![t.val / 4, 0] := by decide +kernel

variable (m : (ℓ : Loc nD τ sig) → Buf (Elt Ideal) ℓ) (c : Dev nD)

/-- The three arguments. -/
abbrev rows : FVec Ideal ⟨2, ![8192, 2048]⟩ .bf16 := m ((c : Thread nD τ).loc main_arg0)
abbrev weight : FVec Ideal ⟨2, ![2048, 2048]⟩ .f32 := m ((c : Thread nD τ).loc main_arg1)
abbrev rest : FVec Ideal ⟨2, ![8192, 2048]⟩ .f32 := m ((c : Thread nD τ).loc main_arg2)

/-- The weight under a leading axis of one. -/
theorem lifted_at (p : S1x2048x2048.Idx) : V m c (Pipeline.arrRef spec0 1) p = weight m c (ix2 (p 1) (p 2)) := by
  have e : V m c (Pipeline.arrRef spec0 1)
      = broadcastInDim S1x2048x2048 ![1, 2] bcast_S2048x2048_S1x2048x2048_1_2 (m ((c : Thread nD τ).loc main_arg1)) := by
    show StableHlo.after hostOps0 _ (Proc.devRef .tc main_v0) = _
    after_results
  rw [e]
  refine congrArg (weight m c) (funext fun a => ?_)
  fin_cases a <;> rfl

theorem rows_at (t : Fin cfg0.N) (r : Fin 1024) (k : Fin 512) (i : Fin 8192) (l : Fin 2048)
    (hi : i.val = t.val / 4 * 1024 + r.val) (hl : l.val = t.val % 4 * 512 + k.val) :
    iblk m c 0 t (ix2 r k) = rows m c (ix2 i l) := by
  have hp := places t
  blk_ext [iblk, V, hp]

theorem weight_at (t : Fin cfg0.N) (k : Fin 512) (q : Fin 2048) (l : Fin 2048)
    (hl : l.val = t.val % 4 * 512 + k.val) : iblk m c 1 t (ix3 0 k q) = weight m c (ix2 l q) := by
  have hp := places t
  unfold iblk
  refine (lifted_at m c _).trans ?_
  blk_ext [hp]

theorem rest_at (t : Fin cfg0.N) (r : Fin 1024) (q : Fin 2048) (i : Fin 8192)
    (hi : i.val = t.val / 4 * 1024 + r.val) : iblk m c 2 t (ix2 r q) = rest m c (ix2 i q) := by
  have hp := places t
  blk_ext [iblk, V, hp]

/-- The result array after the run. -/
theorem array_eq : (dats m 0 c).arrAt 3 cfg0.N = result (rows m c) (weight m c) (rest m c) := by
  refine (dats m 0 c).arrAt_eq_of_covers 3 _ (by decide +kernel) fun t hf y => ?_
  have hp := places t
  blk_simp
  have ht : t.val < 32 := t.isLt
  have hm : t.val % 4 = 3 := (flush0_3 t).mp hf
  have hN : cfg0.N = 32 := N_0
  rw [after0_3, Cert.OutProjIdeal.Value.outsAt_3_eq]
  have row : ∀ r : Fin 1024, t.val / 4 * 1024 + r.val < 8192 := fun r => by omega
  refine (fold_whole (J := 4) (L := 2048) (n := 512) (Cert.OutProjIdeal.Value.reset3 m c)
    (Cert.OutProjIdeal.Value.step3 m c) (4 * (t.val / 4)) rfl
    (fun y => rest m c (ix2 ⟨t.val / 4 * 1024 + (y 0).val, row (y 0)⟩ (y 1)))
    (fun y k => rows m c (ix2 ⟨t.val / 4 * 1024 + (y 0).val, row (y 0)⟩ k) * weight m c (ix2 k (y 1)))
    (fun h y hl => ?_) (fun s h acc y hl hs hs' => ?_) (t.val % 4) (by omega) (by omega) y).trans ?_
  · rw [← ix2_eta y]
    refine (step_at _ _ _ _ _).trans (congrArg₂ (· + ·) (rest_at m c _ _ _ _ ?_)
      (Finset.sum_congr rfl fun k _ => congrArg₂ (· * ·) (rows_at m c _ _ _ _ _ ?_ ?_) (weight_at m c _ _ _ _ ?_))) <;>
      simp <;> omega
  · rw [← ix2_eta y]
    refine (step_at _ _ _ _ _).trans (congrArg₂ (· + ·) rfl
      (Finset.sum_congr rfl fun k _ => congrArg₂ (· * ·) (rows_at m c _ _ _ _ _ ?_ ?_) (weight_at m c _ _ _ _ ?_))) <;>
      simp <;> omega
  · show _ = result (rows m c) (weight m c) (rest m c) (((cfg0.win 3).blk t).view.emb y)
    have e : ((cfg0.win 3).blk t).view.emb y = ix2 ⟨t.val / 4 * 1024 + (y 0).val, row (y 0)⟩ (y 1) := by
      blk_ext [hp]
    rw [e]
    rfl

theorem ref_eq (x0 : FVec Ideal ⟨2, ![8192, 2048]⟩ .bf16) (x1 : FVec Ideal ⟨2, ![2048, 2048]⟩ .f32)
    (x2 : FVec Ideal ⟨2, ![8192, 2048]⟩ .f32) :
    Cert.OutProjRefIdeal.Read.val_main_v2 (F := Ideal) x0 x1 x2 = result x0 x1 x2 := by
  funext i
  rw [Cert.OutProjRefIdeal.Read.val_main_v2_apply, Cert.OutProjRefIdeal.Read.val_main_v1_apply, ← ix2_eta i]
  refine congrArg (x2 _ + ·) (Finset.sum_congr rfl fun k _ => congrArg₂ (· * ·) (congrArg x0 ?_) (congrArg x1 ?_)) <;>
    (funext a; fin_cases a <;> rfl)

/-- The three programs run and leave their arguments as they were. -/
theorem frame_out : Cert.quiescent_OutProj := fun m ρ _ => Cert.OutProj.Gen.frame m ρ
theorem frame_ideal : Cert.quiescent_OutProjIdeal := fun m ρ _ => Cert.OutProjIdeal.Gen.frame m ρ
theorem frame_ref : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The call leaves what the plain product and sum leave. -/
theorem value : Cert.algebraic_OutProjIdeal_OutProjRefIdeal := by
  intro m ρ m' ρ' _ hagree
  refine ⟨fun c => (Cert.OutProjIdeal.Gen.dats m 0 c).arrAt 3 Cert.OutProjIdeal.cfg0.N,
    Cert.OutProjIdeal.Value.run_blocks m ρ,
    (θ_run Cert.OutProjRefIdeal.defs _ _).mono (fun r h c => ⟨?_, (h c).2⟩) (Cert.OutProjRefIdeal.Value.run (F := Ideal) m' ρ')⟩
  obtain ⟨e0, e1, e2⟩ := hagree c
  refine (h c).1.trans ?_
  rw [Cert.OutProjRefIdeal.Read.val_main_v2_eq, ref_eq, e0, e1, e2]
  exact (array_eq m c).symm

end Cert.Proof.Down.Out

end
-- ==== Proof.Down.Ffn.lean ====
/-
  The down projection of the first feed-forward part: what its call leaves in the result.
-/
module

public import proofs.«01_k».proof.Defs
public import proofs.«01_k».proof.Proof.Down.Fold
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pointwise
public import Idealize.ShloMosaic.Lib.Quiescent

@[expose] public section

set_option maxRecDepth 16384

noncomputable section

namespace Cert.Proof.Down.Ffn

open Idealize.ShloMosaic Idealize.ShloMosaic.TcCoe Idealize.SL.Sem
open Cert.FfnDownIdeal Cert.FfnDownIdeal.Gen

/-- The residual rows and the product with the first of the two weights. -/
def result (x0 : FVec Ideal ⟨2, ![8192, 5632]⟩ .bf16) (x1 : FVec Ideal ⟨3, ![2, 5632, 2048]⟩ .f32)
    (x2 : FVec Ideal ⟨2, ![8192, 2048]⟩ .f32) (i : S8192x2048.Idx) : EReal :=
  x2 i + ∑ k : Fin 5632, x0 (ix2 (i 0) k) * x1 (ix3 0 k (i 1))

/-- One point's contribution. -/
theorem step_at (acc : Vec Ideal S1024x2048 .f32) (a : Vec Ideal S1024x512 .bf16) (w : Vec Ideal S1x512x2048 .f32)
    (r : Fin 1024) (q : Fin 2048) :
    k0_pay1 (F := Ideal) acc a w (ix2 r q) = acc (ix2 r q) + ∑ k : Fin 512, a (ix2 r k) * w (ix3 0 k q) := by
  pointwise [k0_pay1]

/-- Where the windows stand. -/
theorem places : ∀ t : Fin grid0.N, win0_0.index t = ![t.val / 11, t.val % 11] ∧ win0_1.index t = ![0, t.val % 11, 0]
    ∧ win0_2.index t = ![t.val / 11, 0] ∧ win0_3.index t = ![t.val / 11, 0] := by decide +kernel

variable (m : (ℓ : Loc nD τ sig) → Buf (Elt Ideal) ℓ) (c : Dev nD)

/-- The three arguments. -/
abbrev rows : FVec Ideal ⟨2, ![8192, 5632]⟩ .bf16 := m ((c : Thread nD τ).loc main_arg0)
abbrev weight : FVec Ideal ⟨3, ![2, 5632, 2048]⟩ .f32 := m ((c : Thread nD τ).loc main_arg1)
abbrev rest : FVec Ideal ⟨2, ![8192, 2048]⟩ .f32 := m ((c : Thread nD τ).loc main_arg2)

theorem rows_at (t : Fin cfg0.N) (r : Fin 1024) (k : Fin 512) (i : Fin 8192) (l : Fin 5632)
    (hi : i.val = t.val / 11 * 1024 + r.val) (hl : l.val = t.val % 11 * 512 + k.val) :
    iblk m c 0 t (ix2 r k) = rows m c (ix2 i l) := by
  have hp := places t
  blk_ext [iblk, V, hp]

theorem weight_at (t : Fin cfg0.N) (k : Fin 512) (q : Fin 2048) (l : Fin 5632)
    (hl : l.val = t.val % 11 * 512 + k.val) : iblk m c 1 t (ix3 0 k q) = weight m c (ix3 0 l q) := by
  have hp := places t
  blk_ext [iblk, V, hp]

theorem rest_at (t : Fin cfg0.N) (r : Fin 1024) (q : Fin 2048) (i : Fin 8192)
    (hi : i.val = t.val / 11 * 1024 + r.val) : iblk m c 2 t (ix2 r q) = rest m c (ix2 i q) := by
  have hp := places t
  blk_ext [iblk, V, hp]

/-- The result array after the run. -/
theorem array_eq : (dats m 0 c).arrAt 3 cfg0.N = result (rows m c) (weight m c) (rest m c) := by
  refine (dats m 0 c).arrAt_eq_of_covers 3 _ (by decide +kernel) fun t hf y => ?_
  have hp := places t
  blk_simp
  have ht : t.val < 88 := t.isLt
  have hm : t.val % 11 = 10 := (flush0_3 t).mp hf
  have hN : cfg0.N = 88 := N_0
  rw [after0_3, Cert.FfnDownIdeal.Value.outsAt_3_eq]
  have row : ∀ r : Fin 1024, t.val / 11 * 1024 + r.val < 8192 := fun r => by omega
  refine (fold_whole (J := 11) (L := 5632) (n := 512) (Cert.FfnDownIdeal.Value.reset3 m c)
    (Cert.FfnDownIdeal.Value.step3 m c) (11 * (t.val / 11)) rfl
    (fun y => rest m c (ix2 ⟨t.val / 11 * 1024 + (y 0).val, row (y 0)⟩ (y 1)))
    (fun y k => rows m c (ix2 ⟨t.val / 11 * 1024 + (y 0).val, row (y 0)⟩ k) * weight m c (ix3 0 k (y 1)))
    (fun h y hl => ?_) (fun s h acc y hl hs hs' => ?_) (t.val % 11) (by omega) (by omega) y).trans ?_
  · rw [← ix2_eta y]
    refine (step_at _ _ _ _ _).trans (congrArg₂ (· + ·) (rest_at m c _ _ _ _ ?_)
      (Finset.sum_congr rfl fun k _ => congrArg₂ (· * ·) (rows_at m c _ _ _ _ _ ?_ ?_) (weight_at m c _ _ _ _ ?_))) <;>
      simp <;> omega
  · rw [← ix2_eta y]
    refine (step_at _ _ _ _ _).trans (congrArg₂ (· + ·) rfl
      (Finset.sum_congr rfl fun k _ => congrArg₂ (· * ·) (rows_at m c _ _ _ _ _ ?_ ?_) (weight_at m c _ _ _ _ ?_))) <;>
      simp <;> omega
  · show _ = result (rows m c) (weight m c) (rest m c) (((cfg0.win 3).blk t).view.emb y)
    have e : ((cfg0.win 3).blk t).view.emb y = ix2 ⟨t.val / 11 * 1024 + (y 0).val, row (y 0)⟩ (y 1) := by
      blk_ext [hp]
    rw [e]
    rfl

theorem ref_eq (x0 : FVec Ideal ⟨2, ![8192, 5632]⟩ .bf16) (x1 : FVec Ideal ⟨3, ![2, 5632, 2048]⟩ .f32)
    (x2 : FVec Ideal ⟨2, ![8192, 2048]⟩ .f32) :
    Cert.FfnDownRefIdeal.Read.val_main_v4 (F := Ideal) x0 x1 x2 = result x0 x1 x2 := by
  funext i
  rw [← ix2_eta i]
  pointwise [Cert.FfnDownRefIdeal.Read.val_main_v4, Cert.FfnDownRefIdeal.Read.val_main_v3,
    Cert.FfnDownRefIdeal.Read.val_main_v2, Cert.FfnDownRefIdeal.Read.val_main_v1,
    Cert.FfnDownRefIdeal.Read.val_main_v0, result]

/-- The three programs run and leave their arguments as they were. -/
theorem frame_ffn : Cert.quiescent_FfnDown := fun m ρ _ => Cert.FfnDown.Gen.frame m ρ
theorem frame_ideal : Cert.quiescent_FfnDownIdeal := fun m ρ _ => Cert.FfnDownIdeal.Gen.frame m ρ
theorem frame_ref : Cert.quiescent_FfnDownRefIdeal := fun m ρ _ =>
  (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- The call leaves what the plain product and sum leave. -/
theorem value : Cert.algebraic_FfnDownIdeal_FfnDownRefIdeal := by
  intro m ρ m' ρ' _ hagree
  refine ⟨fun c => (Cert.FfnDownIdeal.Gen.dats m 0 c).arrAt 3 Cert.FfnDownIdeal.cfg0.N,
    Cert.FfnDownIdeal.Value.run_blocks m ρ,
    (θ_run Cert.FfnDownRefIdeal.defs _ _).mono (fun r h c => ⟨?_, (h c).2⟩) (Cert.FfnDownRefIdeal.Value.run (F := Ideal) m' ρ')⟩
  obtain ⟨e0, e1, e2⟩ := hagree c
  refine (h c).1.trans ?_
  rw [Cert.FfnDownRefIdeal.Read.val_main_v4_eq, ref_eq, e0, e1, e2]
  exact (array_eq m c).symm

end Cert.Proof.Down.Ffn

end
-- ==== Proof.Down.Last.lean ====
/-
  The down projection of the second feed-forward part with the last norm: what its call leaves in the result.
-/
module

public import proofs.«01_k».proof.Defs
public import proofs.«01_k».proof.Proof.Down.Fold
public import proofs.«01_k».proof.Proof.Down.Norm
public import proofs.«01_k».proof.Proof.Gen.FfnDownN.Frame
public import proofs.«01_k».proof.Proof.Gen.FfnDownNIdeal.Value
public import proofs.«01_k».proof.Proof.Gen.FfnDownNRefIdeal.Run
public import proofs.«01_k».proof.Proof.Gen.FfnDownNRefIdeal.Read
public import Idealize.ShloMosaic.Lib.Pointwise
public import Idealize.ShloMosaic.Lib.StableHlo.ReadAt
public import Idealize.ShloMosaic.Lib.Quiescent

@[expose] public section

set_option maxRecDepth 16384

noncomputable section

namespace Cert.Proof.Down.Last

open Idealize.ShloMosaic Idealize.ShloMosaic.TcCoe Idealize.SL.Sem
open Cert.FfnDownNIdeal Cert.FfnDownNIdeal.Gen

/-- The residual rows and the product with the second of the two weights, -/
def total (x0 : FVec Ideal ⟨2, ![8192, 5632]⟩ .bf16) (x1 : FVec Ideal ⟨3, ![2, 5632, 2048]⟩ .f32)
    (x2 : FVec Ideal ⟨2, ![8192, 2048]⟩ .f32) (i : Fin 8192) (q : Fin 2048) : EReal :=
  x2 (ix2 i q) + ∑ k : Fin 5632, x0 (ix2 i k) * x1 (ix3 1 k q)

/-- … normed row by row. -/
def result (x0 : FVec Ideal ⟨2, ![8192, 5632]⟩ .bf16) (x1 : FVec Ideal ⟨3, ![2, 5632, 2048]⟩ .f32)
    (x2 : FVec Ideal ⟨2, ![8192, 2048]⟩ .f32) (x3 : FVec Ideal ⟨1, ![2048]⟩ .f32) (i : S8192x2048.Idx) : EReal :=
  normed (total x0 x1 x2 (i 0)) (fun q => x3 (ix1 q)) (i 1)

/-- One point's contribution. -/
theorem step_at (acc : Vec Ideal S1024x2048 .f32) (a : Vec Ideal S1024x512 .bf16) (w : Vec Ideal S1x512x2048 .f32)
    (r : Fin 1024) (q : Fin 2048) :
    k0_pay1 (F := Ideal) acc a w (ix2 r q) = acc (ix2 r q) + ∑ k : Fin 512, a (ix2 r k) * w (ix3 0 k q) := by
  pointwise [k0_pay1]

/-- What the last point of a run makes of its rows. -/
theorem last_at (x : Vec Ideal S1024x2048 .f32) (w : Vec Ideal S1x2048 .f32) (r : Fin 1024) (q : Fin 2048) :
    k0_pay2 (F := Ideal) x w (ix2 r q) = normed (fun k => x (ix2 r k)) (fun k => w (ix2 0 k)) q := by
  pointwise [k0_pay2, normed]

/-- Where the windows stand. -/
theorem places : ∀ t : Fin grid0.N, win0_0.index t = ![t.val / 11, t.val % 11] ∧ win0_1.index t = ![1, t.val % 11, 0]
    ∧ win0_2.index t = ![t.val / 11, 0] ∧ win0_3.index t = ![0, 0] ∧ win0_4.index t = ![t.val / 11, 0] := by
  decide +kernel

variable (m : (ℓ : Loc nD τ sig) → Buf (Elt Ideal) ℓ) (c : Dev nD)

/-- The three arguments. -/
abbrev rows : FVec Ideal ⟨2, ![8192, 5632]⟩ .bf16 := m ((c : Thread nD τ).loc main_arg0)
abbrev weight : FVec Ideal ⟨3, ![2, 5632, 2048]⟩ .f32 := m ((c : Thread nD τ).loc main_arg1)
abbrev rest : FVec Ideal ⟨2, ![8192, 2048]⟩ .f32 := m ((c : Thread nD τ).loc main_arg2)
abbrev gain : FVec Ideal ⟨1, ![2048]⟩ .f32 := m ((c : Thread nD τ).loc main_arg3)

theorem rows_at (t : Fin cfg0.N) (r : Fin 1024) (k : Fin 512) (i : Fin 8192) (l : Fin 5632)
    (hi : i.val = t.val / 11 * 1024 + r.val) (hl : l.val = t.val % 11 * 512 + k.val) :
    iblk m c 0 t (ix2 r k) = rows m c (ix2 i l) := by
  have hp := places t
  blk_ext [iblk, V, hp]

theorem weight_at (t : Fin cfg0.N) (k : Fin 512) (q : Fin 2048) (l : Fin 5632)
    (hl : l.val = t.val % 11 * 512 + k.val) : iblk m c 1 t (ix3 0 k q) = weight m c (ix3 1 l q) := by
  have hp := places t
  blk_ext [iblk, V, hp]

theorem rest_at (t : Fin cfg0.N) (r : Fin 1024) (q : Fin 2048) (i : Fin 8192)
    (hi : i.val = t.val / 11 * 1024 + r.val) : iblk m c 2 t (ix2 r q) = rest m c (ix2 i q) := by
  have hp := places t
  blk_ext [iblk, V, hp]

/-- The norm's weight, a row of its own. -/
theorem gain_at (t : Fin cfg0.N) (q : Fin 2048) : iblk m c 3 t (ix2 0 q) = gain m c (ix1 q) := by
  have hp := places t
  have e : V m c (Pipeline.arrRef spec0 3) (ix2 0 q) = gain m c (ix1 q) := by
    show StableHlo.after hostOps0 _ (Proc.devRef .tc main_v0) _ = _
    after_reads_at
  refine Eq.trans ?_ e
  unfold iblk
  refine congrArg (V m c (Pipeline.arrRef spec0 3)) ?_
  blk_ext [hp]

/-- The rows a run gathers, before its last point's norm. -/
theorem gathered (t : Fin cfg0.N) (hm : t.val % 11 = 10) (r : Fin 1024) (q : Fin 2048) (i : Fin 8192)
    (hi : i.val = t.val / 11 * 1024 + r.val) :
    k0_pay1 (F := Ideal) (Pipeline.accAt (Cert.FfnDownNIdeal.Value.reset4 m c) (Cert.FfnDownNIdeal.Value.step4 m c)
        (11 * (t.val / 11)) 9 (by have := t.isLt; omega)) (iblk m c 0 t) (iblk m c 1 t) (ix2 r q)
      = total (rows m c) (weight m c) (rest m c) i q := by
  have ht : t.val < 88 := t.isLt
  have hN : cfg0.N = 88 := N_0
  have row : ∀ r : Fin 1024, t.val / 11 * 1024 + r.val < 8192 := fun r => by omega
  obtain rfl : i = ⟨t.val / 11 * 1024 + r.val, row r⟩ := Fin.ext hi
  have part := fold_part (J := 10) (L := 5632) (n := 512) (Cert.FfnDownNIdeal.Value.reset4 m c)
    (Cert.FfnDownNIdeal.Value.step4 m c) (11 * (t.val / 11)) (by decide)
    (fun y => rest m c (ix2 ⟨t.val / 11 * 1024 + (y 0).val, row (y 0)⟩ (y 1)))
    (fun y k => rows m c (ix2 ⟨t.val / 11 * 1024 + (y 0).val, row (y 0)⟩ k)
      * weight m c (ix3 1 k (y 1)))
    (fun h y hl => ?_) (fun s h acc y hl hs hs' => ?_) 9 (by omega) (by omega) (ix2 r q)
  · rw [step_at, part, add_assoc]
    refine congrArg (rest m c (ix2 _ q) + ·) ?_
    refine Eq.trans ?_ (stretches (J := 11) (L := 5632) (n := 512) rfl fun k => rows m c (ix2 ⟨_, row r⟩ k) * weight m c (ix3 1 k q))
    rw [Finset.sum_range_succ _ 10]
    refine congrArg (_ + ·) (Finset.sum_congr rfl fun k _ => ?_)
    rw [dif_pos (by omega)]
    refine congrArg₂ (· * ·) (rows_at m c _ _ _ _ _ ?_ ?_) (weight_at m c _ _ _ _ ?_) <;> simp <;> omega
  · rw [← ix2_eta y]
    refine (step_at _ _ _ _ _).trans (congrArg₂ (· + ·) (rest_at m c _ _ _ _ ?_)
      (Finset.sum_congr rfl fun k _ => congrArg₂ (· * ·) (rows_at m c _ _ _ _ _ ?_ ?_) (weight_at m c _ _ _ _ ?_))) <;>
      simp <;> omega
  · rw [← ix2_eta y]
    unfold Cert.FfnDownNIdeal.Value.step4
    rw [if_pos (by omega)]
    refine (step_at _ _ _ _ _).trans (congrArg₂ (· + ·) rfl
      (Finset.sum_congr rfl fun k _ => congrArg₂ (· * ·) (rows_at m c _ _ _ _ _ ?_ ?_) (weight_at m c _ _ _ _ ?_))) <;>
      simp <;> omega

/-- The result array after the run. -/
theorem array_eq : (dats m 0 c).arrAt 4 cfg0.N = result (rows m c) (weight m c) (rest m c) (gain m c) := by
  refine (dats m 0 c).arrAt_eq_of_covers 4 _ (by decide +kernel) fun t hf y => ?_
  have hp := places t
  blk_simp
  have ht : t.val < 88 := t.isLt
  have hm : t.val % 11 = 10 := (flush0_4 t).mp hf
  have hN : cfg0.N = 88 := N_0
  have row : ∀ r : Fin 1024, t.val / 11 * 1024 + r.val < 8192 := fun r => by omega
  have e : ((cfg0.win 4).blk t).view.emb y = ix2 ⟨t.val / 11 * 1024 + (y 0).val, row (y 0)⟩ (y 1) := by
    blk_ext [hp]
  refine Eq.trans ?_ (congrArg (result (rows m c) (weight m c) (rest m c) (gain m c)) e).symm
  have run : outsAt0 m c t.val t.isLt = k0_pay2 (k0_pay1 (Pipeline.accAt (Cert.FfnDownNIdeal.Value.reset4 m c)
      (Cert.FfnDownNIdeal.Value.step4 m c) (11 * (t.val / 11)) 9 (by have := t.isLt; omega)) (iblk m c 0 t) (iblk m c 1 t))
      (iblk m c 3 t) := by
    have at9 : t.val - 1 = 11 * (t.val / 11) + 9 := by omega
    rw [outsAt0_C m c t (by omega) hm, Cert.FfnDownNIdeal.Value.out_C_4_eq,
      Cert.FfnDownNIdeal.Value.outsAt_4_eq m c ⟨t.val - 1, by omega⟩]
    congr 3 <;> dsimp only <;> omega
  rw [after0_4, run]
  refine (congrArg _ (ix2_eta y).symm).trans ((last_at _ _ (y 0) (y 1)).trans ?_)
  refine congrArg₂ (fun u v => normed u v (y 1)) (funext fun k => gathered m c t hm _ k _ rfl) (funext fun k => gain_at m c t k)

/-- The reference's rows before its norm, -/
theorem ref_total (x0 : FVec Ideal ⟨2, ![8192, 5632]⟩ .bf16) (x1 : FVec Ideal ⟨3, ![2, 5632, 2048]⟩ .f32)
    (x2 : FVec Ideal ⟨2, ![8192, 2048]⟩ .f32) (i : Fin 8192) (q : Fin 2048) :
    Cert.FfnDownNRefIdeal.Read.val_main_v4 (F := Ideal) x0 x1 x2 (ix2 i q) = total x0 x1 x2 i q := by
  pointwise [Cert.FfnDownNRefIdeal.Read.val_main_v4, Cert.FfnDownNRefIdeal.Read.val_main_v3, Cert.FfnDownNRefIdeal.Read.val_main_v2, Cert.FfnDownNRefIdeal.Read.val_main_v1, Cert.FfnDownNRefIdeal.Read.val_main_v0, total]

/-- and after it. -/
theorem ref_at (x0 : FVec Ideal ⟨2, ![8192, 5632]⟩ .bf16) (x1 : FVec Ideal ⟨3, ![2, 5632, 2048]⟩ .f32)
    (x2 : FVec Ideal ⟨2, ![8192, 2048]⟩ .f32) (x3 : FVec Ideal ⟨1, ![2048]⟩ .f32) (i : Fin 8192) (q : Fin 2048) :
    Cert.FfnDownNRefIdeal.Read.val_main_v17 (F := Ideal) x0 x1 x2 x3 (ix2 i q) = result x0 x1 x2 x3 (ix2 i q) := by
  have e := ref_total x0 x1 x2
  unfold Cert.FfnDownNRefIdeal.Read.val_main_v17 Cert.FfnDownNRefIdeal.Read.val_main_v14 Cert.FfnDownNRefIdeal.Read.val_main_v13 Cert.FfnDownNRefIdeal.Read.val_main_v12 Cert.FfnDownNRefIdeal.Read.val_main_v11
    Cert.FfnDownNRefIdeal.Read.val_main_v9 Cert.FfnDownNRefIdeal.Read.val_main_v7 Cert.FfnDownNRefIdeal.Read.val_main_v6 Cert.FfnDownNRefIdeal.Read.val_main_v5
  generalize Cert.FfnDownNRefIdeal.Read.val_main_v4 (F := Ideal) x0 x1 x2 = y at *
  pointwise [Cert.FfnDownNRefIdeal.Read.val_main_cst, Cert.FfnDownNRefIdeal.Read.val_main_v16, Cert.FfnDownNRefIdeal.Read.val_main_v15,
    Cert.FfnDownNRefIdeal.Read.val_main_v8, Cert.FfnDownNRefIdeal.Read.val_main_v10, Cert.FfnDownNRefIdeal.Read.val_main_cst_0,
    Cert.FfnDownNRefIdeal.Read.val_main_cst_1]
  simp only [e]
  rfl

theorem ref_eq (x0 : FVec Ideal ⟨2, ![8192, 5632]⟩ .bf16) (x1 : FVec Ideal ⟨3, ![2, 5632, 2048]⟩ .f32)
    (x2 : FVec Ideal ⟨2, ![8192, 2048]⟩ .f32) (x3 : FVec Ideal ⟨1, ![2048]⟩ .f32) :
    Cert.FfnDownNRefIdeal.Read.val_main_v17 (F := Ideal) x0 x1 x2 x3 = result x0 x1 x2 x3 :=
  funext fun i => by rw [← ix2_eta i]; exact ref_at x0 x1 x2 x3 _ _

/-- The three programs run and leave their arguments as they were. -/
theorem frame_last : Cert.quiescent_FfnDownN := fun m ρ _ => Cert.FfnDownN.Gen.frame m ρ
theorem frame_ideal : Cert.quiescent_FfnDownNIdeal := fun m ρ _ => Cert.FfnDownNIdeal.Gen.frame m ρ
theorem frame_ref : Cert.quiescent_FfnDownNRefIdeal := fun m ρ _ =>
  (θ_run Cert.FfnDownNRefIdeal.defs _ _).mono
    (fun r h => ⟨fun c => (h c).2, Idealize.ShloMosaic.sem_eq_zero_of_no_sems (by decide) r.2⟩)
    (Cert.FfnDownNRefIdeal.Value.run (F := Ideal) m ρ)

/-- The call leaves what the plain product and sum leave. -/
theorem value : Cert.algebraic_FfnDownNIdeal_FfnDownNRefIdeal := by
  intro m ρ m' ρ' _ hagree
  refine ⟨fun c => (Cert.FfnDownNIdeal.Gen.dats m 0 c).arrAt 4 Cert.FfnDownNIdeal.cfg0.N,
    Cert.FfnDownNIdeal.Value.run_blocks m ρ,
    (θ_run Cert.FfnDownNRefIdeal.defs _ _).mono (fun r h c => ⟨?_, (h c).2⟩) (Cert.FfnDownNRefIdeal.Value.run (F := Ideal) m' ρ')⟩
  obtain ⟨e0, e1, e2, e3⟩ := hagree c
  refine (h c).1.trans ?_
  rw [Cert.FfnDownNRefIdeal.Read.val_main_v17_eq, ref_eq, e0, e1, e2, e3]
  exact (array_eq m c).symm

end Cert.Proof.Down.Last

end
-- ==== Proof.Up.Cells.lean ====
module

public import proofs.«01_k».proof.Proof.Gen.FfnUpIdeal.Frame
public import proofs.«01_k».proof.Proof.Gen.FfnUpIdeal.Skeleton
public import Idealize.ShloMosaic.Lib.WritesUnit
public import Idealize.ShloMosaic.Lib.Pipeline.Value
public import Idealize.ShloMosaic.Lib.Pointwise
public import Idealize.ShloMosaic.Lib.Claim

@[expose] public section

set_option maxRecDepth 16384

noncomputable section

namespace Cert.FfnUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnUpIdeal.Gen

variable {F : FTy → Type} [FloatOps F]

local notation "𝕄" => MT nD τ sig Unit (Elt F) ℕ (UR sig nD τ) ℕ

/-- The first `scf.if`'s condition: the column tile is the first. -/
abbrev condJ (i : grid0.Coords) : Prop := (Scalar.cmpi .ne (Scalar.extui (Scalar.cmpi .eq (BitVec.ofNat 32 (i 1).val) 0#32)) 0#32) = 1#1

/-- The carry's row of a point: its column tile's. -/
theorem off2_eq (i : grid0.Coords) : k0_off2 i = ![(i 1).val, 0, 0] := by
  have h : (i 1).val < 11 := (i 1).isLt
  unfold k0_off2
  simp only [Scalar.indexCast]
  refine congrArg (fun n => ![n, 0, 0]) ?_
  simp
  omega

theorem off1_eq (i : grid0.Coords) : k0_off1 i = ![(i 1).val, 0, 0] := off2_eq i

/-- One row of the carry, as the body loads it. -/
def rowOf (i : grid0.Coords) (C : Vec F S11x8x512 .f32) : Vec F S1x8x512 .f32 :=
  fun y => C (ix3 (i 1) (y 1) (y 2))

/-- The carry with one row replaced. -/
def putRow (i : grid0.Coords) (C : Vec F S11x8x512 .f32) (v : Vec F S1x8x512 .f32) : Vec F S11x8x512 .f32 :=
  fun y => if (y 0).val = (i 1).val then v (ix3 0 (y 1) (y 2)) else C y

/-- Eight rows with the tile's rows under them. -/
def joined (p : Vec F S8x512 .f32) (g : Vec F S1024x512 .f32) : Vec F S1032x512 .f32 :=
  fun y => if h : (y 0).val < 8 then p (ix2 ⟨(y 0).val, h⟩ (y 1))
    else g (ix2 ⟨(y 0).val - 8, by have : (y 0).val < 1032 := (y 0).isLt; omega⟩ (y 1))

/-- The tile's rows shifted down by `8 - o` rows, the last of the eight in front. -/
def shifted (o : Fin 9) (p : Vec F S8x512 .f32) (g : Vec F S1024x512 .f32) : Vec F S1024x512 .f32 :=
  fun y => joined p g (ix2 ⟨o.val + (y 0).val, by have : (y 0).val < 1024 := (y 0).isLt; have := o.isLt; omega⟩ (y 1))

theorem read_put {κ : Kind} (a : Memref sig κ .vmem S11x8x512 .f32) (i : grid0.Coords) (f : a.view.ty.Contents (Elt F)) (off : Fin 3 → ℕ)
    (h : off = ![(i 1).val, 0, 0]) (inb) (v : Vec F S1x8x512 .f32) (L) :
    a.view.read (Elt F) (a.view.writes (Elt F) f (⟨Rect.unit (s := S11x8x512) off ![1, 8, 512] inb, v⟩ :: L))
      = putRow i (a.view.read (Elt F) (a.view.writes (Elt F) f L)) v := by
  funext y
  unfold putRow
  by_cases e : (y 0).val = (i 1).val
  · rw [if_pos e]
    refine View.read_writes_cons_unit_of_mem a.view f inb v L y (ix3 0 (y 1) (y 2)) h ?_
    intro ax; fin_cases ax
    · simp [e, ix3]
    · simp [ix3]
    · simp [ix3]
  · rw [if_neg e]
    refine View.read_writes_cons_unit_of_not_mem a.view f inb v L y h 0 ?_
    simp
    omega

theorem ld_row (i : grid0.Coords) (C : Vec F S11x8x512 .f32) (off : Fin 3 → ℕ) (h : off = ![(i 1).val, 0, 0]) (inb) :
    View.ld C (Rect.unit (s := S11x8x512) off ![1, 8, 512] inb) = rowOf i C := by
  subst h
  funext y
  refine congrArg C (funext fun a => Fin.ext ?_)
  fin_cases a
  · have : (y 0).val < 1 := (y 0).isLt
    simp [Rect.unit, ix3]; omega
  · simp [Rect.unit, ix3]
  · simp [Rect.unit, ix3]

theorem row_put (i : grid0.Coords) (C : Vec F S11x8x512 .f32) (v : Vec F S1x8x512 .f32) : rowOf i (putRow i C v) = v := by
  funext y
  refine (if_pos rfl : rowOf i (putRow i C v) y = v (ix3 0 (y 1) (y 2))).trans (congrArg v (funext fun a => Fin.ext ?_))
  fin_cases a
  · have : (y 0).val < 1 := (y 0).isLt
    simp [ix3]; omega
  · simp [ix3]
  · simp [ix3]

theorem put_put (i : grid0.Coords) (C : Vec F S11x8x512 .f32) (v w : Vec F S1x8x512 .f32) :
    putRow i (putRow i C v) w = putRow i C w := by
  funext y
  unfold putRow
  by_cases e : (y 0).val = (i 1).val
  · rw [if_pos e, if_pos e]
  · rw [if_neg e, if_neg e, if_neg e]

theorem read_joined {κ : Kind} (a : Memref sig κ .vmem S1032x512 .f32) (f : a.view.ty.Contents (Elt F)) (inb inb')
    (p : Vec F S8x512 .f32) (g : Vec F S1024x512 .f32) :
    a.view.read (Elt F) (a.view.writes (Elt F) f [⟨Rect.unit (s := S1032x512) ![8, 0] ![1024, 512] inb, g⟩,
        ⟨Rect.unit (s := S1032x512) ![0, 0] ![8, 512] inb', p⟩]) = joined p g := by
  funext y
  unfold joined
  have hy : (y 0).val < 1032 := (y 0).isLt
  by_cases e : (y 0).val < 8
  · rw [dif_pos e, View.read_writes_cons_unit_of_not_mem a.view f inb g _ y rfl 0 (Or.inl e)]
    exact View.read_writes_cons_unit_of_mem a.view f inb' p _ y (ix2 ⟨(y 0).val, e⟩ (y 1)) rfl
      (Fin.forall_fin_two.mpr ⟨by simp [ix2], by simp [ix2]⟩)
  · rw [dif_neg e]
    exact View.read_writes_cons_unit_of_mem a.view f inb g _ y (ix2 ⟨(y 0).val - 8, by omega⟩ (y 1)) rfl
      (Fin.forall_fin_two.mpr ⟨by simp [ix2]; omega, by simp [ix2]⟩)

theorem ld_shifted (o : Fin 9) (p : Vec F S8x512 .f32) (g : Vec F S1024x512 .f32) (inb) :
    View.ld (joined p g) (Rect.unit (s := S1032x512) ![o.val, 0] ![1024, 512] inb) = shifted o p g := by
  funext y
  refine congrArg (joined p g) (funext fun a => Fin.ext ?_)
  fin_cases a
  · simp [Rect.unit, ix2]
  · simp [Rect.unit, ix2]

theorem cov_row {κ : Kind} (a : Memref sig κ .vmem S11x8x512 .f32) (i : grid0.Coords) (off off' : Fin 3 → ℕ) (h : off = ![(i 1).val, 0, 0])
    (h' : off' = ![(i 1).val, 0, 0]) (inb inb') (v : Vec F S1x8x512 .f32) :
    a.view.readCov [⟨Rect.unit (s := S11x8x512) off ![1, 8, 512] inb, v⟩] (Rect.unit (s := S11x8x512) off' ![1, 8, 512] inb').toLoadRect = v := by
  unfold View.readCov
  rw [View.readAt_eq_ld, ld_row i _ off' h' inb', read_put a i _ off h inb v [], row_put]

theorem cov_joined {κ : Kind} (a : Memref sig κ .vmem S1032x512 .f32) (o : Fin 9) (inb inb') (p : Vec F S8x512 .f32) (g : Vec F S1024x512 .f32) (inb'') :
    a.view.readCov [⟨Rect.unit (s := S1032x512) ![8, 0] ![1024, 512] inb, g⟩, ⟨Rect.unit (s := S1032x512) ![0, 0] ![8, 512] inb', p⟩]
      (Rect.unit (s := S1032x512) ![o.val, 0] ![1024, 512] inb'').toLoadRect = shifted o p g := by
  unfold View.readCov
  rw [View.readAt_eq_ld, read_joined a _ inb inb' p g, ld_shifted o p g inb'']

theorem cov_six {κ : Kind} (a : Memref sig κ .vmem S1032x512 .f32) (inb inb') (p : Vec F S8x512 .f32) (g : Vec F S1024x512 .f32) (inb'') :
    a.view.readCov [⟨Rect.unit (s := S1032x512) ![8, 0] ![1024, 512] inb, g⟩, ⟨Rect.unit (s := S1032x512) ![0, 0] ![8, 512] inb', p⟩]
      (Rect.unit (s := S1032x512) ![6, 0] ![1024, 512] inb'').toLoadRect = shifted 6 p g := cov_joined a 6 inb inb' p g inb''
theorem cov_seven {κ : Kind} (a : Memref sig κ .vmem S1032x512 .f32) (inb inb') (p : Vec F S8x512 .f32) (g : Vec F S1024x512 .f32) (inb'') :
    a.view.readCov [⟨Rect.unit (s := S1032x512) ![8, 0] ![1024, 512] inb, g⟩, ⟨Rect.unit (s := S1032x512) ![0, 0] ![8, 512] inb', p⟩]
      (Rect.unit (s := S1032x512) ![7, 0] ![1024, 512] inb'').toLoadRect = shifted 7 p g := cov_joined a 7 inb inb' p g inb''

theorem whole2 : (![0, 0] : Fin 2 → ℕ) = fun _ => 0 := by funext a; fin_cases a <;> rfl
theorem whole3 : (![0, 0, 0] : Fin 3 → ℕ) = fun _ => 0 := by funext a; fin_cases a <;> rfl

section Whole
variable {e : EltTy} {κ : Kind}

theorem ld_h (x : Vec F S1024x2048 e) (inb) : View.ld x (Rect.unit (s := S1024x2048) ![0, 0] ![1024, 2048] inb) = x :=
  View.ld_unit_zero (S := S1024x2048) whole2 inb x
theorem ld_nw (x : Vec F S1x2048 e) (inb) : View.ld x (Rect.unit (s := S1x2048) ![0, 0] ![1, 2048] inb) = x :=
  View.ld_unit_zero (S := S1x2048) whole2 inb x
theorem ld_w (x : Vec F S1x2048x512 e) (inb) : View.ld x (Rect.unit (s := S1x2048x512) ![0, 0, 0] ![1, 2048, 512] inb) = x :=
  View.ld_unit_zero (S := S1x2048x512) whole3 inb x
theorem ld_cw (x : Vec F S3x512 e) (inb) : View.ld x (Rect.unit (s := S3x512) ![0, 0] ![3, 512] inb) = x :=
  View.ld_unit_zero (S := S3x512) whole2 inb x
theorem ld_cb (x : Vec F S1x512 e) (inb) : View.ld x (Rect.unit (s := S1x512) ![0, 0] ![1, 512] inb) = x :=
  View.ld_unit_zero (S := S1x512) whole2 inb x
theorem read_h (a : Memref sig κ .vmem S1024x2048 e) (f : a.view.ty.Contents (Elt F)) (x : Vec F S1024x2048 e) (inb) :
    a.view.read (Elt F) (a.view.writes (Elt F) f [⟨Rect.unit (s := S1024x2048) ![0, 0] ![1024, 2048] inb, x⟩]) = x :=
  funext fun y => View.read_writes_cons_unit_of_mem a.view f inb x [] y y rfl (Fin.forall_fin_two.mpr ⟨by simp, by simp⟩)
theorem cov_h (a : Memref sig κ .vmem S1024x2048 e) (x : Vec F S1024x2048 e) (inb inb') :
    a.view.readCov [⟨Rect.unit (s := S1024x2048) ![0, 0] ![1024, 2048] inb, x⟩]
      (Rect.unit (s := S1024x2048) ![0, 0] ![1024, 2048] inb').toLoadRect = x := by
  unfold View.readCov
  rw [View.readAt_eq_ld, read_h a _ x inb, ld_h]
theorem read_act (a : Memref sig κ .vmem S1024x512 e) (f : a.view.ty.Contents (Elt F)) (x : Vec F S1024x512 e) (inb) :
    a.view.read (Elt F) (a.view.writes (Elt F) f [⟨Rect.unit (s := S1024x512) ![0, 0] ![1024, 512] inb, x⟩]) = x :=
  funext fun y => View.read_writes_cons_unit_of_mem a.view f inb x [] y y rfl (Fin.forall_fin_two.mpr ⟨by simp, by simp⟩)
theorem read_st (a : Memref sig κ .vmem S1x8x512 e) (f : a.view.ty.Contents (Elt F)) (x : Vec F S1x8x512 e) (inb) :
    a.view.read (Elt F) (a.view.writes (Elt F) f [⟨Rect.unit (s := S1x8x512) ![0, 0, 0] ![1, 8, 512] inb, x⟩]) = x :=
  funext fun y => View.read_writes_cons_unit_of_mem a.view f inb x [] y y rfl (by intro k; fin_cases k <;> simp)

end Whole

theorem off_raw (i : grid0.Coords) :
    (![BitVec.toNat (Scalar.indexCast (BitVec.ofNat 32 (i 1).val) : Index), 0, 0] : Fin 3 → ℕ) = ![(i 1).val, 0, 0] := off2_eq i

/-- The tile's product with the first weights, as the body leaves it in its registers. -/
abbrev gOf (h : Vec F S1024x2048 .bf16) (x2 : Vec F S1x2048x512 .f32) : FVec F S1024x512 .f32 := k0_pay6 h x2

/-- What the body stores in the first result's tile. -/
def actOf (h : Vec F S1024x2048 .bf16) (p : Vec F S1x8x512 .f32) (x2 x3 : Vec F S1x2048x512 .f32) (x4 : Vec F S3x512 .f32)
    (x5 : Vec F S1x512 .f32) : FVec F S1024x512 .bf16 :=
  k0_pay1 (k0_pay6 h x2) (k0_pay7 h x3) x4 (k0_pay10 x4 (shifted 6 (k0_pay8 p) (k0_pay9 h x2))) (k0_pay11 x4)
    (shifted 7 (k0_pay8 p) (k0_pay9 h x2)) x5

end Cert.FfnUpIdeal.Hand
end
-- ==== Proof.Up.Run.lean ====
module

public import proofs.«01_k».proof.Proof.Gen.FfnUpIdeal.Frame
public import proofs.«01_k».proof.Proof.Gen.FfnUpIdeal.Skeleton
public import proofs.«01_k».proof.Proof.Up.Cells
public import Idealize.ShloMosaic.Lib.WritesUnit
public import Idealize.ShloMosaic.Lib.Pipeline.Value
public import Idealize.ShloMosaic.Lib.Pointwise
public import Idealize.ShloMosaic.Lib.Claim

@[expose] public section

set_option maxRecDepth 16384

noncomputable section

namespace Cert.FfnUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnUpIdeal.Gen

variable {F : FTy → Type} [FloatOps F]

local notation "𝕄" => MT nD τ sig Unit (Elt F) ℕ (UR sig nD τ) ℕ

set_option maxHeartbeats 2000000 in
theorem run (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x8x512 .f32) (harg9 : arg9.IsWhole) (arg10 : Memref sig .tc .vmem S1024x2048 .bf16) (harg10 : arg10.IsWhole) (arg11 : Memref sig .tc .vmem S11x8x512 .f32) (harg11 : arg11.IsWhole) (arg12 : Memref sig .tc .vmem S1032x512 .f32) (harg12 : arg12.IsWhole)
    (x0 : Vec F S1024x2048 .f32) (x1 : Vec F S1x2048 .f32) (x2 x3 : Vec F S1x2048x512 .f32) (x4 : Vec F S3x512 .f32) (x5 : Vec F S1x512 .f32) (h : Vec F S1024x2048 .bf16) (C : Vec F S11x8x512 .f32)
    (p : Vec F S1x8x512 .f32) (h' : Vec F S1024x2048 .bf16)
    (eh : h' = if condJ i then k0_pay4 x0 x1 else h) (ep : p = if k0_cond2 i = 1#1 then k0_pay5 else rowOf i C) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare h ∗ owns (c : Thread nD τ) arg11 fullShare C ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (actOf h' p x2 x3 x4 x5) ∗ owns (c : Thread nD τ) arg9 fullShare (k0_pay3 (gOf h' x2)) ∗ owns (c : Thread nD τ) arg10 fullShare h' ∗ owns (c : Thread nD τ) arg11 fullShare (putRow i C (k0_pay2 (gOf h' x2))) ∗ (∃ d, owns (c : Thread nD τ) arg12 fullShare d)) -∗ K ⟨⟩))
          ⊢ wp frame (wpE (defs₀ (F := F)) Variants.none c none) E (cc0_ffn_up_seq i arg2 harg2 arg3 harg3 arg4 harg4 arg5 harg5 arg6 harg6 arg7 harg7 arg8 harg8 arg9 harg9 arg10 harg10 arg11 harg11 arg12 harg12) K := by
    by_cases hj : condJ i <;> by_cases hi : k0_cond2 i = 1#1
    all_goals
      first | rw [if_pos hj] at eh | rw [if_neg hj] at eh
      first | rw [if_pos hi] at ep | rw [if_neg hi] at ep
      subst eh ep
      simp only [cc0_ffn_up_seq_eq_skeleton, k0_part1_eq_skeleton]; unfold cc0_ffn_up_seq_skel; simp only [k0_part1_eq_skeleton]; unfold k0_part1_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%d8, %f8, -, HS2⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
      sl_exec (disch := first | sl_exact hj | sl_exact hi)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr
        swap; · iexact H6
        ipureintro
        sl_unfold_run_names
        dsimp only
        simp only [View.readAt_eq_ld, harg2.read_unread, harg3.read_unread, harg4.read_unread, harg5.read_unread, harg6.read_unread,
          harg7.read_unread, harg10.read_unread, harg11.read_unread, ld_h, ld_nw, ld_w, ld_cw, ld_cb, cov_h,
          cov_six, cov_seven, cov_row (F := F) _ i _ _ (off1_eq i) (off2_eq i), ld_row (F := F) i _ _ (off2_eq i),
          read_h, read_act, read_st]
        rfl
      isplitl [H7]
      · iexists _; isplitr
        swap; · iexact H7
        ipureintro
        sl_unfold_run_names
        dsimp only
        simp only [View.readAt_eq_ld, harg2.read_unread, harg3.read_unread, harg4.read_unread, harg5.read_unread, harg6.read_unread,
          harg7.read_unread, harg10.read_unread, harg11.read_unread, ld_h, ld_nw, ld_w, ld_cw, ld_cb, cov_h,
          cov_six, cov_seven, cov_row (F := F) _ i _ _ (off1_eq i) (off2_eq i), ld_row (F := F) i _ _ (off2_eq i),
          read_h, read_act, read_st]
      isplitl [HS0]
      · iexists _; isplitr
        swap; · iexact HS0
        ipureintro
        sl_unfold_run_names
        dsimp only
        simp only [View.readAt_eq_ld, harg2.read_unread, harg3.read_unread, harg4.read_unread, harg5.read_unread, harg6.read_unread,
          harg7.read_unread, harg10.read_unread, harg11.read_unread, ld_h, ld_nw, ld_w, ld_cw, ld_cb, cov_h,
          cov_six, cov_seven, cov_row (F := F) _ i _ _ (off1_eq i) (off2_eq i), ld_row (F := F) i _ _ (off2_eq i),
          read_h, read_act, read_st]
      isplitl [HS1]
      · iexists _; isplitr
        swap; · iexact HS1
        ipureintro
        sl_unfold_run_names
        dsimp only
        simp only [View.readAt_eq_ld, harg2.read_unread, harg3.read_unread, harg4.read_unread, harg5.read_unread, harg6.read_unread,
          harg7.read_unread, harg10.read_unread, harg11.read_unread, ld_h, ld_nw, ld_w, ld_cw, ld_cb, cov_h,
          cov_six, cov_seven, cov_row (F := F) _ i _ _ (off1_eq i) (off2_eq i), ld_row (F := F) i _ _ (off2_eq i),
          read_h, read_act, read_st]
        rw [read_put (F := F) arg11 i _ _ (off2_eq i)]
        try rw [read_put (F := F) arg11 i _ _ (off1_eq i), put_put]
        rw [View.writes_nil, hfs1]
      iexists _, _; isplitr
      swap; · iexact HS2
      ipureintro; rfl

end Cert.FfnUpIdeal.Hand
end
-- ==== Proof.Up.Frame.lean ====
module

public import proofs.«01_k».proof.Proof.Up.Run

@[expose] public section

set_option maxRecDepth 16384

noncomputable section

namespace Cert.FfnUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

theorem lt_N (t : Fin cfg0.N) : t.val < 88 := Nat.lt_of_lt_of_eq t.isLt N_0

/-- The column tile of a point. -/
theorem col_val (t : Fin cfg0.N) : (grid0.coords t 1).val = t.val % 11 := by
  have h : (grid0.coords t 1).val = t.val / 1 % 11 := Pipeline.Grid.coords_val t 1 (by decide) rfl
  rwa [Nat.div_one] at h

theorem row_val (t : Fin cfg0.N) : (grid0.coords t 0).val = t.val / 11 := by
  have h : (grid0.coords t 0).val = t.val / 11 % 8 := Pipeline.Grid.coords_val t 0 (by decide) rfl
  have := lt_N t
  omega

/-- The first branch is taken at a row tile's first column tile. -/
theorem condJ_iff (t : Fin cfg0.N) : condJ (grid0.coords t) ↔ t.val % 11 = 0 := by
  have ht := lt_N t
  have e1 := col_val t
  simp only [condJ, e1]
  word_cmp

/-- The second branch is taken in the first row tile. -/
theorem cond2_iff (t : Fin cfg0.N) : k0_cond2 (grid0.coords t) = 1#1 ↔ t.val < 11 := by
  have ht := lt_N t
  have e0 := row_val t
  unfold k0_cond2
  simp only [e0]
  refine Iff.trans (b := t.val / 11 = 0) ?_ (by omega)
  have h8 : t.val / 11 < 8 := by omega
  generalize t.val / 11 = k at h8
  interval_cases k <;> decide

/-! ## What the buffers hold -/

/-- The first point of a point's row tile. -/
def first (t : Fin cfg0.N) : Fin cfg0.N := ⟨t.val - t.val % 11, Nat.lt_of_le_of_lt (Nat.sub_le _ _) t.isLt⟩

/-- The normed rows of a point's row tile, stored at the tile's first point. -/
def hAt (c : Dev nD) (t : Fin cfg0.N) : Vec F S1024x2048 .bf16 := k0_pay4 (iblk m c 0 (first t)) (iblk m c 1 (first t))

/-- The first product's tile at a point. -/
def gAt (c : Dev nD) (t : Fin cfg0.N) : Vec F S1024x512 .f32 := gOf (hAt m c t) (iblk m c 2 t)

/-- What the carry's row holds when a point reads it: zeros in the first row tile, then the last rows of the row tile before. -/
def pAt (c : Dev nD) (t : Fin cfg0.N) : Vec F S1x8x512 .f32 :=
  if t.val < 11 then k0_pay5 else k0_pay2 (gAt m c ⟨t.val - 11, Nat.lt_of_le_of_lt (Nat.sub_le _ _) t.isLt⟩)

/-- What a point leaves in the first result's tile. -/
def actAt (c : Dev nD) (t : Fin cfg0.N) : Vec F S1024x512 .bf16 :=
  actOf (hAt m c t) (pAt m c t) (iblk m c 2 t) (iblk m c 3 t) (iblk m c 4 t) (iblk m c 5 t)

/-- What a point leaves in the second result's tile. -/
def stAt (c : Dev nD) (t : Fin cfg0.N) : Vec F S1x8x512 .f32 := k0_pay3 (gAt m c t)

/-- Inside a row tile the first scratch holds the tile's normed rows. -/
def goodH (c : Dev nD) (n : ℕ) (h : Vec F S1024x2048 .bf16) : Prop :=
  ∀ p : Fin cfg0.N, p.val + 1 = n → n % 11 ≠ 0 → h = hAt m c p

/-- Each of the last eleven points' rows of the carry holds the last rows of its product. -/
def goodC (c : Dev nD) (n : ℕ) (C : Vec F S11x8x512 .f32) : Prop :=
  ∀ p : Fin cfg0.N, p.val < n → n ≤ p.val + 11 → ∀ y : S11x8x512.Idx, (y 0).val = p.val % 11 →
    C y = k0_pay2 (gAt m c p) (ix3 0 (y 1) (y 2))

theorem goodH_zero (c : Dev nD) (h) : goodH m c 0 h := fun p e _ => absurd e (Nat.succ_ne_zero _)
theorem goodC_zero (c : Dev nD) (C) : goodC m c 0 C := fun p e => absurd e (Nat.not_lt_zero _)

/-- The rows a point computes with, whichever branch it took. -/
theorem h_eq (c : Dev nD) (t : Fin cfg0.N) (h : Vec F S1024x2048 .bf16) (g : goodH m c t.val h) :
    hAt m c t = if condJ (grid0.coords t) then k0_pay4 (iblk m c 0 t) (iblk m c 1 t) else h := by
  by_cases e : t.val % 11 = 0
  · rw [if_pos ((condJ_iff t).mpr e)]
    have : first t = t := Fin.ext (by show t.val - t.val % 11 = t.val; omega)
    unfold hAt
    rw [this]
  · rw [if_neg (fun k => e ((condJ_iff t).mp k))]
    have hp : t.val - 1 < cfg0.N := Nat.lt_of_le_of_lt (Nat.sub_le _ _) t.isLt
    have hz : t.val ≠ 0 := fun k => e (by rw [k])
    have : first t = first ⟨t.val - 1, hp⟩ :=
      Fin.ext (by show t.val - t.val % 11 = (t.val - 1) - (t.val - 1) % 11; omega)
    rw [g ⟨t.val - 1, hp⟩ (by show t.val - 1 + 1 = t.val; omega) e]
    unfold hAt
    rw [this]

/-- The rows in front of the tile a point computes with, whichever branch it took. -/
theorem p_eq (c : Dev nD) (t : Fin cfg0.N) (C : Vec F S11x8x512 .f32) (g : goodC m c t.val C) :
    pAt m c t = if k0_cond2 (grid0.coords t) = 1#1 then k0_pay5 else rowOf (grid0.coords t) C := by
  unfold pAt
  by_cases e : t.val < 11
  · rw [if_pos e, if_pos ((cond2_iff t).mpr e)]
  · rw [if_neg e, if_neg (fun k => e ((cond2_iff t).mp k))]
    funext y
    have hp : t.val - 11 < cfg0.N := Nat.lt_of_le_of_lt (Nat.sub_le _ _) t.isLt
    refine Eq.symm (Eq.trans (g ⟨t.val - 11, hp⟩ (by show t.val - 11 < t.val; omega) (by show t.val ≤ t.val - 11 + 11; omega)
      (ix3 (grid0.coords t 1) (y 1) (y 2)) ((col_val t).trans (by show t.val % 11 = (t.val - 11) % 11; omega))) ?_)
    refine congrArg _ (funext fun a => Fin.ext ?_)
    fin_cases a
    · have : (y 0).val < 1 := (y 0).isLt
      simp [ix3]; omega
    · simp [ix3]
    · simp [ix3]

theorem goodH_succ (c : Dev nD) (t : Fin cfg0.N) : goodH m c (t.val + 1) (hAt m c t) := fun p e _ =>
  congrArg (hAt m c) (Fin.ext (Nat.succ.inj e)).symm

theorem goodC_succ (c : Dev nD) (t : Fin cfg0.N) (C : Vec F S11x8x512 .f32) (g : goodC m c t.val C) :
    goodC m c (t.val + 1) (putRow (grid0.coords t) C (k0_pay2 (gOf (hAt m c t) (iblk m c 2 t)))) := fun p h1 h2 y hy => by
  unfold putRow
  by_cases e : p.val = t.val
  · obtain rfl : p = t := Fin.ext e
    rw [if_pos (hy.trans (col_val p).symm)]
    rfl
  · rw [if_neg fun k => e (by have := (hy.symm.trans k).trans (col_val t); omega)]
    exact g p (by omega) (by omega) y hy

/-! ## The proof data -/

abbrev sc0 : Memref sig .tc .vmem S1024x2048 .bf16 := Memref.whole cc0_scratch0
abbrev sc1 : Memref sig .tc .vmem S11x8x512 .f32 := Memref.whole cc0_scratch1
abbrev sc2 : Memref sig .tc .vmem S1032x512 .f32 := Memref.whole cc0_scratch2

/-- What is kept between points: the scratches with what is known of them, and the generator's register. -/
def Phi (c : Dev nD) (n : ℕ) : sProp 𝕄 :=
  iprop(((∃ h, ⌜goodH m c n h⌝ ∗ owns (c : Thread nD τ) sc0 fullShare h) ∗ (∃ C, ⌜goodC m c n C⌝ ∗ owns (c : Thread nD τ) sc1 fullShare C)
    ∗ (∃ d, owns (c : Thread nD τ) sc2 fullShare d)) ∗ (∃ r, prngReg c r))

theorem PhiA_eq (c : Dev nD) :
    (Pipeline.ΦA spec0 c : sProp 𝕄)
      = iprop(((∃ d, owns (c : Thread nD τ) sc0 fullShare d) ∗ (∃ d, owns (c : Thread nD τ) sc1 fullShare d)
        ∗ (∃ d, owns (c : Thread nD τ) sc2 fullShare d)) ∗ (∃ r, prngReg c r)) := by
  unfold Pipeline.ΦA; rw [scopedRest0_eq]; simp only [sc0, sc1, sc2, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => actAt m c t
    | ⟨7, _⟩ => stAt m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = actAt m c t := by dsimp only [dats]
theorem after7 (c : Dev nD) (t : Fin cfg0.N) : (dats m 0 c).after 7 t = stAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7,
    show (dats m 0 c).Φ t.succ = Phi m c (t.val + 1) from rfl, show (dats m 0 c).Φ t.castSucc = Phi m c t.val from rfl]
  unfold Phi
  iintro ⟨⟨⟨⟨%h, %gh, HS0⟩, ⟨%C, %gC, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ _ _ (iblk m c 0 t) (iblk m c 1 t) (iblk m c 2 t)
    (iblk m c 3 t) (iblk m c 4 t) (iblk m c 5 t) h C (pAt m c t) (hAt m c t) (h_eq m c t h gh) (p_eq m c t C gC) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexists _; isplitr
        swap; · iexact HS0
        ipureintro; exact goodH_succ m c t
      isplitl [HS1]
      · iexists _; isplitr
        swap; · iexact HS1
        ipureintro; exact goodC_succ m c t C gC
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%h, HS0⟩, ⟨%C, HS1⟩, HS2⟩, Hg⟩
  isplitl [HS0 HS1 HS2]
  · isplitl [HS0]
    · iexists h; isplitr
      swap; · iexact HS0
      ipureintro; exact goodH_zero m c h
    isplitl [HS1]
    · iexists C; isplitr
      swap; · iexact HS1
      ipureintro; exact goodC_zero m c C
    iexact HS2
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨⟨%h, %gh, HS0⟩, ⟨%C, %gC, HS1⟩, HS2⟩, Hg⟩
  isplitl [HS0 HS1 HS2]
  · isplitl [HS0]
    · iexists h; iexact HS0
    isplitl [HS1]
    · iexists C; iexact HS1
    iexact HS2
  iexact Hg

/-! ## The run -/

set_option backward.isDefEq.respectTransparency.types false in
set_option maxHeartbeats 800000 in
/-- Every execution ends, the arrays at what the proof data say, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were launched, and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnUpIdeal.Hand
end
-- ==== Proof.Up.Same.lean ====
/-
  The program and its idealized twin, at the machine's own floats, are one: the frame of one is the other's.
-/
module

public import proofs.«01_k».proof.Proof.Up.Frame
public import proofs.«01_k».proof.Proof.Gen.FfnUp
public import proofs.«01_k».proof.Defs

@[expose] public section
set_option maxRecDepth 16384

noncomputable section

namespace Cert.FfnUpIdeal.Hand

open Idealize.ShloMosaic Idealize.ShloMosaic.TcCoe

/-- The bodies are the same, … -/
theorem bodies : (Cert.FfnUp.defs₀ (F := Bits)) = (Cert.FfnUpIdeal.defs₀ (F := Bits)) := by
  unfold Cert.FfnUp.defs₀ Cert.FfnUpIdeal.defs₀
  refine congrArg Defs.onTc ?_
  funext l a
  match l, a with
  | 0, (t, s) =>
    dsimp only
    rfl
  | ⟨_ + 1, h⟩, _ => exact absurd h (Nat.not_lt.2 (Nat.le_add_left _ _))

/-- … so the body tables are, … -/
theorem tables : (Cert.FfnUp.defs (F := Bits)) = (Cert.FfnUpIdeal.defs (F := Bits)) :=
  congrArg (Pipeline.defs (Cert.FfnUpIdeal.pcfgs (F := Bits))) bodies

/-- … and the program runs and leaves its arguments as they were. -/
theorem frame_up : Cert.quiescent_FfnUp (hFfnUp := Cert.FfnUp.Gen.facts) := fun m ρ _ => by
  have h := frame_any (F := Bits) m ρ
  rw [← tables] at h
  exact h

end Cert.FfnUpIdeal.Hand

end
-- ==== Proof.Up.Words.lean ====
/-
  The gated projection up with its short convolution: what is computed, and the body's terms read at an index.
-/
module

public import proofs.«01_k».proof.Proof.Up.Cells
public import proofs.«01_k».proof.Proof.Down.Norm

@[expose] public section

set_option maxRecDepth 16384

noncomputable section

namespace Cert.Proof.Up

open Idealize.ShloMosaic Idealize.ShloMosaic.TcCoe Idealize.ShloMosaic.Tactic
open Cert.FfnUpIdeal Cert.FfnUpIdeal.Gen Cert.FfnUpIdeal.Hand Cert.Proof.Down

/-- A row normed, times a column of the first layer's weights. -/
def prod (x : Fin 2048 → EReal) (w : Fin 2048 → EReal) (y : FVec Ideal ⟨3, ![2, 2048, 5632]⟩ .f32) (q : Fin 5632) : EReal :=
  ∑ k : Fin 2048, normed x w k * y (ix3 0 k q)

/-- A number over one plus the exponential of its negative. -/
def gate (z : EReal) : EReal :=
  z * Ideal.div 1 (1 + Ideal.exp (-z))

/-- Three taps, a bias, the gate, and the second product. -/
def cell (a b g cw0 cw1 cw2 cb u : EReal) : EReal := gate (cw0 * a + cw1 * b + cw2 * g + cb) * u

/-- The first product with two rows of zeros before it. -/
def padded (x0 : FVec Ideal ⟨2, ![8192, 2048]⟩ .f32) (x1 : FVec Ideal ⟨1, ![2048]⟩ .f32) (x2 : FVec Ideal ⟨3, ![2, 2048, 5632]⟩ .f32)
    (i : Fin 8194) (q : Fin 5632) : EReal :=
  if h : i.val < 2 then 0 else prod (fun k => x0 (ix2 ⟨i.val - 2, by omega⟩ k)) (fun k => x1 (ix1 k)) x2 q

/-- The first result: the three taps over the padded product, the bias, the gate, and the second product. -/
def act (x0 : FVec Ideal ⟨2, ![8192, 2048]⟩ .f32) (x1 : FVec Ideal ⟨1, ![2048]⟩ .f32) (x2 x3 : FVec Ideal ⟨3, ![2, 2048, 5632]⟩ .f32)
    (x4 : FVec Ideal ⟨2, ![3, 5632]⟩ .f32) (x5 : FVec Ideal ⟨1, ![5632]⟩ .f32) (i : Fin 8192) (q : Fin 5632) : EReal :=
  cell (padded x0 x1 x2 ⟨i.val, by omega⟩ q) (padded x0 x1 x2 ⟨1 + i.val, by omega⟩ q) (padded x0 x1 x2 ⟨2 + i.val, by omega⟩ q)
    (x4 (ix2 0 q)) (x4 (ix2 1 q)) (x4 (ix2 2 q)) (x5 (ix1 q)) (prod (fun k => x0 (ix2 i k)) (fun k => x1 (ix1 k)) x3 q)

/-- The second result: the last two rows of the first product. -/
def last (x0 : FVec Ideal ⟨2, ![8192, 2048]⟩ .f32) (x1 : FVec Ideal ⟨1, ![2048]⟩ .f32) (x2 : FVec Ideal ⟨3, ![2, 2048, 5632]⟩ .f32)
    (i : Fin 2) (q : Fin 5632) : EReal :=
  prod (fun k => x0 (ix2 ⟨8190 + i.val, by omega⟩ k)) (fun k => x1 (ix1 k)) x2 q

theorem norm_at (x : Vec Ideal S1024x2048 .f32) (w : Vec Ideal S1x2048 .f32) (r : Fin 1024) (q : Fin 2048) :
    k0_pay4 (F := Ideal) x w (ix2 r q) = normed (fun k => x (ix2 r k)) (fun k => w (ix2 0 k)) q := by
  pointwise [k0_pay4, normed]

theorem mul_at (h : Vec Ideal S1024x2048 .bf16) (w : Vec Ideal S1x2048x512 .f32) (r : Fin 1024) (q : Fin 512) :
    k0_pay6 (F := Ideal) h w (ix2 r q) = ∑ k : Fin 2048, h (ix2 r k) * w (ix3 0 k q) := by
  pointwise [k0_pay6]

theorem up_at (h : Vec Ideal S1024x2048 .bf16) (w : Vec Ideal S1x2048x512 .f32) (r : Fin 1024) (q : Fin 512) :
    k0_pay7 (F := Ideal) h w (ix2 r q) = ∑ k : Fin 2048, h (ix2 r k) * w (ix3 0 k q) := by
  pointwise [k0_pay7]

theorem carried_at (g : FVec Ideal S1024x512 .f32) (r : Fin 8) (q : Fin 512) :
    k0_pay2 (F := Ideal) g (ix3 0 r q) = g (ix2 ⟨1016 + r.val, by omega⟩ q) := by
  pointwise [k0_pay2]

theorem last_at (g : FVec Ideal S1024x512 .f32) (r : Fin 8) (q : Fin 512) :
    k0_pay3 (F := Ideal) g (ix3 0 r q) = g (ix2 ⟨1016 + r.val, by omega⟩ q) := by
  pointwise [k0_pay3]

theorem zeros_at (r : Fin 8) (q : Fin 512) : k0_pay5 (F := Ideal) (ix3 0 r q) = 0 := by
  pointwise [k0_pay5]

theorem rows_at (p : Vec Ideal S1x8x512 .f32) (r : Fin 8) (q : Fin 512) : k0_pay8 (F := Ideal) p (ix2 r q) = p (ix3 0 r q) := by
  pointwise [k0_pay8]

theorem kept_eq (h : Vec Ideal S1024x2048 .bf16) (w : Vec Ideal S1x2048x512 .f32) : k0_pay9 (F := Ideal) h w = k0_pay6 h w := by
  unfold k0_pay9
  exact shapeCast_self _ _

/-- What the body writes, at an index, from the two tiles shifted. -/
theorem act_at (g u a b : Vec Ideal S1024x512 .f32) (cw : Vec Ideal S3x512 .f32) (cb : Vec Ideal S1x512 .f32) (r : Fin 1024) (q : Fin 512) :
    k0_pay1 (F := Ideal) g u cw (k0_pay10 cw a) (k0_pay11 cw) b cb (ix2 r q)
      = cell (a (ix2 r q)) (b (ix2 r q)) (g (ix2 r q)) (cw (ix2 0 q)) (cw (ix2 1 q)) (cw (ix2 2 q)) (cb (ix2 0 q)) (u (ix2 r q)) := by
  pointwise [k0_pay1, k0_pay10, k0_pay11, cell, gate]
  rw [zero_sub]

end Cert.Proof.Up

end
-- ==== Proof.Up.Value.lean ====
/-
  What the gated projection up leaves in its two results.
-/
module

public import proofs.«01_k».proof.Proof.Up.Words
public import proofs.«01_k».proof.Proof.Up.Frame
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Up

open Idealize.ShloMosaic Idealize.ShloMosaic.TcCoe Idealize.ShloMosaic.Tactic Idealize.SL.Sem
open Cert.FfnUpIdeal Cert.FfnUpIdeal.Gen Cert.FfnUpIdeal.Hand Cert.Proof.Down

/-- Where the windows stand. -/
theorem places : ∀ t : Fin grid0.N, win0_0.index t = ![t.val / 11, 0] ∧ win0_1.index t = ![0, 0]
    ∧ win0_2.index t = ![0, 0, t.val % 11] ∧ win0_3.index t = ![0, 0, t.val % 11] ∧ win0_4.index t = ![0, t.val % 11]
    ∧ win0_5.index t = ![0, t.val % 11] ∧ win0_6.index t = ![t.val / 11, t.val % 11]
    ∧ win0_7.index t = ![t.val / 11, 0, t.val % 11] := by decide +kernel

variable (m : (ℓ : Loc nD τ sig) → Buf (Elt Ideal) ℓ) (c : Dev nD)

/-- The six arguments. -/
abbrev rows : FVec Ideal ⟨2, ![8192, 2048]⟩ .f32 := m ((c : Thread nD τ).loc main_arg0)
abbrev gain : FVec Ideal ⟨1, ![2048]⟩ .f32 := m ((c : Thread nD τ).loc main_arg1)
abbrev wg : FVec Ideal ⟨3, ![2, 2048, 5632]⟩ .f32 := m ((c : Thread nD τ).loc main_arg2)
abbrev wu : FVec Ideal ⟨3, ![2, 2048, 5632]⟩ .f32 := m ((c : Thread nD τ).loc main_arg3)
abbrev taps : FVec Ideal ⟨2, ![3, 5632]⟩ .f32 := m ((c : Thread nD τ).loc main_arg4)
abbrev bias : FVec Ideal ⟨1, ![5632]⟩ .f32 := m ((c : Thread nD τ).loc main_arg5)

theorem rows_blk (t : Fin cfg0.N) (r : Fin 1024) (k : Fin 2048) (i : Fin 8192) (hi : i.val = t.val / 11 * 1024 + r.val) :
    iblk m c 0 t (ix2 r k) = rows m c (ix2 i k) := by
  have hp := places t
  unfold iblk
  refine Eq.trans (congrArg (V m c (Pipeline.arrRef spec0 0)) (?_ : _ = ix2 i k)) (congrFun (V_main_arg0 m c) _)
  blk_ext [hp]

theorem gain_blk (t : Fin cfg0.N) (k : Fin 2048) : iblk m c 1 t (ix2 0 k) = gain m c (ix1 k) := by
  have hp := places t
  have e : V m c (Pipeline.arrRef spec0 1) (ix2 0 k) = gain m c (ix1 k) := by
    show StableHlo.after hostOps0 _ (Proc.devRef .tc main_v0) _ = _
    after_reads_at
  refine Eq.trans ?_ e
  unfold iblk
  refine congrArg (V m c (Pipeline.arrRef spec0 1)) ?_
  blk_ext [hp]

theorem wg_blk (t : Fin cfg0.N) (k : Fin 2048) (q : Fin 512) (l : Fin 5632) (hl : l.val = t.val % 11 * 512 + q.val) :
    iblk m c 2 t (ix3 0 k q) = wg m c (ix3 0 k l) := by
  have hp := places t
  unfold iblk
  refine Eq.trans (congrArg (V m c (Pipeline.arrRef spec0 2)) (?_ : _ = ix3 0 k l)) (congrFun (V_main_arg2 m c) _)
  blk_ext [hp]

theorem wu_blk (t : Fin cfg0.N) (k : Fin 2048) (q : Fin 512) (l : Fin 5632) (hl : l.val = t.val % 11 * 512 + q.val) :
    iblk m c 3 t (ix3 0 k q) = wu m c (ix3 0 k l) := by
  have hp := places t
  unfold iblk
  refine Eq.trans (congrArg (V m c (Pipeline.arrRef spec0 3)) (?_ : _ = ix3 0 k l)) (congrFun (V_main_arg3 m c) _)
  blk_ext [hp]

theorem taps_blk (t : Fin cfg0.N) (a : Fin 3) (q : Fin 512) (l : Fin 5632) (hl : l.val = t.val % 11 * 512 + q.val) :
    iblk m c 4 t (ix2 a q) = taps m c (ix2 a l) := by
  have hp := places t
  unfold iblk
  refine Eq.trans (congrArg (V m c (Pipeline.arrRef spec0 4)) (?_ : _ = ix2 a l)) (congrFun (V_main_arg4 m c) _)
  blk_ext [hp]

theorem bias_blk (t : Fin cfg0.N) (q : Fin 512) (l : Fin 5632) (hl : l.val = t.val % 11 * 512 + q.val) :
    iblk m c 5 t (ix2 0 q) = bias m c (ix1 l) := by
  have hp := places t
  have e : V m c (Pipeline.arrRef spec0 5) (ix2 0 l) = bias m c (ix1 l) := by
    show StableHlo.after hostOps0 _ (Proc.devRef .tc main_v1) _ = _
    after_reads_at
  refine Eq.trans ?_ e
  unfold iblk
  refine congrArg (V m c (Pipeline.arrRef spec0 5)) ?_
  blk_ext [hp]

/-- The normed rows of a point's row tile. -/
theorem h_at (t : Fin cfg0.N) (r : Fin 1024) (k : Fin 2048) (i : Fin 8192) (hi : i.val = t.val / 11 * 1024 + r.val) :
    hAt m c t (ix2 r k) = normed (fun k => rows m c (ix2 i k)) (fun k => gain m c (ix1 k)) k := by
  have hf : (first t).val / 11 = t.val / 11 := by show (t.val - t.val % 11) / 11 = _; omega
  unfold hAt
  rw [norm_at]
  exact congrArg₂ (fun u v => normed u v k) (funext fun l => rows_blk m c (first t) r l i (by rw [hf]; exact hi))
    (funext fun l => gain_blk m c (first t) l)

/-- The first product's tile. -/
theorem g_at (t : Fin cfg0.N) (r : Fin 1024) (q : Fin 512) (i : Fin 8192) (l : Fin 5632) (hi : i.val = t.val / 11 * 1024 + r.val)
    (hl : l.val = t.val % 11 * 512 + q.val) :
    gAt m c t (ix2 r q) = prod (fun k => rows m c (ix2 i k)) (fun k => gain m c (ix1 k)) (wg m c) l := by
  unfold gAt gOf
  rw [mul_at]
  exact Finset.sum_congr rfl fun k _ => congrArg₂ (· * ·) (h_at m c t r k i hi) (wg_blk m c t k q l hl)

/-- The second product's tile. -/
theorem u_at (t : Fin cfg0.N) (r : Fin 1024) (q : Fin 512) (i : Fin 8192) (l : Fin 5632) (hi : i.val = t.val / 11 * 1024 + r.val)
    (hl : l.val = t.val % 11 * 512 + q.val) :
    k0_pay7 (hAt m c t) (iblk m c 3 t) (ix2 r q) = prod (fun k => rows m c (ix2 i k)) (fun k => gain m c (ix1 k)) (wu m c) l := by
  rw [up_at]
  exact Finset.sum_congr rfl fun k _ => congrArg₂ (· * ·) (h_at m c t r k i hi) (wu_blk m c t k q l hl)

/-- The rows in front of a tile: the padded product's. -/
theorem p_at (t : Fin cfg0.N) (r : Fin 8) (q : Fin 512) (i : Fin 8194) (l : Fin 5632) (hr : 6 ≤ r.val)
    (hi : i.val + 6 = t.val / 11 * 1024 + r.val) (hl : l.val = t.val % 11 * 512 + q.val) :
    pAt m c t (ix3 0 r q) = padded (rows m c) (gain m c) (wg m c) i l := by
  have ht := lt_N t
  unfold pAt
  by_cases h : t.val < 11
  · rw [if_pos h, zeros_at, padded, dif_pos (by omega)]
  · rw [if_neg h, carried_at, padded, dif_neg (by omega)]
    exact g_at m c ⟨t.val - 11, _⟩ ⟨1016 + r.val, _⟩ q ⟨i.val - 2, by omega⟩ l (by show i.val - 2 = (t.val - 11) / 11 * 1024 + (1016 + r.val); omega)
      (by show l.val = (t.val - 11) % 11 * 512 + q.val; omega)

/-- A tile shifted down: the padded product's rows. -/
theorem shifted_at (t : Fin cfg0.N) (o : Fin 9) (ho : 6 ≤ o.val) (r : Fin 1024) (q : Fin 512) (i : Fin 8194) (l : Fin 5632)
    (hi : i.val + 6 = t.val / 11 * 1024 + r.val + o.val) (hl : l.val = t.val % 11 * 512 + q.val) :
    shifted o (k0_pay8 (pAt m c t)) (k0_pay9 (hAt m c t) (iblk m c 2 t)) (ix2 r q) = padded (rows m c) (gain m c) (wg m c) i l := by
  rw [kept_eq]
  unfold shifted joined
  by_cases h : o.val + r.val < 8
  · refine (dif_pos h).trans ?_
    exact (rows_at _ _ _).trans (p_at m c t ⟨o.val + r.val, h⟩ q i l (by show 6 ≤ o.val + r.val; omega)
      (by show i.val + 6 = t.val / 11 * 1024 + (o.val + r.val); omega) hl)
  · refine (dif_neg h).trans ?_
    rw [padded, dif_neg (by omega)]
    exact g_at m c t ⟨o.val + r.val - 8, _⟩ q ⟨i.val - 2, by omega⟩ l (by show i.val - 2 = t.val / 11 * 1024 + (o.val + r.val - 8); omega) hl

/-- What a point writes in the first result. -/
theorem act_at_point (t : Fin cfg0.N) (r : Fin 1024) (q : Fin 512) (i : Fin 8192) (l : Fin 5632) (hi : i.val = t.val / 11 * 1024 + r.val)
    (hl : l.val = t.val % 11 * 512 + q.val) :
    actAt m c t (ix2 r q) = act (rows m c) (gain m c) (wg m c) (wu m c) (taps m c) (bias m c) i l := by
  unfold actAt actOf
  rw [act_at, shifted_at m c t 6 (by decide) r q ⟨i.val, by omega⟩ l (by show i.val + 6 = _ + 6; omega) hl,
    shifted_at m c t 7 (by decide) r q ⟨1 + i.val, by omega⟩ l (by show 1 + i.val + 6 = _ + 7; omega) hl,
    u_at m c t r q i l hi hl, taps_blk m c t 0 q l hl, taps_blk m c t 1 q l hl, taps_blk m c t 2 q l hl, bias_blk m c t q l hl]
  unfold act
  rw [show k0_pay6 (hAt m c t) (iblk m c 2 t) (ix2 r q) = padded (rows m c) (gain m c) (wg m c) ⟨2 + i.val, by omega⟩ l from ?_]
  rw [padded, dif_neg (by simp; omega)]
  exact g_at m c t r q _ l (by show 2 + i.val - 2 = _; omega) hl

/-- The first result after the run. -/
theorem act_eq : (dats m 0 c).arrAt 6 cfg0.N
    = fun i => act (rows m c) (gain m c) (wg m c) (wu m c) (taps m c) (bias m c) (i 0) (i 1) := by
  refine (dats m 0 c).arrAt_eq_of_covers 6 _ (by decide +kernel) fun t hf y => ?_
  have hp := places t
  blk_simp
  have ht := lt_N t
  rw [after6]
  have row : ∀ r : Fin 1024, t.val / 11 * 1024 + r.val < 8192 := fun r => by omega
  have col : ∀ q : Fin 512, t.val % 11 * 512 + q.val < 5632 := fun r => by omega
  have e : ((cfg0.win 6).blk t).view.emb y = ix2 ⟨t.val / 11 * 1024 + (y 0).val, row (y 0)⟩ ⟨t.val % 11 * 512 + (y 1).val, col (y 1)⟩ := by
    blk_ext [hp]
  refine Eq.trans ?_ (congrArg (fun i : S8192x5632.Idx =>
    act (rows m c) (gain m c) (wg m c) (wu m c) (taps m c) (bias m c) (i 0) (i 1)) e).symm
  exact (congrArg _ (ix2_eta y).symm).trans (act_at_point m c t (y 0) (y 1) _ _ rfl rfl)

/-- The last eight rows of each row tile of the first product. -/
def ends (i : Fin 8) (r : Fin 8) (l : Fin 5632) : EReal :=
  prod (fun k => rows m c (ix2 ⟨i.val * 1024 + 1016 + r.val, by omega⟩ k)) (fun k => gain m c (ix1 k)) (wg m c) l

/-- They are the second output after the run. -/
theorem ends_eq : (dats m 0 c).arrAt 7 cfg0.N = fun i => ends m c (i 0) (i 1) (i 2) := by
  refine (dats m 0 c).arrAt_eq_of_covers 7 _ (by decide +kernel) fun t hf y => ?_
  have hp := places t
  blk_simp
  have ht := lt_N t
  rw [after7]
  have col : ∀ q : Fin 512, t.val % 11 * 512 + q.val < 5632 := fun r => by omega
  have e : ((cfg0.win 7).blk t).view.emb y = ix3 ⟨t.val / 11, by omega⟩ (y 1) ⟨t.val % 11 * 512 + (y 2).val, col (y 2)⟩ := by
    blk_ext [hp]
  refine Eq.trans ?_ (congrArg (fun i : S8x8x5632.Idx => ends m c (i 0) (i 1) (i 2)) e).symm
  have h0 : y 0 = (0 : Fin 1) := Subsingleton.elim (α := Fin 1) _ _
  refine (congrArg _ ((ix3_eta y).symm.trans (congrArg (fun a => ix3 a (y 1) (y 2)) h0))).trans ?_
  unfold stAt
  refine (last_at _ _ _).trans ?_
  have h1 : (y 1).val < 8 := (y 1).isLt
  exact g_at m c t _ _ ⟨t.val / 11 * 1024 + 1016 + (y 1).val, by omega⟩ _ (Nat.add_assoc _ _ _) rfl

/-- The host code after the call keeps the last two rows. -/
theorem tail_eq : Pipeline.afterTail₀ cfgs (dats m) 0 (V0 m) [hostOps1] c main_v4
    = fun j => last (rows m c) (gain m c) (wg m c) (j 0) (j 1) := by
  have e : Pipeline.withArrays (cfgs 0).spec c (V0 m c) (fun w => (dats m 0 c).arrAt w (cfgs 0).N) (Proc.devRef .tc main_v2_1)
      = fun i => ends m c (i 0) (i 1) (i 2) :=
    (Pipeline.withArrays_arr spec0 (by decide) c _ _ 7).trans (ends_eq m c)
  unfold Pipeline.afterTail₀
  generalize Pipeline.withArrays (cfgs 0).spec c (V0 m c) (fun w => (dats m 0 c).arrAt w (cfgs 0).N) = U at e
  show StableHlo.after hostOps1 U (Proc.devRef .tc main_v4) = _
  after_results
  rw [e]
  have h : ∀ (a : Fin 2) (l : Fin 5632), shapeCast S2x5632 (extractStridedSlice S1x2x5632 ![7, 6, 0]
      (fun i : S8x8x5632.Idx => ends m c (i 0) (i 1) (i 2)) slices_S8x8x5632_S1x2x5632_7_6_0) shapeCasts_S1x2x5632_S2x5632 (ix2 a l)
      = last (rows m c) (gain m c) (wg m c) a l := fun a l => by
    pointwise []
    unfold ends last
    exact congrArg (fun n => prod (fun k => rows m c (ix2 n k)) (fun k => gain m c (ix1 k)) (wg m c) l) (Fin.ext (by simp; omega))
  funext j
  exact (congrArg _ (ix2_eta j).symm).trans (h (j 0) (j 1))

end Cert.Proof.Up

end
-- ==== Proof.Up.Ref.lean ====
/-
  The plain computation of the gated projection up, read at an index.
-/
module

public import proofs.«01_k».proof.Proof.Up.Words
public import proofs.«01_k».proof.Proof.Gen.FfnUpRefIdeal.Run
public import proofs.«01_k».proof.Proof.Gen.FfnUpRefIdeal.Read

@[expose] public section

set_option maxRecDepth 16384

noncomputable section

namespace Cert.Proof.Up.Ref

open Idealize.ShloMosaic Idealize.ShloMosaic.TcCoe Idealize.ShloMosaic.Tactic
open Cert.FfnUpRefIdeal Cert.FfnUpRefIdeal.Read Cert.Proof.Down Cert.Proof.Up

/-- The normed rows. -/
theorem norm_at (x0 : FVec Ideal ⟨2, ![8192, 2048]⟩ .f32) (x1 : FVec Ideal ⟨1, ![2048]⟩ .f32) (i : Fin 8192) (q : Fin 2048) :
    val_main_v12 (F := Ideal) x0 x1 (ix2 i q) = normed (fun k => x0 (ix2 i k)) (fun k => x1 (ix1 k)) q := by
  unfold val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

/-- The first product. -/
theorem gate_at (x0 : FVec Ideal ⟨2, ![8192, 2048]⟩ .f32) (x1 : FVec Ideal ⟨1, ![2048]⟩ .f32)
    (x2 : FVec Ideal ⟨3, ![2, 2048, 5632]⟩ .f32) (i : Fin 8192) (q : Fin 5632) :
    val_main_v16 (F := Ideal) x0 x1 x2 (ix2 i q) = prod (fun k => x0 (ix2 i k)) (fun k => x1 (ix1 k)) x2 q := by
  have e := norm_at x0 x1
  unfold val_main_v16 val_main_v15 val_main_v14
  generalize val_main_v12 (F := Ideal) x0 x1 = y at *
  pointwise [prod]
  simp only [e]

/-- The second product. -/
theorem up_at (x0 : FVec Ideal ⟨2, ![8192, 2048]⟩ .f32) (x1 : FVec Ideal ⟨1, ![2048]⟩ .f32)
    (x2 : FVec Ideal ⟨3, ![2, 2048, 5632]⟩ .f32) (i : Fin 8192) (q : Fin 5632) :
    val_main_v44 (F := Ideal) x0 x1 x2 (ix2 i q) = prod (fun k => x0 (ix2 i k)) (fun k => x1 (ix1 k)) x2 q := by
  have e := norm_at x0 x1
  unfold val_main_v44 val_main_v43 val_main_v42
  generalize val_main_v12 (F := Ideal) x0 x1 = y at *
  pointwise [prod]
  simp only [e]

/-- The first product with two rows of zeros before it. -/
theorem padded_at (x0 : FVec Ideal ⟨2, ![8192, 2048]⟩ .f32) (x1 : FVec Ideal ⟨1, ![2048]⟩ .f32)
    (x2 : FVec Ideal ⟨3, ![2, 2048, 5632]⟩ .f32) (i : Fin 8194) (q : Fin 5632) :
    val_main_v17 (F := Ideal) x0 x1 x2 (ix2 i q) = padded x0 x1 x2 i q := by
  have e := gate_at x0 x1 x2
  unfold val_main_v17 val_main_v13 val_main_cst_2
  generalize val_main_v16 (F := Ideal) x0 x1 x2 = y at *
  pointwise [padded]
  simp only [e]

/-- The first result, from the padded product. -/
theorem taps_at (x0 : FVec Ideal ⟨2, ![8192, 2048]⟩ .f32) (x1 : FVec Ideal ⟨1, ![2048]⟩ .f32)
    (x2 x3 : FVec Ideal ⟨3, ![2, 2048, 5632]⟩ .f32) (x4 : FVec Ideal ⟨2, ![3, 5632]⟩ .f32) (x5 : FVec Ideal ⟨1, ![5632]⟩ .f32)
    (i : Fin 8192) (q : Fin 5632) :
    val_main_v46 (F := Ideal) x0 x1 x2 x3 x4 x5 (ix2 i q)
      = cell (val_main_v17 (F := Ideal) x0 x1 x2 (ix2 ⟨i.val, by omega⟩ q)) (val_main_v17 (F := Ideal) x0 x1 x2 (ix2 ⟨1 + i.val, by omega⟩ q))
        (val_main_v17 (F := Ideal) x0 x1 x2 (ix2 ⟨2 + i.val, by omega⟩ q)) (x4 (ix2 0 q)) (x4 (ix2 1 q)) (x4 (ix2 2 q)) (x5 (ix1 q))
        (prod (fun k => x0 (ix2 i k)) (fun k => x1 (ix1 k)) x3 q) := by
  have e := up_at x0 x1 x3
  unfold val_main_v46 val_main_v45 val_main_v41 val_main_call0_v5 val_main_call0_v4 val_main_call0_cst_0 val_main_call0_v3
    val_main_call0_v2 val_main_call0_cst val_main_call0_v1 val_main_call0_v0 val_main_v40 val_main_v39 val_main_v38 val_main_v37
    val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18
  generalize val_main_v44 (F := Ideal) x0 x1 x3 = y at *
  generalize val_main_v17 (F := Ideal) x0 x1 x2 = z at *
  pointwise [cell, gate]
  simp only [e]

theorem act_eq (x0 : FVec Ideal ⟨2, ![8192, 2048]⟩ .f32) (x1 : FVec Ideal ⟨1, ![2048]⟩ .f32)
    (x2 x3 : FVec Ideal ⟨3, ![2, 2048, 5632]⟩ .f32) (x4 : FVec Ideal ⟨2, ![3, 5632]⟩ .f32) (x5 : FVec Ideal ⟨1, ![5632]⟩ .f32) :
    val_main_v46 (F := Ideal) x0 x1 x2 x3 x4 x5 = fun i => act x0 x1 x2 x3 x4 x5 (i 0) (i 1) := by
  have h : ∀ (i : Fin 8192) (q : Fin 5632), val_main_v46 (F := Ideal) x0 x1 x2 x3 x4 x5 (ix2 i q) = act x0 x1 x2 x3 x4 x5 i q := fun i q => by
    rw [taps_at, padded_at, padded_at, padded_at]
    rfl
  funext i
  exact (congrArg _ (ix2_eta i).symm).trans (h (i 0) (i 1))

/-- The second result: the last two rows of the padded product. -/
theorem st_at (x0 : FVec Ideal ⟨2, ![8192, 2048]⟩ .f32) (x1 : FVec Ideal ⟨1, ![2048]⟩ .f32)
    (x2 : FVec Ideal ⟨3, ![2, 2048, 5632]⟩ .f32) (i : Fin 2) (q : Fin 5632) :
    val_main_v47 (F := Ideal) x0 x1 x2 (ix2 i q) = last x0 x1 x2 i q := by
  have e := padded_at x0 x1 x2
  unfold val_main_v47
  generalize val_main_v17 (F := Ideal) x0 x1 x2 = z at *
  pointwise []
  rw [e, padded, dif_neg (by simp; omega)]
  exact congrArg (fun n => prod (fun k => x0 (ix2 n k)) (fun k => x1 (ix1 k)) x2 q) (Fin.ext (by simp; omega))

theorem st_eq (x0 : FVec Ideal ⟨2, ![8192, 2048]⟩ .f32) (x1 : FVec Ideal ⟨1, ![2048]⟩ .f32)
    (x2 : FVec Ideal ⟨3, ![2, 2048, 5632]⟩ .f32) : val_main_v47 (F := Ideal) x0 x1 x2 = fun i => last x0 x1 x2 (i 0) (i 1) := by
  funext i
  exact (congrArg _ (ix2_eta i).symm).trans (st_at x0 x1 x2 (i 0) (i 1))

end Cert.Proof.Up.Ref

end
-- ==== Proof.Up.Claims.lean ====
/-
  The gated projection up: its three programs run, and the call leaves what the plain computation leaves.
-/
module

public import proofs.«01_k».proof.Proof.Up.Same
public import proofs.«01_k».proof.Proof.Up.Value
public import proofs.«01_k».proof.Proof.Up.Ref
public import Idealize.ShloMosaic.Lib.Quiescent

@[expose] public section

set_option maxRecDepth 16384

noncomputable section

namespace Cert.Proof.Up

open Idealize.ShloMosaic Idealize.ShloMosaic.TcCoe Idealize.SL.Sem
open Cert.FfnUpIdeal Cert.FfnUpIdeal.Gen Cert.FfnUpIdeal.Hand

/-- The three programs run and leave their arguments as they were. -/
theorem frame_up : Cert.quiescent_FfnUp := Cert.FfnUpIdeal.Hand.frame_up
theorem frame_ideal : Cert.quiescent_FfnUpIdeal := fun m ρ _ => frame_any m ρ
theorem frame_ref : Cert.quiescent_FfnUpRefIdeal := fun m ρ _ =>
  (θ_run Cert.FfnUpRefIdeal.defs _ _).mono
    (fun r h => ⟨fun c => (h c).2.2, Idealize.ShloMosaic.sem_eq_zero_of_no_sems (by decide) r.2⟩)
    (Cert.FfnUpRefIdeal.Value.run (F := Ideal) m ρ)

/-- The call, with the host code after it, leaves what the plain computation leaves. -/
theorem value : Cert.algebraic_FfnUpIdeal_FfnUpRefIdeal := by
  intro m ρ m' ρ' _ hagree
  refine ⟨fun c i => act (rows m c) (gain m c) (wg m c) (wu m c) (taps m c) (bias m c) (i 0) (i 1),
    fun c j => last (rows m c) (gain m c) (wg m c) (j 0) (j 1),
    (θ_run Cert.FfnUpIdeal.defs _ _).mono (fun r h c => ⟨((h.1 c).1 6).trans (act_eq m c),
      ((h.1 c).2 main_v4 (Pipeline.mem_restRefs_of main_v4 (by decide) (by decide))).trans (tail_eq m c), h.2.1 c⟩)
      (θ_run_and (run_main m ρ) (frame_any m ρ)),
    (θ_run Cert.FfnUpRefIdeal.defs _ _).mono (fun r h c => ⟨?_, ?_, (h c).2.2⟩) (Cert.FfnUpRefIdeal.Value.run (F := Ideal) m' ρ')⟩
  · obtain ⟨e0, e1, e2, e3, e4, e5⟩ := hagree c
    refine (h c).1.trans ?_
    rw [Cert.FfnUpRefIdeal.Read.val_main_v46_eq, Ref.act_eq, e0, e1, e2, e3, e4, e5]
    rfl
  · obtain ⟨e0, e1, e2, e3, e4, e5⟩ := hagree c
    refine (h c).2.1.trans ?_
    rw [Cert.FfnUpRefIdeal.Read.val_main_v47_eq, Ref.st_eq, e0, e1, e2]
    rfl

end Cert.Proof.Up

end
-- ==== Proof.Rows.KvBody.lean ====
/-
  The keys and values' rows: what one point of the call writes.
-/
module

public import proofs.«01_k».proof.Proof.Down.Norm
public import proofs.«01_k».proof.Proof.Gen.KvRowsIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Rows.Kv

open Idealize.ShloMosaic Idealize.ShloMosaic.TcCoe Idealize.ShloMosaic.Tactic Idealize.SL.Sem
open Cert.KvRowsIdeal Cert.KvRowsIdeal.Gen Cert.Proof.Down

/-- A block of rows, normed. -/
theorem norm_at (x : Vec Ideal S1024x2048 .f32) (w : Vec Ideal S1x2048 .f32) (r : Fin 1024) (q : Fin 2048) :
    k0_pay1 (F := Ideal) x w (ix2 r q) = normed (fun k => x (ix2 r k)) (fun k => w (ix2 0 k)) q := by
  pointwise [k0_pay1, normed]

/-- The product of normed rows and a section's columns. -/
theorem mul_at (h : Vec Ideal S1024x2048 .bf16) (w : Vec Ideal S2048x512 .f32) (r : Fin 1024) (q : Fin 512) :
    k0_pay2 (F := Ideal) h w (ix2 r q) = ∑ k : Fin 2048, h (ix2 r k) * w (ix2 k q) := by
  pointwise [k0_pay2]

/-- A block with its four heads turned: `a` the cosines, `b` the signed sines. -/
def roped (y : Vec Ideal S1024x512 .f32) (a b : Vec Ideal S1024x128 .f32) : S1024x512.Idx → EReal := fun z =>
  y z * a (ix2 (z 0) ⟨(z 1).val % 128, Nat.mod_lt _ (by decide)⟩)
    + y (ix2 (z 0) ⟨(z 1).val / 128 * 128 + ((z 1).val % 128 + 64) % 128, by have : (z 1).val < 512 := (z 1).isLt; omega⟩)
      * b (ix2 (z 0) ⟨(z 1).val % 128, Nat.mod_lt _ (by decide)⟩)

theorem roped_at (y : Vec Ideal S1024x512 .f32) (a b : Vec Ideal S1024x128 .f32) (r : Fin 1024) (q : Fin 512) :
    roped y a b (ix2 r q) = y (ix2 r q) * a (ix2 r ⟨q.val % 128, Nat.mod_lt _ (by decide)⟩)
      + y (ix2 r ⟨q.val / 128 * 128 + (q.val % 128 + 64) % 128, by omega⟩) * b (ix2 r ⟨q.val % 128, Nat.mod_lt _ (by decide)⟩) := rfl

/-- Its value at a head's column, from the column and its partner. -/
theorem roped_of (y : Vec Ideal S1024x512 .f32) (a b : Vec Ideal S1024x128 .f32) (r : Fin 1024) (d e : Fin 128) (p q : Fin 512)
    (z : S1024x512.Idx) (h0 : (z 0).val = r.val) (h1 : (z 1).val % 128 = d.val) (hp : (z 1).val = p.val)
    (hq : q.val = (z 1).val / 128 * 128 + ((z 1).val % 128 + 64) % 128) :
    y (ix2 r p) * a (ix2 r d) + y (ix2 r q) * b (ix2 r d) = roped y a b z := by
  have e0 : z 0 = r := Fin.ext h0
  have ez : z = ix2 r p := by
    funext k; fin_cases k
    · exact e0
    · exact Fin.ext hp
  unfold roped
  subst ez
  refine congrArg₂ (· + ·) (congrArg (fun d => y (ix2 r p) * a (ix2 r d)) (Fin.ext h1.symm))
    (congrArg₂ (fun q d => y (ix2 r q) * b (ix2 r d)) (Fin.ext hq) (Fin.ext h1.symm))

section Heads
variable (y : Vec Ideal S1024x512 .f32) (a b : Vec Ideal S1024x128 .f32) (r : Fin 1024) (d : Fin 128)

theorem head0_at : k0_pay7 (F := Ideal) y a b (ix2 r d) = y (ix2 r ⟨d.val, by omega⟩) * a (ix2 r d)
    + y (ix2 r ⟨(d.val + 128 - 64) % 128, by omega⟩) * b (ix2 r d) := by
  pointwise [k0_pay7, k0_pay5, k0_pay6]
theorem head1_at : k0_pay9 (F := Ideal) y a b (ix2 r d) = y (ix2 r ⟨128 + d.val, by omega⟩) * a (ix2 r d)
    + y (ix2 r ⟨128 + (d.val + 128 - 64) % 128, by omega⟩) * b (ix2 r d) := by
  pointwise [k0_pay9, k0_pay5, k0_pay6]
theorem head2_at : k0_pay11 (F := Ideal) y a b (ix2 r d) = y (ix2 r ⟨256 + d.val, by omega⟩) * a (ix2 r d)
    + y (ix2 r ⟨256 + (d.val + 128 - 64) % 128, by omega⟩) * b (ix2 r d) := by
  pointwise [k0_pay11, k0_pay5, k0_pay6]
theorem head3_at : k0_pay13 (F := Ideal) y a b (ix2 r d) = y (ix2 r ⟨384 + d.val, by omega⟩) * a (ix2 r d)
    + y (ix2 r ⟨384 + (d.val + 128 - 64) % 128, by omega⟩) * b (ix2 r d) := by
  pointwise [k0_pay13, k0_pay5, k0_pay6]

end Heads

theorem whole2 : (![0, 0] : Fin 2 → Nat) = fun _ => 0 := by funext a; fin_cases a <;> rfl

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S2048x512 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .f32) (harg7 : arg7.IsWhole)
  (arg8 : Memref sig .tc .vmem S1024x512 .bf16) (harg8 : arg8.IsWhole)
  (arg9 : Memref sig .tc .vmem S1024x2048 .bf16) (harg9 : arg9.IsWhole)
  (x0 : Vec Ideal S1024x2048 .f32) (x1 : Vec Ideal S1x2048 .f32) (x2 : Vec Ideal S2048x512 .f32)
  (x3 x4 : Vec Ideal S1024x128 .f32) (h : Vec Ideal S1024x2048 .bf16)

/-- The first point of a run keeps the normed rows … -/
theorem kept_first (hc0 : cond0_0 i) (hc1 : ¬cond0_1 i) (hc2 : cond0_2 i) :
    sout0_A_0 c i arg2 harg2 arg3 harg3 arg4 harg4 arg5 harg5 arg6 harg6 arg7 harg7 arg8 harg8 arg9 harg9 hc0 hc1 hc2 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  try sl_unfold_words
  rw [View.canon_unit_zero whole2]
  simp only [View.readAt_eq_ld, harg2.read_unread, harg3.read_unread, View.ld_unit_zero (S := S1024x2048) whole2,
    View.ld_unit_zero (S := S1x2048) whole2, shapeCast_self]

/-- … and writes their product, -/
theorem out_first (hc0 : cond0_0 i) (hc1 : ¬cond0_1 i) (hc2 : cond0_2 i) :
    out0_A_5 c i arg2 harg2 arg3 harg3 arg4 harg4 arg5 harg5 arg6 harg6 arg7 harg7 arg8 harg8 arg9 harg9 hc0 hc1 hc2 x0 x1 x2 x3 x4
      = k0_pay2 (k0_pay1 x0 x1) x2 := by
  unfold out0_A_5
  rw [View.read_writes_eq_canon _ _ _ (cover0_A_5 c i arg2 harg2 arg3 harg3 arg4 harg4 arg5 harg5 arg6 harg6 arg7 harg7 arg8 harg8 arg9 harg9 hc0 hc1 hc2 x0 x1 x2 x3 x4)]
  unfold kernelRun0_A
  dsimp only
  try sl_unfold_words
  rw [View.canon_unit_zero whole2, View.readCov_unit_zero (S := S1024x2048) _ whole2]
  simp only [View.readAt_eq_ld, harg2.read_unread, harg3.read_unread, harg4.read_unread,
    View.ld_unit_zero (S := S1024x2048) whole2, View.ld_unit_zero (S := S1x2048) whole2,
    View.ld_unit_zero (S := S2048x512) whole2, shapeCast_self]

/-- the narrower copy too; -/
theorem copy_first (hc0 : cond0_0 i) (hc1 : ¬cond0_1 i) (hc2 : cond0_2 i) :
    out0_A_6 c i arg2 harg2 arg3 harg3 arg4 harg4 arg5 harg5 arg6 harg6 arg7 harg7 arg8 harg8 arg9 harg9 hc0 hc1 hc2 x0 x1 x2 x3 x4
      = k0_pay2 (k0_pay1 x0 x1) x2 := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4)]
  unfold kernelRun0_A
  dsimp only
  try sl_unfold_words
  rw [View.canon_unit_zero whole2, View.readCov_unit_zero (S := S1024x2048) _ whole2]
  simp only [View.readAt_eq_ld, harg2.read_unread, harg3.read_unread, harg4.read_unread,
    View.ld_unit_zero (S := S1024x2048) whole2, View.ld_unit_zero (S := S1x2048) whole2,
    View.ld_unit_zero (S := S2048x512) whole2, shapeCast_self]
  rfl

/-- a later point writes the product of the rows kept, -/
theorem out_plain (hc0 : ¬cond0_0 i) (hc1 : ¬cond0_1 i) (hc2 : cond0_2 i) :
    out0_B_5 c i arg2 harg2 arg3 harg3 arg4 harg4 arg5 harg5 arg6 harg6 arg7 harg7 arg8 harg8 arg9 harg9 hc0 hc1 hc2 x0 x1 x2 x3 x4 h
      = k0_pay2 h x2 := by
  unfold out0_B_5
  rw [View.read_writes_eq_canon _ _ _ (cover0_B_5 c i arg2 harg2 arg3 harg3 arg4 harg4 arg5 harg5 arg6 harg6 arg7 harg7 arg8 harg8 arg9 harg9 hc0 hc1 hc2 x0 x1 x2 x3 x4 h)]
  unfold kernelRun0_B
  dsimp only
  try sl_unfold_words
  rw [View.canon_unit_zero whole2]
  simp only [View.readAt_eq_ld, harg4.read_unread, harg9.read_unread,
    View.ld_unit_zero (S := S1024x2048) whole2, View.ld_unit_zero (S := S2048x512) whole2, shapeCast_self]

/-- the narrower copy too; -/
theorem copy_plain (hc0 : ¬cond0_0 i) (hc1 : ¬cond0_1 i) (hc2 : cond0_2 i) :
    out0_B_6 c i arg2 harg2 arg3 harg3 arg4 harg4 arg5 harg5 arg6 harg6 arg7 harg7 arg8 harg8 arg9 harg9 hc0 hc1 hc2 x0 x1 x2 x3 x4 h
      = k0_pay2 h x2 := by
  unfold out0_B_6
  rw [View.read_writes_eq_canon _ _ _ (cover0_B_6 c i arg2 harg2 arg3 harg3 arg4 harg4 arg5 harg5 arg6 harg6 arg7 harg7 arg8 harg8 arg9 harg9 hc0 hc1 hc2 x0 x1 x2 x3 x4 h)]
  unfold kernelRun0_B
  dsimp only
  try sl_unfold_words
  rw [View.canon_unit_zero whole2]
  simp only [View.readAt_eq_ld, harg4.read_unread, harg9.read_unread,
    View.ld_unit_zero (S := S1024x2048) whole2, View.ld_unit_zero (S := S2048x512) whole2, shapeCast_self]
  rfl

/-- The store of head `g`'s columns, against the whole turned block. -/
theorem piece (y : Vec Ideal S1024x512 .f32) (a b : Vec Ideal S1024x128 .f32) (g : Fin 4) (inb) (v : S1024x128.Idx → EReal)
    (hv : ∀ r d, v (ix2 r d) = y (ix2 r ⟨g.val * 128 + d.val, by omega⟩) * a (ix2 r d)
      + y (ix2 r ⟨g.val * 128 + (d.val + 128 - 64) % 128, by omega⟩) * b (ix2 r d)) (x : S1024x128.Idx) :
    v x = roped y a b ((Rect.unit (s := S1024x512) ![0, g.val * 128] ![1024, 128] inb).emb x) := by
  obtain ⟨r, d, rfl⟩ : ∃ (r : Fin 1024) (d : Fin 128), x = ix2 r d := ⟨x 0, x 1, by funext a; fin_cases a <;> rfl⟩
  rw [hv]
  have h0 : ((Rect.unit (s := S1024x512) ![0, g.val * 128] ![1024, 128] inb).emb (ix2 r d) 0).val = r.val := by
    show 0 + 1 * r.val = r.val
    omega
  have h1 : ((Rect.unit (s := S1024x512) ![0, g.val * 128] ![1024, 128] inb).emb (ix2 r d) 1).val = g.val * 128 + d.val := by
    show g.val * 128 + 1 * d.val = _
    omega
  refine roped_of y a b r d d _ _ _ h0 (by rw [h1]; omega) h1 ?_
  rw [h1]
  show g.val * 128 + (d.val + 128 - 64) % 128 = _
  omega

/-- a point of a turned section writes the product turned, -/
theorem out_turned (hc0 : ¬cond0_0 i) (hc1 : cond0_1 i) (hc2 : ¬cond0_2 i) :
    out0_C_5 c i arg2 harg2 arg3 harg3 arg4 harg4 arg5 harg5 arg6 harg6 arg7 harg7 arg8 harg8 arg9 harg9 hc0 hc1 hc2 x0 x1 x2 x3 x4 h
      = roped (k0_pay2 h x2) x3 x4 := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 h)]
  have cov := cover0_C_5 c i arg2 harg2 arg3 harg3 arg4 harg4 arg5 harg5 arg6 harg6 arg7 harg7 arg8 harg8 arg9 harg9 hc0 hc1 hc2 x0 x1 x2 x3 x4 h
  funext z
  refine View.canon_apply_of_pieces (Val := Elt Ideal) (e := .f32) (roped (k0_pay2 h x2) x3 x4) _ (View.PiecesOf.mem ?_) z (cov z)
  unfold kernelRun0_C
  dsimp only
  try sl_unfold_words
  simp only [View.readAt_eq_ld, harg4.read_unread, harg5.read_unread, harg6.read_unread, harg9.read_unread,
    View.ld_unit_zero (S := S1024x2048) whole2, View.ld_unit_zero (S := S2048x512) whole2, View.ld_unit_zero (S := S1024x128) whole2,
    shapeCast_self]
  generalize k0_pay2 h x2 = y
  refine ⟨?_, ?_, ?_, ?_, trivial⟩
  · exact piece y x3 x4 3 (by decide) _ (fun r d => head3_at y x3 x4 r d)
  · exact piece y x3 x4 2 (by decide) _ (fun r d => head2_at y x3 x4 r d)
  · exact piece y x3 x4 1 (by decide) _ (fun r d => head1_at y x3 x4 r d)
  · exact piece y x3 x4 0 (by decide) _ (fun r d => (head0_at y x3 x4 r d).trans (by simp))
/-- and its narrower copy. -/
theorem copy_turned (hc0 : ¬cond0_0 i) (hc1 : cond0_1 i) (hc2 : ¬cond0_2 i) :
    out0_C_6 c i arg2 harg2 arg3 harg3 arg4 harg4 arg5 harg5 arg6 harg6 arg7 harg7 arg8 harg8 arg9 harg9 hc0 hc1 hc2 x0 x1 x2 x3 x4 h
      = roped (k0_pay2 h x2) x3 x4 := by
  unfold out0_C_6
  rw [View.read_writes_eq_canon _ _ _ (cover0_C_6 c i arg2 harg2 arg3 harg3 arg4 harg4 arg5 harg5 arg6 harg6 arg7 harg7 arg8 harg8 arg9 harg9 hc0 hc1 hc2 x0 x1 x2 x3 x4 h)]
  have cov := cover0_C_6 c i arg2 harg2 arg3 harg3 arg4 harg4 arg5 harg5 arg6 harg6 arg7 harg7 arg8 harg8 arg9 harg9 hc0 hc1 hc2 x0 x1 x2 x3 x4 h
  funext z
  refine View.canon_apply_of_pieces (Val := Elt Ideal) (e := .bf16) (roped (k0_pay2 h x2) x3 x4) _ (View.PiecesOf.mem ?_) z (cov z)
  unfold kernelRun0_C
  dsimp only
  try sl_unfold_words
  simp only [View.readAt_eq_ld, harg4.read_unread, harg5.read_unread, harg6.read_unread, harg9.read_unread,
    View.ld_unit_zero (S := S1024x2048) whole2, View.ld_unit_zero (S := S2048x512) whole2, View.ld_unit_zero (S := S1024x128) whole2,
    shapeCast_self]
  generalize k0_pay2 h x2 = y
  refine ⟨?_, ?_, ?_, ?_, trivial⟩
  · exact piece y x3 x4 3 (by decide) _ (fun r d => head3_at y x3 x4 r d)
  · exact piece y x3 x4 2 (by decide) _ (fun r d => head2_at y x3 x4 r d)
  · exact piece y x3 x4 1 (by decide) _ (fun r d => head1_at y x3 x4 r d)
  · exact piece y x3 x4 0 (by decide) _ (fun r d => (head0_at y x3 x4 r d).trans (by simp))

end Cert.Proof.Rows.Kv

end
-- ==== Proof.Rows.KvRef.lean ====
/-
  The keys and values' rows: what the plain text leaves in the results.
-/
module

public import proofs.«01_k».proof.Defs
public import proofs.«01_k».proof.Proof.Down.Norm
public import proofs.«01_k».proof.Proof.Gen.KvRowsRefIdeal.Run
public import proofs.«01_k».proof.Proof.Gen.KvRowsRefIdeal.Read
public import Idealize.ShloMosaic.Lib.Pointwise

@[expose] public section

set_option maxRecDepth 16384

noncomputable section

namespace Cert.Proof.Rows.Kv

open Idealize.ShloMosaic Idealize.ShloMosaic.TcCoe Idealize.ShloMosaic.Tactic Idealize.SL.Sem
open Cert.Proof.Down

/-- The normed row times one column of the weight. -/
def prod (x0 : FVec Ideal ⟨2, ![8192, 2048]⟩ .f32) (x1 : FVec Ideal ⟨1, ![2048]⟩ .f32)
    (x2 : FVec Ideal ⟨2, ![2048, 3072]⟩ .f32) (i : Fin 8192) (q : Fin 3072) : EReal :=
  ∑ k : Fin 2048, normed (fun k => x0 (ix2 i k)) (fun k => x1 (ix1 k)) k * x2 (ix2 k q)

/-- One column of a head turned: `y` the head's columns, `a` and `b` the row's cosines and sines. -/
def turned (y : Fin 128 → EReal) (a b : Fin 64 → EReal) (d : Fin 128) : EReal :=
  if h : d.val < 64 then y d * a ⟨d.val, h⟩ - y ⟨64 + d.val, by omega⟩ * b ⟨d.val, h⟩
  else y d * a ⟨d.val - 64, by omega⟩ + y ⟨d.val - 64, by omega⟩ * b ⟨d.val - 64, by omega⟩

theorem turned_lo (y : Fin 128 → EReal) (a b : Fin 64 → EReal) (d : Fin 128) (h : d.val < 64) :
    turned y a b d = y d * a ⟨d.val, h⟩ - y ⟨64 + d.val, by omega⟩ * b ⟨d.val, h⟩ := dif_pos h

theorem turned_hi (y : Fin 128 → EReal) (a b : Fin 64 → EReal) (d : Fin 128) (h : ¬d.val < 64) :
    turned y a b d = y d * a ⟨d.val - 64, by omega⟩ + y ⟨d.val - 64, by omega⟩ * b ⟨d.val - 64, by omega⟩ := dif_neg h

/-- The row: six sections of four heads, the heads of sections 2 and 4 turned. -/
def result (x0 : FVec Ideal ⟨2, ![8192, 2048]⟩ .f32) (x1 : FVec Ideal ⟨1, ![2048]⟩ .f32)
    (x2 : FVec Ideal ⟨2, ![2048, 3072]⟩ .f32) (x3 x4 : FVec Ideal ⟨2, ![8192, 64]⟩ .f32) (i : Fin 8192) (q : Fin 3072) : EReal :=
  if q.val / 512 = 2 ∨ q.val / 512 = 4 then
    turned (fun d => prod x0 x1 x2 i ⟨q.val / 128 * 128 + d.val, by omega⟩) (fun d => x3 (ix2 i d)) (fun d => x4 (ix2 i d))
      ⟨q.val % 128, by omega⟩
  else prod x0 x1 x2 i q

open Cert.KvRowsRefIdeal Cert.KvRowsRefIdeal.Read

variable (x0 : FVec Ideal ⟨2, ![8192, 2048]⟩ .f32) (x1 : FVec Ideal ⟨1, ![2048]⟩ .f32)
    (x2 : FVec Ideal ⟨2, ![2048, 3072]⟩ .f32) (x3 x4 : FVec Ideal ⟨2, ![8192, 64]⟩ .f32)

/-- The reference's normed rows, at an index. -/
theorem ref_norm_at (i : Fin 8192) (q : Fin 2048) : val_main_v12 (F := Ideal) x0 x1 (ix2 i q)
      = normed (fun k => x0 (ix2 i k)) (fun k => x1 (ix1 k)) q := by
  unfold val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

/-- The reference's product, at an index. -/
theorem ref_mul_at (i : Fin 8192) (q : Fin 3072) : val_main_v13 (F := Ideal) x0 x1 x2 (ix2 i q) = prod x0 x1 x2 i q := by
  have e := ref_norm_at x0 x1
  unfold val_main_v13
  generalize val_main_v12 (F := Ideal) x0 x1 = y at *
  pointwise [prod]
  simp only [e]

/-- A section's head and column, in the row. -/
abbrev col (s : Fin 6) (h : Fin 4) (d : Fin 128) : Fin 3072 := ⟨s.val * 512 + h.val * 128 + d.val, by omega⟩

/-- The product by sections and heads. -/
theorem ref_split_at (i : Fin 8192) (s : Fin 6) (h : Fin 4) (d : Fin 128) :
    val_main_v14 (F := Ideal) x0 x1 x2 (ix4 i s h d) = prod x0 x1 x2 i (col s h d) := by
  refine Eq.trans ?_ (ref_mul_at x0 x1 x2 i (col s h d))
  unfold val_main_v14
  generalize val_main_v13 (F := Ideal) x0 x1 x2 = y at *
  pointwise []

theorem sec0_at (i : Fin 8192) (h : Fin 4) (d : Fin 128) :
    val_main_v18 (F := Ideal) x0 x1 x2 (ix3 i h d) = prod x0 x1 x2 i (col 0 h d) := by
  refine Eq.trans ?_ (ref_split_at x0 x1 x2 i 0 h d)
  unfold val_main_v18 val_main_v17
  generalize val_main_v14 (F := Ideal) x0 x1 x2 = y at *
  pointwise []
theorem sec1_at (i : Fin 8192) (h : Fin 4) (d : Fin 128) :
    val_main_v20 (F := Ideal) x0 x1 x2 (ix3 i h d) = prod x0 x1 x2 i (col 1 h d) := by
  refine Eq.trans ?_ (ref_split_at x0 x1 x2 i 1 h d)
  unfold val_main_v20 val_main_v19
  generalize val_main_v14 (F := Ideal) x0 x1 x2 = y at *
  pointwise []
theorem sec2_at (i : Fin 8192) (h : Fin 4) (d : Fin 128) :
    val_main_v22 (F := Ideal) x0 x1 x2 (ix3 i h d) = prod x0 x1 x2 i (col 2 h d) := by
  refine Eq.trans ?_ (ref_split_at x0 x1 x2 i 2 h d)
  unfold val_main_v22 val_main_v21
  generalize val_main_v14 (F := Ideal) x0 x1 x2 = y at *
  pointwise []
theorem sec3_at (i : Fin 8192) (h : Fin 4) (d : Fin 128) :
    val_main_v37 (F := Ideal) x0 x1 x2 (ix3 i h d) = prod x0 x1 x2 i (col 3 h d) := by
  refine Eq.trans ?_ (ref_split_at x0 x1 x2 i 3 h d)
  unfold val_main_v37 val_main_v36
  generalize val_main_v14 (F := Ideal) x0 x1 x2 = y at *
  pointwise []
theorem sec4_at (i : Fin 8192) (h : Fin 4) (d : Fin 128) :
    val_main_v39 (F := Ideal) x0 x1 x2 (ix3 i h d) = prod x0 x1 x2 i (col 4 h d) := by
  refine Eq.trans ?_ (ref_split_at x0 x1 x2 i 4 h d)
  unfold val_main_v39 val_main_v38
  generalize val_main_v14 (F := Ideal) x0 x1 x2 = y at *
  pointwise []
theorem sec5_at (i : Fin 8192) (h : Fin 4) (d : Fin 128) :
    val_main_v54 (F := Ideal) x0 x1 x2 (ix3 i h d) = prod x0 x1 x2 i (col 5 h d) := by
  refine Eq.trans ?_ (ref_split_at x0 x1 x2 i 5 h d)
  unfold val_main_v54 val_main_v53
  generalize val_main_v14 (F := Ideal) x0 x1 x2 = y at *
  pointwise []

/-- Section 2's heads, turned. -/
theorem turned2_at (i : Fin 8192) (h : Fin 4) (d : Fin 128) : val_main_v35 (F := Ideal) x0 x1 x2 x3 x4 (ix3 i h d)
      = turned (fun d => prod x0 x1 x2 i (col 2 h d)) (fun d => x3 (ix2 i d)) (fun d => x4 (ix2 i d)) d := by
  have e := sec2_at x0 x1 x2
  simp only [← e]
  unfold val_main_v35 val_main_v34 val_main_v33 val_main_v32 val_main_v31 val_main_v30 val_main_v29 val_main_v28 val_main_v27
    val_main_v26 val_main_v25 val_main_v24 val_main_v23 val_main_v16 val_main_v15
  generalize val_main_v22 (F := Ideal) x0 x1 x2 = y at *
  clear e
  pointwise [turned]
  split
  · rfl
  · have hd : 64 + (d.val - 64) = d.val := by omega
    simp only [hd]

/-- Section 4's heads, turned. -/
theorem turned4_at (i : Fin 8192) (h : Fin 4) (d : Fin 128) : val_main_v52 (F := Ideal) x0 x1 x2 x3 x4 (ix3 i h d)
      = turned (fun d => prod x0 x1 x2 i (col 4 h d)) (fun d => x3 (ix2 i d)) (fun d => x4 (ix2 i d)) d := by
  have e := sec4_at x0 x1 x2
  simp only [← e]
  unfold val_main_v52 val_main_v51 val_main_v50 val_main_v49 val_main_v48 val_main_v47 val_main_v46 val_main_v45 val_main_v44
    val_main_v43 val_main_v42 val_main_v41 val_main_v40 val_main_v16 val_main_v15
  generalize val_main_v39 (F := Ideal) x0 x1 x2 = y at *
  clear e
  pointwise [turned]
  split
  · rfl
  · have hd : 64 + (d.val - 64) = d.val := by omega
    simp only [hd]

/-- A section that is not turned, in the row. -/
theorem result_plain (i : Fin 8192) (s : Fin 6) (h : Fin 4) (d : Fin 128) (hs : s.val ≠ 2 ∧ s.val ≠ 4) :
    result x0 x1 x2 x3 x4 i (col s h d) = prod x0 x1 x2 i (col s h d) := by
  unfold result
  refine if_neg ?_
  show ¬((s.val * 512 + h.val * 128 + d.val) / 512 = 2 ∨ (s.val * 512 + h.val * 128 + d.val) / 512 = 4)
  omega

/-- A section that is turned, in the row. -/
theorem result_turned (i : Fin 8192) (s : Fin 6) (h : Fin 4) (d : Fin 128) (hs : s.val = 2 ∨ s.val = 4) :
    result x0 x1 x2 x3 x4 i (col s h d)
      = turned (fun d => prod x0 x1 x2 i (col s h d)) (fun d => x3 (ix2 i d)) (fun d => x4 (ix2 i d)) d := by
  unfold result
  refine (if_pos ?_).trans ?_
  · show (s.val * 512 + h.val * 128 + d.val) / 512 = 2 ∨ (s.val * 512 + h.val * 128 + d.val) / 512 = 4
    omega
  · refine congrArg₂ (fun y e => turned y (fun d => x3 (ix2 i d)) (fun d => x4 (ix2 i d)) e) (funext fun e => ?_) (Fin.ext ?_)
    · refine congrArg (prod x0 x1 x2 i) (Fin.ext ?_)
      show (s.val * 512 + h.val * 128 + d.val) / 128 * 128 + e.val = s.val * 512 + h.val * 128 + e.val
      omega
    · show (s.val * 512 + h.val * 128 + d.val) % 128 = d.val
      omega

/-- The sections side by side again. -/
theorem joined_at (i : Fin 8192) (s : Fin 6) (h : Fin 4) (d : Fin 128) :
    val_main_v61 (F := Ideal) x0 x1 x2 x3 x4 (ix4 i s h d) = result x0 x1 x2 x3 x4 i (col s h d) := by
  have e0 := sec0_at x0 x1 x2 i h d
  have e1 := sec1_at x0 x1 x2 i h d
  have e2 := turned2_at x0 x1 x2 x3 x4 i h d
  have e3 := sec3_at x0 x1 x2 i h d
  have e4 := turned4_at x0 x1 x2 x3 x4 i h d
  have e5 := sec5_at x0 x1 x2 i h d
  have p := fun s hs => result_plain x0 x1 x2 x3 x4 i s h d hs
  have q := fun s hs => result_turned x0 x1 x2 x3 x4 i s h d hs
  unfold val_main_v61 val_main_v60 val_main_v59 val_main_v58 val_main_v57 val_main_v56 val_main_v55
  generalize val_main_v18 (F := Ideal) x0 x1 x2 = y0 at *
  generalize val_main_v20 (F := Ideal) x0 x1 x2 = y1 at *
  generalize val_main_v35 (F := Ideal) x0 x1 x2 x3 x4 = y2 at *
  generalize val_main_v37 (F := Ideal) x0 x1 x2 = y3 at *
  generalize val_main_v52 (F := Ideal) x0 x1 x2 x3 x4 = y4 at *
  generalize val_main_v54 (F := Ideal) x0 x1 x2 = y5 at *
  fin_cases s
  · refine Eq.trans ?_ (e0.trans (p 0 (by decide)).symm)
    clear e0 e1 e2 e3 e4 e5 p q
    pointwise []
  · refine Eq.trans ?_ (e1.trans (p 1 (by decide)).symm)
    clear e0 e1 e2 e3 e4 e5 p q
    pointwise []
  · refine Eq.trans ?_ (e2.trans (q 2 (by decide)).symm)
    clear e0 e1 e2 e3 e4 e5 p q
    pointwise []
  · refine Eq.trans ?_ (e3.trans (p 3 (by decide)).symm)
    clear e0 e1 e2 e3 e4 e5 p q
    pointwise []
  · refine Eq.trans ?_ (e4.trans (q 4 (by decide)).symm)
    clear e0 e1 e2 e3 e4 e5 p q
    pointwise []
  · refine Eq.trans ?_ (e5.trans (p 5 (by decide)).symm)
    clear e0 e1 e2 e3 e4 e5 p q
    pointwise []

/-- The plain text's row. -/
theorem ref_eq : val_main_v62 (F := Ideal) x0 x1 x2 x3 x4 = fun i => result x0 x1 x2 x3 x4 (i 0) (i 1) := by
  have h : ∀ (i : Fin 8192) (q : Fin 3072), val_main_v62 (F := Ideal) x0 x1 x2 x3 x4 (ix2 i q) = result x0 x1 x2 x3 x4 i q := fun i q => by
    have e := joined_at x0 x1 x2 x3 x4 i ⟨q.val / 512, by omega⟩ ⟨q.val / 128 % 4, by omega⟩ ⟨q.val % 128, by omega⟩
    have hq : col ⟨q.val / 512, by omega⟩ ⟨q.val / 128 % 4, by omega⟩ ⟨q.val % 128, by omega⟩ = q := Fin.ext (by
      show q.val / 512 * 512 + q.val / 128 % 4 * 128 + q.val % 128 = q.val
      omega)
    rw [hq] at e
    refine Eq.trans ?_ e
    unfold val_main_v62
    generalize val_main_v61 (F := Ideal) x0 x1 x2 x3 x4 = y at *
    clear e hq
    pointwise []
  funext i
  exact (congrArg _ (ix2_eta i).symm).trans (h (i 0) (i 1))

/-- The narrower copy is the row itself. -/
theorem ref_copy_eq : val_main_v63 (F := Ideal) x0 x1 x2 x3 x4 = fun i => result x0 x1 x2 x3 x4 (i 0) (i 1) := by
  rw [← ref_eq x0 x1 x2 x3 x4]
  rfl

end Cert.Proof.Rows.Kv

end
-- ==== Proof.Rows.Kv.lean ====
/-
  The keys and values' rows: what the call leaves in its two results.
-/
module

public import proofs.«01_k».proof.Defs
public import proofs.«01_k».proof.Proof.Rows.KvBody
public import proofs.«01_k».proof.Proof.Rows.KvRef
public import proofs.«01_k».proof.Proof.Gen.KvRows.Frame
public import proofs.«01_k».proof.Proof.Gen.KvRowsIdeal.Value
public import Idealize.ShloMosaic.Lib.Quiescent
public import Idealize.ShloMosaic.Lib.StableHlo.ReadAt

@[expose] public section

set_option maxRecDepth 16384

noncomputable section

namespace Cert.Proof.Rows.Kv

open Idealize.ShloMosaic Idealize.ShloMosaic.TcCoe Idealize.ShloMosaic.Tactic Idealize.SL.Sem
open Cert.KvRowsIdeal Cert.KvRowsIdeal.Gen Cert.Proof.Down

/-- Where the windows stand. -/
theorem places : ∀ t : Fin grid0.N, win0_0.index t = ![t.val / 6, 0] ∧ win0_1.index t = ![0, 0]
    ∧ win0_2.index t = ![0, t.val % 6] ∧ win0_3.index t = ![t.val / 6, 0] ∧ win0_4.index t = ![t.val / 6, 0]
    ∧ win0_5.index t = ![t.val / 6, t.val % 6] ∧ win0_6.index t = ![t.val / 6, t.val % 6] := by decide +kernel

variable (m : (ℓ : Loc nD τ sig) → Buf (Elt Ideal) ℓ) (c : Dev nD)

/-- The five arguments. -/
abbrev rows : FVec Ideal ⟨2, ![8192, 2048]⟩ .f32 := m ((c : Thread nD τ).loc main_arg0)
abbrev gain : FVec Ideal ⟨1, ![2048]⟩ .f32 := m ((c : Thread nD τ).loc main_arg1)
abbrev weight : FVec Ideal ⟨2, ![2048, 3072]⟩ .f32 := m ((c : Thread nD τ).loc main_arg2)
abbrev cosines : FVec Ideal ⟨2, ![8192, 64]⟩ .f32 := m ((c : Thread nD τ).loc main_arg3)
abbrev sines : FVec Ideal ⟨2, ![8192, 64]⟩ .f32 := m ((c : Thread nD τ).loc main_arg4)

theorem rows_at (t : Fin cfg0.N) (r : Fin 1024) (k : Fin 2048) (i : Fin 8192) (hi : i.val = t.val / 6 * 1024 + r.val) :
    iblk m c 0 t (ix2 r k) = rows m c (ix2 i k) := by
  have hp := places t
  unfold iblk
  refine Eq.trans (congrArg (V m c (Pipeline.arrRef spec0 0)) (?_ : _ = ix2 i k)) (congrFun (V_main_arg0 m c) _)
  blk_ext [hp]

theorem gain_at (t : Fin cfg0.N) (k : Fin 2048) : iblk m c 1 t (ix2 0 k) = gain m c (ix1 k) := by
  have hp := places t
  have e : V m c (Pipeline.arrRef spec0 1) (ix2 0 k) = gain m c (ix1 k) := by
    show StableHlo.after hostOps0 _ (Proc.devRef .tc main_v3) _ = _
    after_reads_at
  refine Eq.trans ?_ e
  unfold iblk
  refine congrArg (V m c (Pipeline.arrRef spec0 1)) ?_
  blk_ext [hp]

theorem weight_at (t : Fin cfg0.N) (k : Fin 2048) (q : Fin 512) (l : Fin 3072) (hl : l.val = t.val % 6 * 512 + q.val) :
    iblk m c 2 t (ix2 k q) = weight m c (ix2 k l) := by
  have hp := places t
  unfold iblk
  refine Eq.trans (congrArg (V m c (Pipeline.arrRef spec0 2)) (?_ : _ = ix2 k l)) (congrFun (V_main_arg2 m c) _)
  blk_ext [hp]

/-- The host code sets the cosines side by side twice, … -/
theorem cosines_at (t : Fin cfg0.N) (r : Fin 1024) (d : Fin 128) (i : Fin 8192) (hi : i.val = t.val / 6 * 1024 + r.val) :
    iblk m c 3 t (ix2 r d) = cosines m c (ix2 i ⟨d.val % 64, by omega⟩) := by
  have hp := places t
  have e : V m c (Pipeline.arrRef spec0 3) (ix2 i d) = cosines m c (ix2 i ⟨d.val % 64, by omega⟩) := by
    show StableHlo.after hostOps0 _ (Proc.devRef .tc main_v0) _ = _
    after_results
    show concatenate S8192x128 1 [⟨S8192x64, cosines m c⟩, ⟨S8192x64, cosines m c⟩] _ (ix2 i d) = _
    generalize cosines m c = y
    pointwise []
    split
    · exact congrArg (fun e => y (ix2 i e)) (Fin.ext (by simp; omega))
    · exact congrArg (fun e => y (ix2 i e)) (Fin.ext (by simp; omega))
  refine Eq.trans ?_ e
  unfold iblk
  refine congrArg (V m c (Pipeline.arrRef spec0 3)) ?_
  blk_ext [hp]

/-- … and the sines with their sign beside themselves. -/
theorem sines_at (t : Fin cfg0.N) (r : Fin 1024) (d : Fin 128) (i : Fin 8192) (hi : i.val = t.val / 6 * 1024 + r.val) :
    iblk m c 4 t (ix2 r d) = if d.val < 64 then -sines m c (ix2 i ⟨d.val % 64, by omega⟩) else sines m c (ix2 i ⟨d.val % 64, by omega⟩) := by
  have hp := places t
  have e : V m c (Pipeline.arrRef spec0 4) (ix2 i d) = if d.val < 64 then -sines m c (ix2 i ⟨d.val % 64, by omega⟩)
      else sines m c (ix2 i ⟨d.val % 64, by omega⟩) := by
    show StableHlo.after hostOps0 _ (Proc.devRef .tc main_v2) _ = _
    after_results
    show concatenate S8192x128 1 [⟨S8192x64, Host.negf (sines m c)⟩, ⟨S8192x64, sines m c⟩] _ (ix2 i d) = _
    generalize sines m c = y
    pointwise []
    split
    · exact congrArg (fun e => -y (ix2 i e)) (Fin.ext (by simp; omega))
    · exact congrArg (fun e => y (ix2 i e)) (Fin.ext (by simp; omega))
  refine Eq.trans ?_ e
  unfold iblk
  refine congrArg (V m c (Pipeline.arrRef spec0 4)) ?_
  blk_ext [hp]

seal outsAt0 k0_pay1 k0_pay2 out0_A_5 out0_B_5 out0_C_5 out0_A_6 out0_B_6 out0_C_6 sout0_A_0 sout0_B_0 sout0_C_0 iblk

/-- What the scratch held before a point. -/
abbrev before (t : Fin cfg0.N) : Vec Ideal S1024x2048 .bf16 :=
  (outsAt0 m c (t.val - 1) (Nat.lt_of_le_of_lt (Nat.sub_le _ _) t.isLt)).2.2

/-- The first point of a run leaves the normed rows, writes their product, and its copy … -/
theorem point_A (t : Fin cfg0.N) (h0 : t.val % 6 = 0) :
    (outsAt0 m c t.val t.isLt).1 = k0_pay2 (k0_pay1 (iblk m c 0 t) (iblk m c 1 t)) (iblk m c 2 t)
    ∧ (outsAt0 m c t.val t.isLt).2.1 = k0_pay2 (k0_pay1 (iblk m c 0 t) (iblk m c 1 t)) (iblk m c 2 t)
    ∧ (outsAt0 m c t.val t.isLt).2.2 = k0_pay1 (iblk m c 0 t) (iblk m c 1 t) := by
  rw [outsAt0_A m c t h0 (by omega) (by omega)]
  exact ⟨out_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) _ _ _,
    copy_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) _ _ _,
    kept_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) _ _ _⟩

/-- … a later point that turns nothing keeps the rows and writes their product, and its copy, … -/
theorem point_B (t : Fin cfg0.N) (h0 : ¬t.val % 6 = 0) (h1 : ¬(t.val % 6 = 2 ∨ t.val % 6 = 4)) :
    (outsAt0 m c t.val t.isLt).1 = k0_pay2 (before m c t) (iblk m c 2 t)
    ∧ (outsAt0 m c t.val t.isLt).2.1 = k0_pay2 (before m c t) (iblk m c 2 t)
    ∧ (outsAt0 m c t.val t.isLt).2.2 = before m c t := by
  rw [outsAt0_B m c t h0 h1 h1]
  refine ⟨out_plain c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (before m c t) _ _ _,
    copy_plain c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (before m c t) _ _ _, ?_⟩
  dsimp only
  unfold sout0_B_0
  rfl

/-- … and a point of a turned section writes it turned. -/
theorem point_C (t : Fin cfg0.N) (h1 : t.val % 6 = 2 ∨ t.val % 6 = 4) :
    (outsAt0 m c t.val t.isLt).1 = roped (k0_pay2 (before m c t) (iblk m c 2 t)) (iblk m c 3 t) (iblk m c 4 t)
    ∧ (outsAt0 m c t.val t.isLt).2.1 = roped (k0_pay2 (before m c t) (iblk m c 2 t)) (iblk m c 3 t) (iblk m c 4 t)
    ∧ (outsAt0 m c t.val t.isLt).2.2 = before m c t := by
  rw [outsAt0_C m c t (by omega) h1 (not_not_intro h1)]
  refine ⟨out_turned c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (before m c t) _ _ _,
    copy_turned c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (before m c t) _ _ _, ?_⟩
  dsimp only
  unfold sout0_C_0
  rfl

/-- Every point writes the product of the rows kept with its columns, turned in sections 2 and 4. -/
theorem out_eq (t : Fin cfg0.N) :
    (outsAt0 m c t.val t.isLt).1 = (if t.val % 6 = 2 ∨ t.val % 6 = 4 then
        roped (k0_pay2 (outsAt0 m c t.val t.isLt).2.2 (iblk m c 2 t)) (iblk m c 3 t) (iblk m c 4 t)
      else k0_pay2 (outsAt0 m c t.val t.isLt).2.2 (iblk m c 2 t)) ∧
    (outsAt0 m c t.val t.isLt).2.1 = (outsAt0 m c t.val t.isLt).1 := by
  by_cases h1 : t.val % 6 = 2 ∨ t.val % 6 = 4
  · obtain ⟨a, b, k⟩ := point_C m c t h1
    rw [if_pos h1, a, b, k]
    exact ⟨rfl, rfl⟩
  · rw [if_neg h1]
    by_cases h0 : t.val % 6 = 0
    · obtain ⟨a, b, k⟩ := point_A m c t h0
      rw [a, b, k]
      exact ⟨rfl, rfl⟩
    · obtain ⟨a, b, k⟩ := point_B m c t h0 h1
      rw [a, b, k]
      exact ⟨rfl, rfl⟩

/-- The rows the first point of a run norms. -/
theorem kept_A_at (t : Fin cfg0.N) (h0 : t.val % 6 = 0) (r : Fin 1024) (k : Fin 2048) (i : Fin 8192)
    (hi : i.val = t.val / 6 * 1024 + r.val) : (outsAt0 m c t.val t.isLt).2.2 (ix2 r k)
      = normed (fun k => rows m c (ix2 i k)) (fun k => gain m c (ix1 k)) k := by
  rw [(point_A m c t h0).2.2, norm_at]
  exact congrArg₂ (fun u v => normed u v k) (funext fun l => rows_at m c t r l i hi) (funext fun l => gain_at m c t l)

/-- A later point keeps the rows. -/
theorem kept_later (t : Fin cfg0.N) (h0 : ¬t.val % 6 = 0) : (outsAt0 m c t.val t.isLt).2.2 = before m c t := by
  by_cases h1 : t.val % 6 = 2 ∨ t.val % 6 = 4
  · exact (point_C m c t h1).2.2
  · exact (point_B m c t h0 h1).2.2

/-- After any point the scratch holds the normed rows of its run. -/
theorem kept (n : ℕ) : ∀ (hn : n < cfg0.N) (r : Fin 1024) (k : Fin 2048) (i : Fin 8192), i.val = n / 6 * 1024 + r.val →
    (outsAt0 m c n hn).2.2 (ix2 r k) = normed (fun k => rows m c (ix2 i k)) (fun k => gain m c (ix1 k)) k := by
  induction n with
  | zero => exact fun hn r k i hi => kept_A_at m c ⟨0, hn⟩ rfl r k i hi
  | succ n ih =>
    intro hn r k i hi
    by_cases h0 : (n + 1) % 6 = 0
    · exact kept_A_at m c ⟨n + 1, hn⟩ h0 r k i hi
    · exact (congrFun (kept_later m c ⟨n + 1, hn⟩ h0) _).trans (ih (Nat.lt_of_succ_lt hn) r k i (by omega))

/-- The product of the rows kept with a point's columns. -/
theorem prod_at (t : Fin cfg0.N) (r : Fin 1024) (q : Fin 512) (i : Fin 8192) (j : Fin 3072) (hi : i.val = t.val / 6 * 1024 + r.val)
    (hj : j.val = t.val % 6 * 512 + q.val) :
    k0_pay2 (F := Ideal) (outsAt0 m c t.val t.isLt).2.2 (iblk m c 2 t) (ix2 r q) = prod (rows m c) (gain m c) (weight m c) i j := by
  rw [mul_at]
  exact Finset.sum_congr rfl fun k _ => congrArg₂ (· * ·) (kept m c t.val t.isLt r k i hi) (weight_at m c t k q _ hj)

/-- What a point writes. -/
theorem written (t : Fin cfg0.N) (r : Fin 1024) (q : Fin 512) (i : Fin 8192) (j : Fin 3072) (hi : i.val = t.val / 6 * 1024 + r.val)
    (hj : j.val = t.val % 6 * 512 + q.val) : (outsAt0 m c t.val t.isLt).1 (ix2 r q)
      = result (rows m c) (gain m c) (weight m c) (cosines m c) (sines m c) i j := by
  rw [(out_eq m c t).1]
  unfold result
  have hs : j.val / 512 = t.val % 6 := by omega
  rw [hs]
  by_cases h1 : t.val % 6 = 2 ∨ t.val % 6 = 4
  · rw [if_pos h1, if_pos h1]
    have hy := prod_at m c t r
    generalize k0_pay2 (F := Ideal) (outsAt0 m c t.val t.isLt).2.2 (iblk m c 2 t) = y at *
    have hq : q.val < 512 := q.isLt
    rw [roped_at, cosines_at m c t r _ i hi, sines_at m c t r _ i hi, hy q i j hi hj]
    by_cases hd : j.val % 128 < 64
    · refine Eq.trans ?_ (turned_lo _ _ _ ⟨j.val % 128, by omega⟩ hd).symm
      rw [if_pos (show q.val % 128 < 64 by omega), mul_neg, ← sub_eq_add_neg,
        hy _ i ⟨j.val / 128 * 128 + (64 + j.val % 128), by omega⟩ hi (by
          show j.val / 128 * 128 + (64 + j.val % 128) = t.val % 6 * 512 + (q.val / 128 * 128 + (q.val % 128 + 64) % 128); omega)]
      have e : q.val % 128 % 64 = j.val % 128 := by omega
      refine congrArg₂ (· - ·) (congrArg₂ (· * ·) (congrArg (prod _ _ _ i) (Fin.ext ?_)) (congrArg (fun d => cosines m c (ix2 i d)) (Fin.ext e)))
        (congrArg₂ (· * ·) rfl (congrArg (fun d => sines m c (ix2 i d)) (Fin.ext e)))
      show j.val = j.val / 128 * 128 + j.val % 128
      omega
    · refine Eq.trans ?_ (turned_hi _ _ _ ⟨j.val % 128, by omega⟩ hd).symm
      rw [if_neg (show ¬q.val % 128 < 64 by omega),
        hy _ i ⟨j.val / 128 * 128 + (j.val % 128 - 64), by omega⟩ hi (by
          show j.val / 128 * 128 + (j.val % 128 - 64) = t.val % 6 * 512 + (q.val / 128 * 128 + (q.val % 128 + 64) % 128); omega)]
      have e : q.val % 128 % 64 = j.val % 128 - 64 := by omega
      refine congrArg₂ (· + ·) (congrArg₂ (· * ·) (congrArg (prod _ _ _ i) (Fin.ext ?_)) (congrArg (fun d => cosines m c (ix2 i d)) (Fin.ext e)))
        (congrArg₂ (· * ·) rfl (congrArg (fun d => sines m c (ix2 i d)) (Fin.ext e)))
      show j.val = j.val / 128 * 128 + j.val % 128
      omega
  · rw [if_neg h1, if_neg h1]
    exact prod_at m c t r q i j hi hj

/-- The row's array after the run. -/
theorem array_eq : (dats m 0 c).arrAt 5 cfg0.N
    = fun i => result (rows m c) (gain m c) (weight m c) (cosines m c) (sines m c) (i 0) (i 1) := by
  refine (dats m 0 c).arrAt_eq_of_covers 5 _ (by decide +kernel) fun t hf y => ?_
  have hp := places t
  blk_simp
  have ht : t.val < 48 := t.isLt
  rw [after0_5]
  have row : ∀ r : Fin 1024, t.val / 6 * 1024 + r.val < 8192 := fun r => by omega
  have col : ∀ q : Fin 512, t.val % 6 * 512 + q.val < 3072 := fun r => by omega
  have e : ((cfg0.win 5).blk t).view.emb y = ix2 ⟨t.val / 6 * 1024 + (y 0).val, row (y 0)⟩ ⟨t.val % 6 * 512 + (y 1).val, col (y 1)⟩ := by
    blk_ext [hp]
  refine Eq.trans ?_ (congrArg (fun i : S8192x3072.Idx =>
    result (rows m c) (gain m c) (weight m c) (cosines m c) (sines m c) (i 0) (i 1)) e).symm
  exact (congrArg _ (ix2_eta y).symm).trans (written m c t (y 0) (y 1) _ _ rfl rfl)

/-- The narrower copy's array after the run. -/
theorem copy_eq : (dats m 0 c).arrAt 6 cfg0.N
    = fun i => result (rows m c) (gain m c) (weight m c) (cosines m c) (sines m c) (i 0) (i 1) := by
  refine (dats m 0 c).arrAt_eq_of_covers 6 _ (by decide +kernel) fun t hf y => ?_
  have hp := places t
  blk_simp
  have ht : t.val < 48 := t.isLt
  rw [after0_6, (out_eq m c t).2]
  have row : ∀ r : Fin 1024, t.val / 6 * 1024 + r.val < 8192 := fun r => by omega
  have col : ∀ q : Fin 512, t.val % 6 * 512 + q.val < 3072 := fun r => by omega
  have e : ((cfg0.win 6).blk t).view.emb y = ix2 ⟨t.val / 6 * 1024 + (y 0).val, row (y 0)⟩ ⟨t.val % 6 * 512 + (y 1).val, col (y 1)⟩ := by
    blk_ext [hp]
  refine Eq.trans ?_ (congrArg (fun i : S8192x3072.Idx =>
    result (rows m c) (gain m c) (weight m c) (cosines m c) (sines m c) (i 0) (i 1)) e).symm
  exact (congrArg _ (ix2_eta y).symm).trans (written m c t (y 0) (y 1) _ _ rfl rfl)

/-- The three programs run and leave their arguments as they were. -/
theorem frame_kv : Cert.quiescent_KvRows := fun m ρ _ => Cert.KvRows.Gen.frame m ρ
theorem frame_ideal : Cert.quiescent_KvRowsIdeal := fun m ρ _ => Cert.KvRowsIdeal.Gen.frame m ρ
theorem frame_ref : Cert.quiescent_KvRowsRefIdeal := fun m ρ _ =>
  (θ_run Cert.KvRowsRefIdeal.defs _ _).mono
    (fun r h => ⟨fun c => (h c).2.2, Idealize.ShloMosaic.sem_eq_zero_of_no_sems (by decide) r.2⟩)
    (Cert.KvRowsRefIdeal.Value.run (F := Ideal) m ρ)

/-- The call, with the host code before it, leaves what the plain norm, product and rotation leave, and its copy. -/
theorem value : Cert.algebraic_KvRowsIdeal_KvRowsRefIdeal := by
  intro m ρ m' ρ' _ hagree
  refine ⟨fun c i => result (rows m c) (gain m c) (weight m c) (cosines m c) (sines m c) (i 0) (i 1),
    fun c i => result (rows m c) (gain m c) (weight m c) (cosines m c) (sines m c) (i 0) (i 1),
    (θ_run Cert.KvRowsIdeal.defs _ _).mono (fun r h c => ⟨(h c).1.trans (array_eq m c), (h c).2.1.trans (copy_eq m c), (h c).2.2⟩)
      (Cert.KvRowsIdeal.Value.run_blocks m ρ),
    (θ_run Cert.KvRowsRefIdeal.defs _ _).mono (fun r h c => ⟨?_, ?_, (h c).2.2⟩) (Cert.KvRowsRefIdeal.Value.run (F := Ideal) m' ρ')⟩
  · obtain ⟨e0, e1, e2, e3, e4⟩ := hagree c
    refine (h c).1.trans ?_
    rw [Cert.KvRowsRefIdeal.Read.val_main_v62_eq, ref_eq, e0, e1, e2, e3, e4]
    rfl
  · obtain ⟨e0, e1, e2, e3, e4⟩ := hagree c
    refine (h c).2.1.trans ?_
    rw [Cert.KvRowsRefIdeal.Read.val_main_v63_eq, ref_copy_eq, e0, e1, e2, e3, e4]
    rfl

end Cert.Proof.Rows.Kv

end
-- ==== Proof.Rows.StepUp.lean ====
/-
  The gated projection up for the samples' rows: what its call leaves in the two results.
-/
module

public import proofs.«01_k».proof.Defs
public import proofs.«01_k».proof.Proof.Up.Words
public import proofs.«01_k».proof.Proof.Gen.FfnUpS.Frame
public import proofs.«01_k».proof.Proof.Gen.FfnUpSIdeal.Frame
public import proofs.«01_k».proof.Proof.Gen.FfnUpSRefIdeal.Run
public import proofs.«01_k».proof.Proof.Gen.FfnUpSRefIdeal.Read
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Rows.UpS

open Idealize.ShloMosaic Idealize.ShloMosaic.TcCoe Idealize.ShloMosaic.Tactic Idealize.SL.Sem
open Cert.Proof.Down Cert.Proof.Up

/-- The first product of one row. -/
def fresh (x0 : FVec Ideal ⟨2, ![128, 2048]⟩ .f32) (x1 : FVec Ideal ⟨1, ![2048]⟩ .f32) (x2 : FVec Ideal ⟨3, ![2, 2048, 5632]⟩ .f32)
    (i : Fin 128) (q : Fin 5632) : EReal :=
  prod (fun k => x0 (ix2 i k)) (fun k => x1 (ix1 k)) x2 q

/-- The first result: three taps over the two rows kept and the new product, the bias, the gate, and the second product. -/
def act (x0 : FVec Ideal ⟨2, ![128, 2048]⟩ .f32) (x1 : FVec Ideal ⟨1, ![2048]⟩ .f32) (x2 x3 : FVec Ideal ⟨3, ![2, 2048, 5632]⟩ .f32)
    (x4 : FVec Ideal ⟨2, ![3, 5632]⟩ .f32) (x5 : FVec Ideal ⟨1, ![5632]⟩ .f32) (x6 : FVec Ideal ⟨3, ![128, 2, 5632]⟩ .f32)
    (i : Fin 128) (q : Fin 5632) : EReal :=
  cell (x6 (ix3 i 0 q)) (x6 (ix3 i 1 q)) (fresh x0 x1 x2 i q) (x4 (ix2 0 q)) (x4 (ix2 1 q)) (x4 (ix2 2 q)) (x5 (ix1 q)) (fresh x0 x1 x3 i q)

/-- The second: the later of the two rows kept, then the new product. -/
def moved (x0 : FVec Ideal ⟨2, ![128, 2048]⟩ .f32) (x1 : FVec Ideal ⟨1, ![2048]⟩ .f32) (x2 : FVec Ideal ⟨3, ![2, 2048, 5632]⟩ .f32)
    (x6 : FVec Ideal ⟨3, ![128, 2, 5632]⟩ .f32) (i : Fin 128) (k : Fin 2) (q : Fin 5632) : EReal :=
  match k with
  | 0 => x6 (ix3 i 1 q)
  | 1 => fresh x0 x1 x2 i q

section Reference

open Cert.FfnUpSRefIdeal Cert.FfnUpSRefIdeal.Read

variable (x0 : FVec Ideal ⟨2, ![128, 2048]⟩ .f32) (x1 : FVec Ideal ⟨1, ![2048]⟩ .f32) (x2 x3 : FVec Ideal ⟨3, ![2, 2048, 5632]⟩ .f32)
  (x4 : FVec Ideal ⟨2, ![3, 5632]⟩ .f32) (x5 : FVec Ideal ⟨1, ![5632]⟩ .f32) (x6 : FVec Ideal ⟨3, ![128, 2, 5632]⟩ .f32)

/-- The plain text's normed rows, … -/
theorem ref_norm_at (i : Fin 128) (q : Fin 2048) :
    val_main_v12 (F := Ideal) x0 x1 (ix2 i q) = normed (fun k => x0 (ix2 i k)) (fun k => x1 (ix1 k)) q := by
  unfold val_main_v12 val_main_v11 val_main_v10 val_main_v9 val_main_v8 val_main_v7 val_main_v6
    val_main_v5 val_main_v4 val_main_v3 val_main_v2 val_main_v1 val_main_v0 val_main_cst val_main_cst_0 val_main_cst_1
  pointwise [normed]

/-- … its first product, … -/
theorem ref_gate_at (i : Fin 128) (q : Fin 5632) : val_main_v15 (F := Ideal) x0 x1 x2 (ix2 i q) = fresh x0 x1 x2 i q := by
  have e := ref_norm_at x0 x1
  unfold val_main_v15 val_main_v14 val_main_v13
  generalize val_main_v12 (F := Ideal) x0 x1 = y at *
  pointwise [fresh, prod]
  simp only [e]

/-- … its second, … -/
theorem ref_up_at (i : Fin 128) (q : Fin 5632) : val_main_v47 (F := Ideal) x0 x1 x2 (ix2 i q) = fresh x0 x1 x2 i q := by
  have e := ref_norm_at x0 x1
  unfold val_main_v47 val_main_v46 val_main_v45
  generalize val_main_v12 (F := Ideal) x0 x1 = y at *
  pointwise [fresh, prod]
  simp only [e]

/-- … and the two rows kept with the new one under them. -/
theorem ref_rows_at (i : Fin 128) (q : Fin 5632) :
    val_main_v17 (F := Ideal) x0 x1 x2 x6 (ix3 i 0 q) = x6 (ix3 i 0 q)
    ∧ val_main_v17 (F := Ideal) x0 x1 x2 x6 (ix3 i 1 q) = x6 (ix3 i 1 q)
    ∧ val_main_v17 (F := Ideal) x0 x1 x2 x6 (ix3 i 2 q) = fresh x0 x1 x2 i q := by
  have e := ref_gate_at x0 x1 x2 i q
  unfold val_main_v17 val_main_v16
  generalize val_main_v15 (F := Ideal) x0 x1 x2 = y at *
  refine ⟨?_, ?_, Eq.trans ?_ e⟩
  · clear e
    pointwise []
  · clear e
    pointwise []
  · clear e
    pointwise []

/-- The plain text's first result. -/
theorem ref_act_at (i : Fin 128) (q : Fin 5632) :
    val_main_v49 (F := Ideal) x0 x1 x2 x3 x4 x5 x6 (ix2 i q) = act x0 x1 x2 x3 x4 x5 x6 i q := by
  have e := ref_up_at x0 x1 x3 i q
  obtain ⟨e0, e1, e2⟩ := ref_rows_at x0 x1 x2 x6 i q
  unfold act
  rw [← e, ← e2]
  refine Eq.trans ?_ (congrArg₂ (fun a b => cell a b _ _ _ _ _ _) e0 e1)
  clear e e0 e1 e2
  unfold val_main_v49 val_main_v48 val_main_v44 val_main_call0_v5 val_main_call0_v4 val_main_call0_cst_0 val_main_call0_v3
    val_main_call0_v2 val_main_call0_cst val_main_call0_v1 val_main_call0_v0 val_main_v43 val_main_v42 val_main_v41 val_main_v40
    val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v22
    val_main_v21 val_main_v20 val_main_v19 val_main_v18
  generalize val_main_v47 (F := Ideal) x0 x1 x3 = y
  generalize val_main_v17 (F := Ideal) x0 x1 x2 x6 = z
  pointwise [cell, gate]

theorem ref_act_eq : val_main_v49 (F := Ideal) x0 x1 x2 x3 x4 x5 x6 = fun i => act x0 x1 x2 x3 x4 x5 x6 (i 0) (i 1) := by
  funext i
  exact (congrArg _ (ix2_eta i).symm).trans (ref_act_at x0 x1 x2 x3 x4 x5 x6 (i 0) (i 1))

/-- The plain text's second result. -/
theorem ref_moved_eq : val_main_v50 (F := Ideal) x0 x1 x2 x6 = fun j => moved x0 x1 x2 x6 (j 0) (j 1) (j 2) := by
  have h : ∀ (i : Fin 128) (k : Fin 2) (q : Fin 5632), val_main_v50 (F := Ideal) x0 x1 x2 x6 (ix3 i k q) = moved x0 x1 x2 x6 i k q := fun i k q => by
    obtain ⟨-, e1, e2⟩ := ref_rows_at x0 x1 x2 x6 i q
    unfold val_main_v50
    generalize val_main_v17 (F := Ideal) x0 x1 x2 x6 = z at *
    fin_cases k
    · refine Eq.trans ?_ e1
      clear e1 e2
      pointwise []
    · refine Eq.trans ?_ e2
      clear e1 e2
      pointwise []
  funext j
  refine Eq.trans (congrArg _ ?_) (h (j 0) (j 1) (j 2))
  funext a
  fin_cases a <;> rfl

end Reference

open Cert.FfnUpSIdeal Cert.FfnUpSIdeal.Gen

/-- A block of rows, normed. -/
theorem norm_at (x : Vec Ideal S128x2048 .f32) (w : Vec Ideal S1x2048 .f32) (r : Fin 128) (q : Fin 2048) :
    k0_pay2 (F := Ideal) x w (ix2 r q) = normed (fun k => x (ix2 r k)) (fun k => w (ix2 0 k)) q := by
  pointwise [k0_pay2, normed]

/-- The two products of normed rows and a block of columns. -/
theorem mul_at (h : Vec Ideal S128x2048 .bf16) (w : Vec Ideal S1x2048x512 .f32) (r : Fin 128) (q : Fin 512) :
    k0_pay3 (F := Ideal) h w (ix2 r q) = ∑ k : Fin 2048, h (ix2 r k) * w (ix3 0 k q) := by
  pointwise [k0_pay3]
theorem up_at (h : Vec Ideal S128x2048 .bf16) (w : Vec Ideal S1x2048x512 .f32) (r : Fin 128) (q : Fin 512) :
    k0_pay4 (F := Ideal) h w (ix2 r q) = ∑ k : Fin 2048, h (ix2 r k) * w (ix3 0 k q) := by
  pointwise [k0_pay4]

/-- What the body writes in the first result's block. -/
abbrev actOf (h : Vec Ideal S128x2048 .bf16) (wg wu : Vec Ideal S1x2048x512 .f32) (cw : Vec Ideal S3x512 .f32) (cb : Vec Ideal S1x512 .f32)
    (a b : Vec Ideal S128x512 .f32) : FVec Ideal S128x512 .bf16 :=
  k0_pay1 (F := Ideal) (k0_pay4 h wu) (k0_pay5 h wg cw a b cb) (k0_pay6 h wg cw a b cb) (Scalar.ofBits .f32 0x3F800000#32)

theorem actOf_at (h : Vec Ideal S128x2048 .bf16) (wg wu : Vec Ideal S1x2048x512 .f32) (cw : Vec Ideal S3x512 .f32) (cb : Vec Ideal S1x512 .f32)
    (a b : Vec Ideal S128x512 .f32) (r : Fin 128) (q : Fin 512) : actOf h wg wu cw cb a b (ix2 r q)
      = cell (a (ix2 r q)) (b (ix2 r q)) (k0_pay3 (F := Ideal) h wg (ix2 r q)) (cw (ix2 0 q)) (cw (ix2 1 q)) (cw (ix2 2 q)) (cb (ix2 0 q))
        (k0_pay4 (F := Ideal) h wu (ix2 r q)) := by
  unfold actOf k0_pay6 k0_pay5
  generalize k0_pay3 (F := Ideal) h wg = g
  generalize k0_pay4 (F := Ideal) h wu = u
  pointwise [k0_pay1, cell, gate]
  rw [zero_sub]

/-- Where the windows stand. -/
theorem places : ∀ t : Fin grid0.N, win0_0.index t = ![0, 0] ∧ win0_1.index t = ![0, 0]
    ∧ win0_2.index t = ![0, 0, t.val] ∧ win0_3.index t = ![0, 0, t.val] ∧ win0_4.index t = ![0, t.val] ∧ win0_5.index t = ![0, t.val]
    ∧ win0_6.index t = ![0, t.val] ∧ win0_7.index t = ![0, t.val + 11]
    ∧ win0_8.index t = ![0, t.val] ∧ win0_9.index t = ![0, t.val] := by decide +kernel

theorem whole2 : (![0, 0] : Fin 2 → Nat) = fun _ => 0 := by funext a; fin_cases a <;> rfl
theorem whole3 : (![0, 0, 0] : Fin 3 → Nat) = fun _ => 0 := by funext a; fin_cases a <;> rfl

variable (m : (ℓ : Loc nD τ sig) → Buf (Elt Ideal) ℓ) (c : Dev nD)

/-- The seven arguments. -/
abbrev rows : FVec Ideal ⟨2, ![128, 2048]⟩ .f32 := m ((c : Thread nD τ).loc main_arg0)
abbrev gain : FVec Ideal ⟨1, ![2048]⟩ .f32 := m ((c : Thread nD τ).loc main_arg1)
abbrev wg : FVec Ideal ⟨3, ![2, 2048, 5632]⟩ .f32 := m ((c : Thread nD τ).loc main_arg2)
abbrev wu : FVec Ideal ⟨3, ![2, 2048, 5632]⟩ .f32 := m ((c : Thread nD τ).loc main_arg3)
abbrev taps : FVec Ideal ⟨2, ![3, 5632]⟩ .f32 := m ((c : Thread nD τ).loc main_arg4)
abbrev bias : FVec Ideal ⟨1, ![5632]⟩ .f32 := m ((c : Thread nD τ).loc main_arg5)
abbrev past : FVec Ideal ⟨3, ![128, 2, 5632]⟩ .f32 := m ((c : Thread nD τ).loc main_arg6)

theorem rows_at (t : Fin cfg0.N) (r : Fin 128) (k : Fin 2048) : iblk m c 0 t (ix2 r k) = rows m c (ix2 r k) := by
  have hp := places t
  unfold iblk
  refine Eq.trans (congrArg (V m c (Pipeline.arrRef spec0 0)) (?_ : _ = ix2 r k)) (congrFun (V_main_arg0 m c) _)
  blk_ext [hp]

theorem gain_at (t : Fin cfg0.N) (k : Fin 2048) : iblk m c 1 t (ix2 0 k) = gain m c (ix1 k) := by
  have hp := places t
  have e : V m c (Pipeline.arrRef spec0 1) (ix2 0 k) = gain m c (ix1 k) := by
    show StableHlo.after hostOps0 _ (Proc.devRef .tc main_v1) _ = _
    after_reads_at
  refine Eq.trans ?_ e
  unfold iblk
  refine congrArg (V m c (Pipeline.arrRef spec0 1)) ?_
  blk_ext [hp]

theorem wg_at (t : Fin cfg0.N) (k : Fin 2048) (q : Fin 512) (l : Fin 5632) (hl : l.val = t.val * 512 + q.val) :
    iblk m c 2 t (ix3 0 k q) = wg m c (ix3 0 k l) := by
  have hp := places t
  unfold iblk
  refine Eq.trans (congrArg (V m c (Pipeline.arrRef spec0 2)) (?_ : _ = ix3 0 k l)) (congrFun (V_main_arg2 m c) _)
  blk_ext [hp]

theorem wu_at (t : Fin cfg0.N) (k : Fin 2048) (q : Fin 512) (l : Fin 5632) (hl : l.val = t.val * 512 + q.val) :
    iblk m c 3 t (ix3 0 k q) = wu m c (ix3 0 k l) := by
  have hp := places t
  unfold iblk
  refine Eq.trans (congrArg (V m c (Pipeline.arrRef spec0 3)) (?_ : _ = ix3 0 k l)) (congrFun (V_main_arg3 m c) _)
  blk_ext [hp]

theorem taps_at (t : Fin cfg0.N) (k : Fin 3) (q : Fin 512) (l : Fin 5632) (hl : l.val = t.val * 512 + q.val) :
    iblk m c 4 t (ix2 k q) = taps m c (ix2 k l) := by
  have hp := places t
  unfold iblk
  refine Eq.trans (congrArg (V m c (Pipeline.arrRef spec0 4)) (?_ : _ = ix2 k l)) (congrFun (V_main_arg4 m c) _)
  blk_ext [hp]

theorem bias_at (t : Fin cfg0.N) (q : Fin 512) (l : Fin 5632) (hl : l.val = t.val * 512 + q.val) :
    iblk m c 5 t (ix2 0 q) = bias m c (ix1 l) := by
  have hp := places t
  have e : V m c (Pipeline.arrRef spec0 5) (ix2 0 l) = bias m c (ix1 l) := by
    show StableHlo.after hostOps0 _ (Proc.devRef .tc main_v2) _ = _
    after_reads_at
  refine Eq.trans ?_ e
  unfold iblk
  refine congrArg (V m c (Pipeline.arrRef spec0 5)) ?_
  blk_ext [hp]

/-- The earlier of the two rows kept … -/
theorem first_at (t : Fin cfg0.N) (r : Fin 128) (q : Fin 512) (l : Fin 5632) (hl : l.val = t.val * 512 + q.val) :
    iblk m c 6 t (ix2 r q) = past m c (ix3 r 0 l) := by
  have hp := places t
  have e : V m c (Pipeline.arrRef spec0 6) (ix2 r ⟨l.val, by omega⟩) = past m c (ix3 r 0 l) := by
    show StableHlo.after hostOps0 _ (Proc.devRef .tc main_v0) _ = _
    after_results
    show shapeCast S128x11264 (past m c) _ (ix2 r ⟨l.val, _⟩) = _
    generalize past m c = y
    pointwise []
    exact congrArg₂ (fun k q => y (ix3 r k q)) (Fin.ext (by show l.val / 5632 = 0; omega)) (Fin.ext (by show l.val % 5632 = l.val; omega))
  refine Eq.trans ?_ e
  unfold iblk
  refine congrArg (V m c (Pipeline.arrRef spec0 6)) ?_
  blk_ext [hp]

/-- … and the later, which stand side by side. -/
theorem second_at (t : Fin cfg0.N) (r : Fin 128) (q : Fin 512) (l : Fin 5632) (hl : l.val = t.val * 512 + q.val) :
    iblk m c 7 t (ix2 r q) = past m c (ix3 r 1 l) := by
  have hp := places t
  have e : V m c (Pipeline.arrRef spec0 7) (ix2 r ⟨5632 + l.val, by omega⟩) = past m c (ix3 r 1 l) := by
    show StableHlo.after hostOps0 _ (Proc.devRef .tc main_v0) _ = _
    after_results
    show shapeCast S128x11264 (past m c) _ (ix2 r ⟨5632 + l.val, _⟩) = _
    generalize past m c = y
    pointwise []
    exact congrArg (fun k => y (ix3 r k l)) (Fin.ext (by show (5632 + l.val) / 5632 = 1; omega))
  refine Eq.trans ?_ e
  unfold iblk
  refine congrArg (V m c (Pipeline.arrRef spec0 7)) ?_
  blk_ext [hp]

variable (i : grid0.Coords) (arg2 : Memref sig .tc .vmem S128x2048 .f32) (harg2 : arg2.IsWhole)
  (arg3 : Memref sig .tc .vmem S1x2048 .f32) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S3x512 .f32) (harg6 : arg6.IsWhole)
  (arg7 : Memref sig .tc .vmem S1x512 .f32) (harg7 : arg7.IsWhole)
  (arg8 : Memref sig .tc .vmem S128x512 .f32) (harg8 : arg8.IsWhole)
  (arg9 : Memref sig .tc .vmem S128x512 .f32) (harg9 : arg9.IsWhole)
  (arg10 : Memref sig .tc .vmem S128x512 .bf16) (harg10 : arg10.IsWhole)
  (arg11 : Memref sig .tc .vmem S128x512 .f32) (harg11 : arg11.IsWhole)
  (arg12 : Memref sig .tc .vmem S128x2048 .bf16) (harg12 : arg12.IsWhole)
  (x0 : Vec Ideal S128x2048 .f32) (x1 : Vec Ideal S1x2048 .f32) (x2 x3 : Vec Ideal S1x2048x512 .f32)
  (x4 : Vec Ideal S3x512 .f32) (x5 : Vec Ideal S1x512 .f32) (x6 x7 : Vec Ideal S128x512 .f32) (h : Vec Ideal S128x2048 .bf16)

/-- The first point keeps the normed rows … -/
theorem kept_first (hc : cond0_0 i) :
    sout0_A_0 c i arg2 harg2 arg3 harg3 arg4 harg4 arg5 harg5 arg6 harg6 arg7 harg7 arg8 harg8 arg9 harg9 arg10 harg10 arg11 harg11 arg12 harg12
      hc x0 x1 x2 x3 x4 x5 x6 x7 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9
    arg10 harg10 arg11 harg11 arg12 harg12 hc x0 x1 x2 x3 x4 x5 x6 x7)]
  unfold kernelRun0_A
  dsimp only
  try sl_unfold_words
  rw [View.canon_unit_zero whole2]
  simp only [View.readAt_eq_ld, harg2.read_unread, harg3.read_unread, View.ld_unit_zero (S := S128x2048) whole2,
    View.ld_unit_zero (S := S1x2048) whole2, shapeCast_self]

/-- … and writes the first result's block … -/
theorem act_first (hc : cond0_0 i) :
    out0_A_8 c i arg2 harg2 arg3 harg3 arg4 harg4 arg5 harg5 arg6 harg6 arg7 harg7 arg8 harg8 arg9 harg9 arg10 harg10 arg11 harg11 arg12 harg12
      hc x0 x1 x2 x3 x4 x5 x6 x7 = actOf (k0_pay2 x0 x1) x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9
    arg10 harg10 arg11 harg11 arg12 harg12 hc x0 x1 x2 x3 x4 x5 x6 x7)]
  unfold kernelRun0_A
  dsimp only
  try sl_unfold_words
  rw [View.canon_unit_zero whole2]
  simp only [View.readCov_unit_zero (S := S128x2048) _ whole2, View.readAt_eq_ld, harg2.read_unread, harg3.read_unread, harg4.read_unread,
    harg5.read_unread, harg6.read_unread, harg7.read_unread, harg8.read_unread, harg9.read_unread,
    View.ld_unit_zero (S := S128x2048) whole2, View.ld_unit_zero (S := S1x2048) whole2, View.ld_unit_zero (S := S1x2048x512) whole3,
    View.ld_unit_zero (S := S3x512) whole2, View.ld_unit_zero (S := S1x512) whole2, View.ld_unit_zero (S := S128x512) whole2, shapeCast_self]

/-- … and the new product's; -/
theorem new_first (hc : cond0_0 i) :
    out0_A_9 c i arg2 harg2 arg3 harg3 arg4 harg4 arg5 harg5 arg6 harg6 arg7 harg7 arg8 harg8 arg9 harg9 arg10 harg10 arg11 harg11 arg12 harg12
      hc x0 x1 x2 x3 x4 x5 x6 x7 = k0_pay3 (k0_pay2 x0 x1) x2 := by
  unfold out0_A_9
  rw [View.read_writes_eq_canon _ _ _ (cover0_A_9 c i arg2 harg2 arg3 harg3 arg4 harg4 arg5 harg5 arg6 harg6 arg7 harg7 arg8 harg8 arg9 harg9
    arg10 harg10 arg11 harg11 arg12 harg12 hc x0 x1 x2 x3 x4 x5 x6 x7)]
  unfold kernelRun0_A
  dsimp only
  try sl_unfold_words
  rw [View.canon_unit_zero whole2]
  simp only [View.readCov_unit_zero (S := S128x2048) _ whole2, View.readAt_eq_ld, harg2.read_unread, harg3.read_unread, harg4.read_unread,
    View.ld_unit_zero (S := S128x2048) whole2, View.ld_unit_zero (S := S1x2048) whole2, View.ld_unit_zero (S := S1x2048x512) whole3, shapeCast_self]

/-- a later point writes the same from the rows kept: the first result's block … -/
theorem act_later (hc : ¬cond0_0 i) :
    out0_B_8 c i arg2 harg2 arg3 harg3 arg4 harg4 arg5 harg5 arg6 harg6 arg7 harg7 arg8 harg8 arg9 harg9 arg10 harg10 arg11 harg11 arg12 harg12
      hc x0 x1 x2 x3 x4 x5 x6 x7 h = actOf h x2 x3 x4 x5 x6 x7 := by
  unfold out0_B_8
  rw [View.read_writes_eq_canon _ _ _ (cover0_B_8 c i arg2 harg2 arg3 harg3 arg4 harg4 arg5 harg5 arg6 harg6 arg7 harg7 arg8 harg8 arg9 harg9
    arg10 harg10 arg11 harg11 arg12 harg12 hc x0 x1 x2 x3 x4 x5 x6 x7 h)]
  unfold kernelRun0_B
  dsimp only
  try sl_unfold_words
  rw [View.canon_unit_zero whole2]
  simp only [View.readAt_eq_ld, harg4.read_unread, harg5.read_unread, harg6.read_unread, harg7.read_unread, harg8.read_unread,
    harg9.read_unread, harg12.read_unread,
    View.ld_unit_zero (S := S128x2048) whole2, View.ld_unit_zero (S := S1x2048x512) whole3,
    View.ld_unit_zero (S := S3x512) whole2, View.ld_unit_zero (S := S1x512) whole2, View.ld_unit_zero (S := S128x512) whole2, shapeCast_self]

/-- … and the new product's. -/
theorem new_later (hc : ¬cond0_0 i) :
    out0_B_9 c i arg2 harg2 arg3 harg3 arg4 harg4 arg5 harg5 arg6 harg6 arg7 harg7 arg8 harg8 arg9 harg9 arg10 harg10 arg11 harg11 arg12 harg12
      hc x0 x1 x2 x3 x4 x5 x6 x7 h = k0_pay3 h x2 := by
  unfold out0_B_9
  rw [View.read_writes_eq_canon _ _ _ (cover0_B_9 c i arg2 harg2 arg3 harg3 arg4 harg4 arg5 harg5 arg6 harg6 arg7 harg7 arg8 harg8 arg9 harg9
    arg10 harg10 arg11 harg11 arg12 harg12 hc x0 x1 x2 x3 x4 x5 x6 x7 h)]
  unfold kernelRun0_B
  dsimp only
  try sl_unfold_words
  rw [View.canon_unit_zero whole2]
  simp only [View.readAt_eq_ld, harg4.read_unread, harg12.read_unread,
    View.ld_unit_zero (S := S128x2048) whole2, View.ld_unit_zero (S := S1x2048x512) whole3, shapeCast_self]

seal outsAt0 k0_pay1 k0_pay2 k0_pay3 k0_pay4 k0_pay5 k0_pay6 out0_A_8 out0_B_8 out0_A_9 out0_B_9 sout0_A_0 sout0_B_0 iblk

/-- What the scratch held before a point. -/
abbrev before (t : Fin cfg0.N) : Vec Ideal S128x2048 .bf16 :=
  (outsAt0 m c (t.val - 1) (Nat.lt_of_le_of_lt (Nat.sub_le _ _) t.isLt)).2.2

/-- The first point, … -/
theorem point_A (t : Fin cfg0.N) (h0 : t.val % 11 = 0) :
    (outsAt0 m c t.val t.isLt).1 = actOf (k0_pay2 (iblk m c 0 t) (iblk m c 1 t)) (iblk m c 2 t) (iblk m c 3 t) (iblk m c 4 t) (iblk m c 5 t)
      (iblk m c 6 t) (iblk m c 7 t)
    ∧ (outsAt0 m c t.val t.isLt).2.1 = k0_pay3 (k0_pay2 (iblk m c 0 t) (iblk m c 1 t)) (iblk m c 2 t)
    ∧ (outsAt0 m c t.val t.isLt).2.2 = k0_pay2 (iblk m c 0 t) (iblk m c 1 t) := by
  rw [outsAt0_A m c t h0]
  exact ⟨act_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) _,
    new_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) _,
    kept_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) _⟩

/-- … and the later ones. -/
theorem point_B (t : Fin cfg0.N) (h0 : ¬t.val % 11 = 0) :
    (outsAt0 m c t.val t.isLt).1 = actOf (before m c t) (iblk m c 2 t) (iblk m c 3 t) (iblk m c 4 t) (iblk m c 5 t)
      (iblk m c 6 t) (iblk m c 7 t)
    ∧ (outsAt0 m c t.val t.isLt).2.1 = k0_pay3 (before m c t) (iblk m c 2 t)
    ∧ (outsAt0 m c t.val t.isLt).2.2 = before m c t := by
  rw [outsAt0_B m c t h0]
  refine ⟨act_later c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) (before m c t) _,
    new_later c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) (before m c t) _, ?_⟩
  dsimp only
  unfold sout0_B_0
  rfl

/-- Every point writes from the rows it leaves. -/
theorem out_eq (t : Fin cfg0.N) :
    (outsAt0 m c t.val t.isLt).1 = actOf (outsAt0 m c t.val t.isLt).2.2 (iblk m c 2 t) (iblk m c 3 t) (iblk m c 4 t) (iblk m c 5 t)
      (iblk m c 6 t) (iblk m c 7 t)
    ∧ (outsAt0 m c t.val t.isLt).2.1 = k0_pay3 (outsAt0 m c t.val t.isLt).2.2 (iblk m c 2 t) := by
  by_cases h0 : t.val % 11 = 0
  · obtain ⟨a, b, k⟩ := point_A m c t h0
    rw [a, b, k]
    exact ⟨rfl, rfl⟩
  · obtain ⟨a, b, k⟩ := point_B m c t h0
    rw [a, b, k]
    exact ⟨rfl, rfl⟩

/-- The rows the first point norms. -/
theorem kept_A_at (t : Fin cfg0.N) (h0 : t.val % 11 = 0) (r : Fin 128) (k : Fin 2048) : (outsAt0 m c t.val t.isLt).2.2 (ix2 r k)
      = normed (fun k => rows m c (ix2 r k)) (fun k => gain m c (ix1 k)) k := by
  rw [(point_A m c t h0).2.2, norm_at]
  exact congrArg₂ (fun u v => normed u v k) (funext fun l => rows_at m c t r l) (funext fun l => gain_at m c t l)

/-- After any point the scratch holds the normed rows. -/
theorem kept (n : ℕ) : ∀ (hn : n < cfg0.N) (r : Fin 128) (k : Fin 2048),
    (outsAt0 m c n hn).2.2 (ix2 r k) = normed (fun k => rows m c (ix2 r k)) (fun k => gain m c (ix1 k)) k := by
  induction n with
  | zero => exact fun hn r k => kept_A_at m c ⟨0, hn⟩ rfl r k
  | succ n ih =>
    intro hn r k
    by_cases h0 : (n + 1) % 11 = 0
    · exact kept_A_at m c ⟨n + 1, hn⟩ h0 r k
    · exact (congrFun (point_B m c ⟨n + 1, hn⟩ h0).2.2 _).trans (ih (Nat.lt_of_succ_lt hn) r k)

/-- The two products of a point. -/
theorem fresh_at (t : Fin cfg0.N) (r : Fin 128) (q : Fin 512) (j : Fin 5632) (hj : j.val = t.val * 512 + q.val) :
    k0_pay3 (F := Ideal) (outsAt0 m c t.val t.isLt).2.2 (iblk m c 2 t) (ix2 r q) = fresh (rows m c) (gain m c) (wg m c) r j := by
  rw [mul_at]
  exact Finset.sum_congr rfl fun k _ => congrArg₂ (· * ·) (kept m c t.val t.isLt r k) (wg_at m c t k q _ hj)
theorem second_prod_at (t : Fin cfg0.N) (r : Fin 128) (q : Fin 512) (j : Fin 5632) (hj : j.val = t.val * 512 + q.val) :
    k0_pay4 (F := Ideal) (outsAt0 m c t.val t.isLt).2.2 (iblk m c 3 t) (ix2 r q) = fresh (rows m c) (gain m c) (wu m c) r j := by
  rw [up_at]
  exact Finset.sum_congr rfl fun k _ => congrArg₂ (· * ·) (kept m c t.val t.isLt r k) (wu_at m c t k q _ hj)

/-- What a point writes in the first result … -/
theorem written (t : Fin cfg0.N) (r : Fin 128) (q : Fin 512) (j : Fin 5632) (hj : j.val = t.val * 512 + q.val) :
    (outsAt0 m c t.val t.isLt).1 (ix2 r q)
      = act (rows m c) (gain m c) (wg m c) (wu m c) (taps m c) (bias m c) (past m c) r j := by
  rw [(out_eq m c t).1, actOf_at, fresh_at m c t r q j hj, second_prod_at m c t r q j hj, taps_at m c t 0 q j hj, taps_at m c t 1 q j hj,
    taps_at m c t 2 q j hj, bias_at m c t q j hj, first_at m c t r q j hj, second_at m c t r q j hj]
  rfl

/-- … which after the run is the whole of it. -/
theorem act_eq : (dats m 0 c).arrAt 8 cfg0.N
    = fun i => act (rows m c) (gain m c) (wg m c) (wu m c) (taps m c) (bias m c) (past m c) (i 0) (i 1) := by
  refine (dats m 0 c).arrAt_eq_of_covers 8 _ (by decide +kernel) fun t hf y => ?_
  have hp := places t
  blk_simp
  have ht : t.val < 11 := t.isLt
  rw [after0_8]
  have col : ∀ q : Fin 512, t.val * 512 + q.val < 5632 := fun r => by omega
  have e : ((cfg0.win 8).blk t).view.emb y = ix2 (y 0) ⟨t.val * 512 + (y 1).val, col (y 1)⟩ := by
    blk_ext [hp]
  refine Eq.trans ?_ (congrArg (fun i : S128x5632.Idx =>
    act (rows m c) (gain m c) (wg m c) (wu m c) (taps m c) (bias m c) (past m c) (i 0) (i 1)) e).symm
  exact (congrArg _ (ix2_eta y).symm).trans (written m c t (y 0) (y 1) _ rfl)

/-- The new product's array after the run. -/
theorem new_eq : (dats m 0 c).arrAt 9 cfg0.N = fun i => fresh (rows m c) (gain m c) (wg m c) (i 0) (i 1) := by
  refine (dats m 0 c).arrAt_eq_of_covers 9 _ (by decide +kernel) fun t hf y => ?_
  have hp := places t
  blk_simp
  have ht : t.val < 11 := t.isLt
  rw [after0_9, (out_eq m c t).2]
  have col : ∀ q : Fin 512, t.val * 512 + q.val < 5632 := fun r => by omega
  have e : ((cfg0.win 9).blk t).view.emb y = ix2 (y 0) ⟨t.val * 512 + (y 1).val, col (y 1)⟩ := by
    blk_ext [hp]
  refine Eq.trans ?_ (congrArg (fun i : S128x5632.Idx => fresh (rows m c) (gain m c) (wg m c) (i 0) (i 1)) e).symm
  exact (congrArg _ (ix2_eta y).symm).trans (fresh_at m c t (y 0) (y 1) _ rfl)

/-- The host code after the call leaves the moved rows. -/
theorem tail_eq : Pipeline.afterTail₀ cfgs (dats m) 0 (V0 m) [hostOps1] c main_v8
    = fun j => moved (rows m c) (gain m c) (wg m c) (past m c) (j 0) (j 1) (j 2) := by
  have e : Pipeline.withArrays (cfgs 0).spec c (V0 m c) (fun w => (dats m 0 c).arrAt w (cfgs 0).N) (Proc.devRef .tc main_v3_1)
      = fun i => fresh (rows m c) (gain m c) (wg m c) (i 0) (i 1) :=
    ((dats m 0 c).withArrays_arrAt (by decide) (V0 m c) (fun w => A_eq m c w) 9).trans (new_eq m c)
  have e6 : Pipeline.withArrays (cfgs 0).spec c (V0 m c) (fun w => (dats m 0 c).arrAt w (cfgs 0).N) (Proc.devRef .tc main_arg6)
      = past m c := by
    rw [Pipeline.withArrays_of_ne _ c (V0 m c) _ main_arg6 (by exact (by decide : ∀ w, Pipeline.arrRef spec0 w ≠ main_arg6))]
    show StableHlo.after hostOps0 _ (Proc.devRef .tc main_arg6) = _
    after_results
  unfold Pipeline.afterTail₀
  generalize Pipeline.withArrays (cfgs 0).spec c (V0 m c) (fun w => (dats m 0 c).arrAt w (cfgs 0).N) = U at e e6
  show StableHlo.after hostOps1 U (Proc.devRef .tc main_v8) = _
  after_results
  rw [e, e6]
  have h : ∀ (i : Fin 128) (k : Fin 2) (q : Fin 5632), concatenate S128x2x5632 1
      [⟨S128x1x5632, broadcastInDim S128x1x5632 ![0, 2] bcast_S128x5632_S128x1x5632_0_2
          (shapeCast S128x5632 (extractStridedSlice S128x1x5632 ![0, 1, 0] (past m c) slices_S128x2x5632_S128x1x5632_0_1_0)
            shapeCasts_S128x1x5632_S128x5632)⟩,
        ⟨S128x1x5632, broadcastInDim S128x1x5632 ![0, 2] bcast_S128x5632_S128x1x5632_0_2
          (fun i : S128x5632.Idx => fresh (rows m c) (gain m c) (wg m c) (i 0) (i 1))⟩]
      concatenates_S128x1x5632_S128x1x5632_S128x2x5632_d1 (ix3 i k q)
        = moved (rows m c) (gain m c) (wg m c) (past m c) i k q := by
    intro i k q
    generalize past m c = y
    generalize hg : (fun i : S128x5632.Idx => fresh (rows m c) (gain m c) (wg m c) (i 0) (i 1)) = g
    have eg : ∀ (i : Fin 128) (q : Fin 5632), fresh (rows m c) (gain m c) (wg m c) i q = g (ix2 i q) := fun i q => by
      rw [← hg]; rfl
    fin_cases k
    · show _ = y (ix3 i 1 q)
      pointwise []
    · show _ = fresh _ _ _ i q
      rw [eg]
      pointwise []
  funext j
  refine Eq.trans (congrArg _ ?_) (h (j 0) (j 1) (j 2))
  funext a
  fin_cases a <;> rfl

/-- The three programs run and leave their arguments as they were. -/
theorem frame_ups : Cert.quiescent_FfnUpS := fun m ρ _ => Cert.FfnUpS.Gen.frame m ρ
theorem frame_ideal : Cert.quiescent_FfnUpSIdeal := fun m ρ _ => Cert.FfnUpSIdeal.Gen.frame m ρ
theorem frame_ref : Cert.quiescent_FfnUpSRefIdeal := fun m ρ _ =>
  (θ_run Cert.FfnUpSRefIdeal.defs _ _).mono
    (fun r h => ⟨fun c => (h c).2.2, Idealize.ShloMosaic.sem_eq_zero_of_no_sems (by decide) r.2⟩)
    (Cert.FfnUpSRefIdeal.Value.run (F := Ideal) m ρ)

/-- The call, with the host code around it, leaves what the plain convolution and gate leave. -/
theorem value : Cert.algebraic_FfnUpSIdeal_FfnUpSRefIdeal := by
  intro m ρ m' ρ' _ hagree
  refine ⟨fun c i => act (rows m c) (gain m c) (wg m c) (wu m c) (taps m c) (bias m c) (past m c) (i 0) (i 1),
    fun c j => moved (rows m c) (gain m c) (wg m c) (past m c) (j 0) (j 1) (j 2),
    (θ_run Cert.FfnUpSIdeal.defs _ _).mono (fun r h c => ⟨((h c).1 8).trans (act_eq m c),
      ((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
      (Gen.run_main m ρ),
    (θ_run Cert.FfnUpSRefIdeal.defs _ _).mono (fun r h c => ⟨?_, ?_, (h c).2.2⟩) (Cert.FfnUpSRefIdeal.Value.run (F := Ideal) m' ρ')⟩
  · obtain ⟨e0, e1, e2, e3, e4, e5, e6⟩ := hagree c
    refine (h c).1.trans ?_
    rw [Cert.FfnUpSRefIdeal.Read.val_main_v49_eq, ref_act_eq, e0, e1, e2, e3, e4, e5, e6]
    rfl
  · obtain ⟨e0, e1, e2, e3, e4, e5, e6⟩ := hagree c
    refine (h c).2.1.trans ?_
    rw [Cert.FfnUpSRefIdeal.Read.val_main_v50_eq, ref_moved_eq, e0, e1, e2, e6]
    rfl

end Cert.Proof.Rows.UpS

end
-- ==== Proof.lean ====
module

public import proofs.«01_k».proof.Defs
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinIdeal.Value
public import proofs.«01_k».proof.Proof.Gen.WinRefIdeal.Run
public import proofs.«01_k».proof.Proof.Gen.WinRefIdeal.Read
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInRefIdeal
public import proofs.«01_k».proof.Proof.Gen.GdnInRefIdeal.Run
public import proofs.«01_k».proof.Proof.Gen.GdnInRefIdeal.Read
public import proofs.«01_k».proof.Proof.Gen.GdnInS
public import proofs.«01_k».proof.Proof.Gen.GdnInS.Skeleton
public import proofs.«01_k».proof.Proof.Gen.GdnInS.Launch
public import proofs.«01_k».proof.Proof.Gen.GdnInS.Points
public import proofs.«01_k».proof.Proof.Gen.GdnInS.Frame
public import proofs.«01_k».proof.Proof.Gen.GdnInSIdeal
public import proofs.«01_k».proof.Proof.Gen.GdnInSIdeal.Skeleton
public import proofs.«01_k».proof.Proof.Gen.GdnInSIdeal.Launch
public import proofs.«01_k».proof.Proof.Gen.GdnInSIdeal.Points
public import proofs.«01_k».proof.Proof.Gen.GdnInSIdeal.Frame
public import proofs.«01_k».proof.Proof.Gen.GdnInSRefIdeal
public import proofs.«01_k».proof.Proof.Gen.GdnInSRefIdeal.Run
public import proofs.«01_k».proof.Proof.Gen.GdnInSRefIdeal.Read
public import proofs.«01_k».proof.Proof.Gen.NsaQ
public import proofs.«01_k».proof.Proof.Gen.NsaQ.Skeleton
public import proofs.«01_k».proof.Proof.Gen.NsaQ.Launch
public import proofs.«01_k».proof.Proof.Gen.NsaQ.Points
public import proofs.«01_k».proof.Proof.Gen.NsaQ.Frame
public import proofs.«01_k».proof.Proof.Gen.NsaQIdeal
public import proofs.«01_k».proof.Proof.Gen.NsaQIdeal.Skeleton
public import proofs.«01_k».proof.Proof.Gen.NsaQIdeal.Launch
public import proofs.«01_k».proof.Proof.Gen.NsaQIdeal.Points
public import proofs.«01_k».proof.Proof.Gen.NsaQIdeal.Frame
public import proofs.«01_k».proof.Proof.Gen.NsaQIdeal.Value
public import proofs.«01_k».proof.Proof.Gen.NsaQRefIdeal
public import proofs.«01_k».proof.Proof.Gen.NsaQRefIdeal.Run
public import proofs.«01_k».proof.Proof.Gen.NsaQRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnDownN
public import proofs.«01_k».proof.Proof.Gen.FfnDownN.Skeleton
public import proofs.«01_k».proof.Proof.Gen.FfnDownN.Launch
public import proofs.«01_k».proof.Proof.Gen.FfnDownN.Points
public import proofs.«01_k».proof.Proof.Gen.FfnDownN.Frame
public import proofs.«01_k».proof.Proof.Gen.FfnDownNIdeal
public import proofs.«01_k».proof.Proof.Gen.FfnDownNIdeal.Skeleton
public import proofs.«01_k».proof.Proof.Gen.FfnDownNIdeal.Launch
public import proofs.«01_k».proof.Proof.Gen.FfnDownNIdeal.Points
public import proofs.«01_k».proof.Proof.Gen.FfnDownNIdeal.Frame
public import proofs.«01_k».proof.Proof.Gen.FfnDownNIdeal.Value
public import proofs.«01_k».proof.Proof.Gen.FfnDownNRefIdeal
public import proofs.«01_k».proof.Proof.Gen.FfnDownNRefIdeal.Run
public import proofs.«01_k».proof.Proof.Gen.FfnDownNRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnUpS
public import proofs.«01_k».proof.Proof.Gen.FfnUpS.Skeleton
public import proofs.«01_k».proof.Proof.Gen.FfnUpS.Launch
public import proofs.«01_k».proof.Proof.Gen.FfnUpS.Points
public import proofs.«01_k».proof.Proof.Gen.FfnUpS.Frame
public import proofs.«01_k».proof.Proof.Gen.FfnUpSIdeal
public import proofs.«01_k».proof.Proof.Gen.FfnUpSIdeal.Skeleton
public import proofs.«01_k».proof.Proof.Gen.FfnUpSIdeal.Launch
public import proofs.«01_k».proof.Proof.Gen.FfnUpSIdeal.Points
public import proofs.«01_k».proof.Proof.Gen.FfnUpSIdeal.Frame
public import proofs.«01_k».proof.Proof.Gen.FfnUpSRefIdeal
public import proofs.«01_k».proof.Proof.Gen.FfnUpSRefIdeal.Run
public import proofs.«01_k».proof.Proof.Gen.FfnUpSRefIdeal.Read
public import proofs.«01_k».proof.Proof.Gen.KvRows
public import proofs.«01_k».proof.Proof.Gen.KvRows.Skeleton
public import proofs.«01_k».proof.Proof.Gen.KvRows.Launch
public import proofs.«01_k».proof.Proof.Gen.KvRows.Points
public import proofs.«01_k».proof.Proof.Gen.KvRows.Frame
public import proofs.«01_k».proof.Proof.Gen.KvRowsIdeal
public import proofs.«01_k».proof.Proof.Gen.KvRowsIdeal.Skeleton
public import proofs.«01_k».proof.Proof.Gen.KvRowsIdeal.Launch
public import proofs.«01_k».proof.Proof.Gen.KvRowsIdeal.Points
public import proofs.«01_k».proof.Proof.Gen.KvRowsIdeal.Frame
public import proofs.«01_k».proof.Proof.Gen.KvRowsIdeal.Value
public import proofs.«01_k».proof.Proof.Gen.KvRowsRefIdeal
public import proofs.«01_k».proof.Proof.Gen.KvRowsRefIdeal.Run
public import proofs.«01_k».proof.Proof.Gen.KvRowsRefIdeal.Read
public import proofs.«01_k».proof.Proof.Win.Claims
public import proofs.«01_k».proof.Proof.Rows.In
public import proofs.«01_k».proof.Proof.Rows.Step
public import proofs.«01_k».proof.Proof.Rows.Q
public import proofs.«01_k».proof.Proof.Down.Out
public import proofs.«01_k».proof.Proof.Down.Ffn
public import proofs.«01_k».proof.Proof.Down.Last
public import proofs.«01_k».proof.Proof.Up.Claims
public import proofs.«01_k».proof.Proof.Rows.Kv
public import proofs.«01_k».proof.Proof.Rows.StepUp
public import Idealize.ShloMosaic.Adequacy
public import Idealize.ShloMosaic.Init

@[expose] public section

noncomputable section

namespace Cert.Proof

open Idealize.ShloMosaic Idealize.SL.Sem Cert.Win

/-- Every claim: the three frames of each call, then its two sides' agreement. -/
theorem claim : Cert.Claim := ⟨
  Cert.Win.Gen.facts, Cert.WinIdeal.Gen.facts, Cert.WinRefIdeal.Gen.facts,
  Cert.GdnIn.Gen.facts, Cert.GdnInIdeal.Gen.facts, Cert.GdnInRefIdeal.Gen.facts,
  Cert.GdnInS.Gen.facts, Cert.GdnInSIdeal.Gen.facts, Cert.GdnInSRefIdeal.Gen.facts,
  Cert.NsaQ.Gen.facts, Cert.NsaQIdeal.Gen.facts, Cert.NsaQRefIdeal.Gen.facts,
  Cert.OutProj.Gen.facts, Cert.OutProjIdeal.Gen.facts, Cert.OutProjRefIdeal.Gen.facts,
  Cert.FfnDown.Gen.facts, Cert.FfnDownIdeal.Gen.facts, Cert.FfnDownRefIdeal.Gen.facts,
  Cert.FfnDownN.Gen.facts, Cert.FfnDownNIdeal.Gen.facts, Cert.FfnDownNRefIdeal.Gen.facts,
  Cert.FfnUp.Gen.facts, Cert.FfnUpIdeal.Gen.facts, Cert.FfnUpRefIdeal.Gen.facts,
  Cert.FfnUpS.Gen.facts, Cert.FfnUpSIdeal.Gen.facts, Cert.FfnUpSRefIdeal.Gen.facts,
  Cert.KvRows.Gen.facts, Cert.KvRowsIdeal.Gen.facts, Cert.KvRowsRefIdeal.Gen.facts,
  Win.frame_win, Win.frame_ideal, Win.frame_ref,
  Rows.In.frame_in, Rows.In.frame_ideal, Rows.In.frame_ref,
  Rows.Step.frame_step, Rows.Step.frame_ideal, Rows.Step.frame_ref,
  Rows.Q.frame_q, Rows.Q.frame_ideal, Rows.Q.frame_ref,
  Down.Out.frame_out, Down.Out.frame_ideal, Down.Out.frame_ref,
  Down.Ffn.frame_ffn, Down.Ffn.frame_ideal, Down.Ffn.frame_ref,
  Down.Last.frame_last, Down.Last.frame_ideal, Down.Last.frame_ref,
  Up.frame_up, Up.frame_ideal, Up.frame_ref,
  Rows.UpS.frame_ups, Rows.UpS.frame_ideal, Rows.UpS.frame_ref,
  Rows.Kv.frame_kv, Rows.Kv.frame_ideal, Rows.Kv.frame_ref,
  Win.rewrites, Win.value,
  trivial, Rows.In.value,
  trivial, Rows.Step.value,
  trivial, Rows.Q.value,
  trivial, Down.Out.value,
  trivial, Down.Ffn.value,
  trivial, Down.Last.value,
  trivial, Up.value,
  trivial, Rows.UpS.value,
  trivial, Rows.Kv.value⟩

end Cert.Proof

end
